-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192x1024 .f32) (main_arg3 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S8192x2048 : Shape := ⟨2, ![8192, 2048]⟩
abbrev S8192x1024 : Shape := ⟨2, ![8192, 1024]⟩
abbrev S36 : Shape := ⟨1, ![36]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x1 : Shape := ⟨3, ![8192, 8, 1]⟩
abbrev S1024x256 : Shape := ⟨2, ![1024, 256]⟩
abbrev S1 : Shape := ⟨1, ![1]⟩
abbrev S1024x128 : Shape := ⟨2, ![1024, 128]⟩
abbrev S8192x256 : Shape := ⟨2, ![8192, 256]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S512x256 : Shape := ⟨2, ![512, 256]⟩
abbrev S512x128 : Shape := ⟨2, ![512, 128]⟩
abbrev S256x512 : Shape := ⟨2, ![256, 512]⟩
abbrev S768x256 : Shape := ⟨2, ![768, 256]⟩
abbrev S768x128 : Shape := ⟨2, ![768, 128]⟩
abbrev S256x768 : Shape := ⟨2, ![256, 768]⟩
abbrev S256x1024 : Shape := ⟨2, ![256, 1024]⟩
abbrev S512x1024 : Shape := ⟨2, ![512, 1024]⟩
abbrev S512x1 : Shape := ⟨2, ![512, 1]⟩
abbrev S512 : Shape := ⟨1, ![512]⟩

abbrev nBuf : Space → Nat
  | .hbm => 58
  | .vmem => 20
  | .smem => 2
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x8x256, .f32⟩
  | .hbm, ⟨5, _⟩ => ⟨S8192x8x256, .f32⟩
  | .hbm, ⟨6, _⟩ => ⟨S8192x8x128, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x128x8192, .f32⟩
  | .hbm, ⟨31, _⟩ => ⟨S8192x8x128, .f32⟩
  | .hbm, ⟨32, _⟩ => ⟨S8x8192x1, .f32⟩
  | .hbm, ⟨33, _⟩ => ⟨S8x8192x1, .f32⟩
  | .hbm, ⟨34, _⟩ => ⟨S8x8192, .f32⟩
  | .hbm, ⟨35, _⟩ => ⟨S_, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S8192x8, .f32⟩
  | .hbm, ⟨40, _⟩ => ⟨S8192x8x1, .f32⟩
  | .hbm, ⟨41, _⟩ => ⟨S8192x8x128, .f32⟩
  | .hbm, ⟨42, _⟩ => ⟨S8192x8x128, .f32⟩
  | .hbm, ⟨43, _⟩ => ⟨S_, .i32⟩
  | .hbm, ⟨44, _⟩ => ⟨S_, .f32⟩
  | .hbm, ⟨45, _⟩ => ⟨S8192x8x256, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S8192x2048, .bf16⟩
  | .hbm, ⟨50, _⟩ => ⟨S8192x2048, .f32⟩
  | .hbm, ⟨51, _⟩ => ⟨S8192x2048, .bf16⟩
  | .hbm, ⟨52, _⟩ => ⟨S8192x1024, .bf16⟩
  | .hbm, ⟨53, _⟩ => ⟨S8192x1024, .f32⟩
  | .hbm, ⟨54, _⟩ => ⟨S8192x1024, .f32⟩
  | .hbm, ⟨55, _⟩ => ⟨S8192x2048, .f32⟩
  | .hbm, ⟨56, _⟩ => ⟨S8192x2048, .f32⟩
  | .hbm, ⟨57, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | .local _ .smem, ⟨0, _⟩ => ⟨S36, .i32⟩
  | .local _ .smem, ⟨1, _⟩ => ⟨S36, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42_0 : Ref sig .tc := ⟨.hbm, 55, rfl⟩
abbrev main_v42_1 : Ref sig .tc := ⟨.hbm, 56, rfl⟩
abbrev main_v42_2 : Ref sig .tc := ⟨.hbm, 57, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c1024_i32 : BitVec 32 := 1024#32
  let v20 : BitVec 32 := Scalar.muli v3 c1024_i32
  v20
def k0_cond2 (v1 : BitVec 32) : BitVec 1 :=
  let c0_i32_0 : BitVec 32 := 0#32
  let v7 : BitVec 1 := Scalar.cmpi .eq v1 c0_i32_0
  let v8 : BitVec 32 := Scalar.extui v7
  let c0_i32_1 : BitVec 32 := 0#32
  let v9 : BitVec 1 := Scalar.cmpi .ne v8 c0_i32_1
  v9

def k0_off2 (v3 : BitVec 32) : Fin 2 → Nat :=
  let c1024_i32 : BitVec 32 := 1024#32
  let v20 : BitVec 32 := Scalar.muli v3 c1024_i32
  let v21 : BitVec 32 := v20
  let v22 : Index := Scalar.indexCast v21
  let c0 : Index := 0#32
  ![v22.toNat, 0]
def k0_mult2 (v3 : BitVec 32) : BitVec 32 :=
  let c1024_i32 : BitVec 32 := 1024#32
  let v54 : BitVec 32 := Scalar.muli v3 c1024_i32
  let c0_i32_22 : BitVec 32 := 0#32
  let v55 : BitVec 32 := Scalar.addi v54 c0_i32_22
  v55
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def k0_off3 (v3 : BitVec 32) (c0_i32_22 : BitVec 32) : Fin 2 → Nat :=
  let c1024_i32 : BitVec 32 := 1024#32
  let v54 : BitVec 32 := Scalar.muli v3 c1024_i32
  let v55 : BitVec 32 := Scalar.addi v54 c0_i32_22
  let v56 : BitVec 32 := v55
  let v57 : Index := Scalar.indexCast v56
  let c0_23 : Index := 0#32
  ![v57.toNat, 0]
def k0_mult3 (v3 : BitVec 32) : BitVec 32 :=
  let c1024_i32_51 : BitVec 32 := 1024#32
  let v109 : BitVec 32 := Scalar.muli v3 c1024_i32_51
  let c256_i32_52 : BitVec 32 := 256#32
  let v110 : BitVec 32 := Scalar.addi v109 c256_i32_52
  v110
def k0_mult4 (v3 : BitVec 32) : BitVec 32 :=
  let c1024_i32_81 : BitVec 32 := 1024#32
  let v164 : BitVec 32 := Scalar.muli v3 c1024_i32_81
  let c512_i32_82 : BitVec 32 := 512#32
  let v165 : BitVec 32 := Scalar.addi v164 c512_i32_82
  v165
def k0_mult5 (v3 : BitVec 32) : BitVec 32 :=
  let c1024_i32_111 : BitVec 32 := 1024#32
  let v219 : BitVec 32 := Scalar.muli v3 c1024_i32_111
  let c768_i32_112 : BitVec 32 := 768#32
  let v220 : BitVec 32 := Scalar.addi v219 c768_i32_112
  v220
def k0_mult6 (v3 : BitVec 32) : BitVec 32 :=
  let c1024_i32 : BitVec 32 := 1024#32
  let v47 : BitVec 32 := Scalar.muli v3 c1024_i32
  let c0_i32_20 : BitVec 32 := 0#32
  let v48 : BitVec 32 := Scalar.addi v47 c0_i32_20
  v48
def k0_cond4 (v1 : BitVec 32) (v3 : BitVec 32) : BitVec 1 :=
  let v13 : BitVec 1 := Scalar.cmpi .sgt v3 v1
  let v14 : BitVec 32 := Scalar.extui v13
  let c0_i32_3 : BitVec 32 := 0#32
  let v15 : BitVec 1 := Scalar.cmpi .ne v14 c0_i32_3
  v15

def k0_off4 (v3 : BitVec 32) (c0_i32_20 : BitVec 32) : Fin 2 → Nat :=
  let c1024_i32 : BitVec 32 := 1024#32
  let v47 : BitVec 32 := Scalar.muli v3 c1024_i32
  let v48 : BitVec 32 := Scalar.addi v47 c0_i32_20
  let v49 : BitVec 32 := v48
  let v50 : Index := Scalar.indexCast v49
  let c0_21 : Index := 0#32
  ![v50.toNat, 0]
def k0_mult7 (v3 : BitVec 32) : BitVec 32 :=
  let c1024_i32_40 : BitVec 32 := 1024#32
  let v85 : BitVec 32 := Scalar.muli v3 c1024_i32_40
  let c512_i32 : BitVec 32 := 512#32
  let v86 : BitVec 32 := Scalar.addi v85 c512_i32
  v86

def k0_chk1 (v1 : BitVec 32) (v3 : BitVec 32) : Prop :=
  (∀ (k0_h2 : k0_cond2 v1 = 1#1), 1024 ∣ (k0_mult1 v3).toNat) ∧
  (∀ (k0_h2 : k0_cond2 v1 = 1#1), ∀ a, (k0_off2 v3) a + S1024x256.size a ≤ S8192x256.size a) ∧
  (∀ (k0_h3 : k0_cond3 v1 v3 = 1#1), 256 ∣ (k0_mult2 v3).toNat) ∧
  (∀ (k0_h3 : k0_cond3 v1 v3 = 1#1), ∀ (r : Fin 4), ∀ a, (k0_off3 v3 (BitVec.ofNat 32 (256 * r.val))) a + S256x256.size a ≤ S8192x256.size a) ∧
  (∀ (k0_h3 : k0_cond3 v1 v3 = 1#1), 256 ∣ (k0_mult3 v3).toNat) ∧
  (∀ (k0_h3 : k0_cond3 v1 v3 = 1#1), 256 ∣ (k0_mult4 v3).toNat) ∧
  (∀ (k0_h3 : k0_cond3 v1 v3 = 1#1), 256 ∣ (k0_mult5 v3).toNat) ∧
  (∀ (k0_h4 : k0_cond4 v1 v3 = 1#1), 512 ∣ (k0_mult6 v3).toNat) ∧
  (∀ (k0_h4 : k0_cond4 v1 v3 = 1#1), ∀ (r : Fin 2), ∀ a, (k0_off4 v3 (BitVec.ofNat 32 (512 * r.val))) a + S512x256.size a ≤ S8192x256.size a) ∧
  (∀ (k0_h4 : k0_cond4 v1 v3 = 1#1), 512 ∣ (k0_mult7 v3).toNat)
theorem k0_mult1_dvd : ∀ (v1 : BitVec 32) (v3 : BitVec 32) (k0_hw1 : k0_chk1 v1 v3), ∀ (k0_h2 : k0_cond2 v1 = 1#1), 1024 ∣ (k0_mult1 v3).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 = 1#1), ∀ a, (k0_off2 v3) a + S1024x256.size a ≤ S8192x256.size a := fun v1 v3 k0_hw1 k0_h2 => k0_hw1.2.1 k0_h2
theorem k0_mult2_dvd : ∀ (v1 : BitVec 32) (v3 : BitVec 32) (k0_hw1 : k0_chk1 v1 v3), ∀ (k0_h3 : k0_cond3 v1 v3 = 1#1), 256 ∣ (k0_mult2 v3).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ (r : Fin 4), ∀ a, (k0_off3 v3 (BitVec.ofNat 32 (256 * r.val))) a + S256x256.size a ≤ S8192x256.size a := fun v1 v3 k0_hw1 k0_h3 r => k0_hw1.2.2.2.1 k0_h3 r
theorem k0_mult3_dvd : ∀ (v1 : BitVec 32) (v3 : BitVec 32) (k0_hw1 : k0_chk1 v1 v3), ∀ (k0_h3 : k0_cond3 v1 v3 = 1#1), 256 ∣ (k0_mult3 v3).toNat := fun v1 v3 k0_hw1 k0_h3 => k0_hw1.2.2.2.2.1 k0_h3
theorem k0_mult4_dvd : ∀ (v1 : BitVec 32) (v3 : BitVec 32) (k0_hw1 : k0_chk1 v1 v3), ∀ (k0_h3 : k0_cond3 v1 v3 = 1#1), 256 ∣ (k0_mult4 v3).toNat := fun v1 v3 k0_hw1 k0_h3 => k0_hw1.2.2.2.2.2.1 k0_h3
theorem k0_mult5_dvd : ∀ (v1 : BitVec 32) (v3 : BitVec 32) (k0_hw1 : k0_chk1 v1 v3), ∀ (k0_h3 : k0_cond3 v1 v3 = 1#1), 256 ∣ (k0_mult5 v3).toNat := fun v1 v3 k0_hw1 k0_h3 => k0_hw1.2.2.2.2.2.2.1 k0_h3
theorem k0_mult6_dvd : ∀ (v1 : BitVec 32) (v3 : BitVec 32) (k0_hw1 : k0_chk1 v1 v3), ∀ (k0_h4 : k0_cond4 v1 v3 = 1#1), 512 ∣ (k0_mult6 v3).toNat := fun v1 v3 k0_hw1 k0_h4 => k0_hw1.2.2.2.2.2.2.2.1 k0_h4
theorem k0_off4_inb : ∀ (v1 : BitVec 32) (v3 : BitVec 32) (k0_hw1 : k0_chk1 v1 v3), ∀ (k0_h4 : k0_cond4 v1 v3 = 1#1), ∀ (r : Fin 2), ∀ a, (k0_off4 v3 (BitVec.ofNat 32 (512 * r.val))) a + S512x256.size a ≤ S8192x256.size a := fun v1 v3 k0_hw1 k0_h4 r => k0_hw1.2.2.2.2.2.2.2.2.1 k0_h4 r
theorem k0_mult7_dvd : ∀ (v1 : BitVec 32) (v3 : BitVec 32) (k0_hw1 : k0_chk1 v1 v3), ∀ (k0_h4 : k0_cond4 v1 v3 = 1#1), 512 ∣ (k0_mult7 v3).toNat := fun v1 v3 k0_hw1 k0_h4 => k0_hw1.2.2.2.2.2.2.2.2.2 k0_h4

def k0_cond5 (v3 : BitVec 32) : BitVec 1 :=
  let c7_i32 : BitVec 32 := 7#32
  let v16 : BitVec 1 := Scalar.cmpi .eq v3 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x2048 : Shape := ⟨2, ![8192, 2048]⟩
abbrev S8192x1024 : Shape := ⟨2, ![8192, 1024]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x256 : Shape := ⟨3, ![8, 8192, 256]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x8x256, .f32⟩
  | .hbm, ⟨5, _⟩ => ⟨S8192x8x256, .f32⟩
  | .hbm, ⟨6, _⟩ => ⟨S8192x8x128, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x128x8192, .f32⟩
  | .hbm, ⟨60, _⟩ => ⟨S8192x8x128, .f32⟩
  | .hbm, ⟨61, _⟩ => ⟨S8192x1024, .f32⟩
  | .hbm, ⟨62, _⟩ => ⟨S8192x8x128, .f32⟩
  | .hbm, ⟨63, _⟩ => ⟨S8x128x8192, .f32⟩
  | .hbm, ⟨64, _⟩ => ⟨S8x8192x8192, .f32⟩
  | .hbm, ⟨65, _⟩ => ⟨S8x128x8192, .f32⟩
  | .hbm, ⟨66, _⟩ => ⟨S8192x8x128, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S8x8192x256, .f32⟩
  | .hbm, ⟨85, _⟩ => ⟨S8192x8x256, .f32⟩
  | .hbm, ⟨86, _⟩ => ⟨S8x8192x256, .f32⟩
  | .hbm, ⟨87, _⟩ => ⟨S8192x8x256, .f32⟩
  | .hbm, ⟨88, _⟩ => ⟨S8192x1024, .f32⟩
  | .hbm, ⟨89, _⟩ => ⟨S8192x2048, .f32⟩
  | .hbm, ⟨90, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_v10_1 : Ref sig .tc := ⟨.hbm, 16, rfl⟩
abbrev main_call0_v2 : Ref sig .tc := ⟨.hbm, 17, rfl⟩
abbrev main_v10_0 : Ref sig .tc := ⟨.hbm, 18, rfl⟩
abbrev main_call0_cst : Ref sig .tc := ⟨.hbm, 19, rfl⟩
abbrev main_v10_2 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference4Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel5.lean ====
abbrev S8x1024x1024 : Shape := ⟨3, ![8, 1024, 1024]⟩
abbrev S1024x984 : Shape := ⟨2, ![1024, 984]⟩
abbrev S8x256x1024 : Shape := ⟨3, ![8, 256, 1024]⟩
abbrev S256x984 : Shape := ⟨2, ![256, 984]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S1024x984, .f32⟩
  | .hbm, ⟨3, _⟩ => ⟨S1024x984, .f32⟩
  | .hbm, ⟨4, _⟩ => ⟨S1024x984, .f32⟩
  | .hbm, ⟨5, _⟩ => ⟨S1024x984, .f32⟩
  | .hbm, ⟨6, _⟩ => ⟨S1024x984, .f32⟩
  | .hbm, ⟨7, _⟩ => ⟨S1024x984, .f32⟩
  | .hbm, ⟨8, _⟩ => ⟨S1024x984, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S256x984, .f32⟩
  | .local _ .vmem, ⟨5, _⟩ => ⟨S256x984, .f32⟩
  | .local _ .vmem, ⟨6, _⟩ => ⟨S256x984, .f32⟩
  | .local _ .vmem, ⟨7, _⟩ => ⟨S256x984, .f32⟩
  | .local _ .vmem, ⟨8, _⟩ => ⟨S256x984, .f32⟩
  | .local _ .vmem, ⟨9, _⟩ => ⟨S256x984, .f32⟩
  | .local _ .vmem, ⟨10, _⟩ => ⟨S256x984, .f32⟩
  | .local _ .vmem, ⟨11, _⟩ => ⟨S256x984, .f32⟩
  | .local _ .vmem, ⟨12, _⟩ => ⟨S256x984, .f32⟩
  | .local _ .vmem, ⟨13, _⟩ => ⟨S256x984, .f32⟩
  | .local _ .vmem, ⟨14, _⟩ => ⟨S256x984, .f32⟩
  | .local _ .vmem, ⟨15, _⟩ => ⟨S256x984, .f32⟩
  | .local _ .vmem, ⟨16, _⟩ => ⟨S256x984, .f32⟩
  | .local _ .vmem, ⟨17, _⟩ => ⟨S256x984, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x984 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x984 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x984 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x984 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x984 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x984 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x984 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x1024x1024 : Shape := ⟨3, ![8, 1024, 1024]⟩
abbrev S1024x984 : Shape := ⟨2, ![1024, 984]⟩
abbrev S_ : Shape := ⟨0, ![]⟩
abbrev S1024x1024 : Shape := ⟨2, ![1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S1024x984, .f32⟩
  | .hbm, ⟨3, _⟩ => ⟨S1024x984, .f32⟩
  | .hbm, ⟨4, _⟩ => ⟨S1024x984, .f32⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S8x1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x984, .f32⟩
  | .hbm, ⟨13, _⟩ => ⟨S_, .f32⟩
  | .hbm, ⟨14, _⟩ => ⟨S1024x984, .f32⟩
  | .hbm, ⟨15, _⟩ => ⟨S1024x984, .f32⟩
  | .hbm, ⟨16, _⟩ => ⟨S_, .f32⟩
  | .hbm, ⟨17, _⟩ => ⟨S1024x984, .f32⟩
  | .hbm, ⟨18, _⟩ => ⟨S1024x984, .f32⟩
  | .hbm, ⟨19, _⟩ => ⟨S1024x984, .f32⟩
  | .hbm, ⟨20, _⟩ => ⟨S_, .f32⟩
  | .hbm, ⟨21, _⟩ => ⟨S1024x984, .f32⟩
  | .hbm, ⟨22, _⟩ => ⟨S1024x984, .f32⟩
  | .hbm, ⟨23, _⟩ => ⟨S1024x984, .f32⟩
  | .hbm, ⟨24, _⟩ => ⟨S_, .f32⟩
  | .hbm, ⟨25, _⟩ => ⟨S1024x984, .f32⟩
  | .hbm, ⟨26, _⟩ => ⟨S1024x984, .f32⟩
  | .hbm, ⟨27, _⟩ => ⟨S1024x984, .f32⟩
  | .hbm, ⟨28, _⟩ => ⟨S_, .f32⟩
  | .hbm, ⟨29, _⟩ => ⟨S1024x984, .f32⟩
  | .hbm, ⟨30, _⟩ => ⟨S1024x984, .f32⟩
  | .hbm, ⟨31, _⟩ => ⟨S_, .f32⟩
  | .hbm, ⟨32, _⟩ => ⟨S1024x984, .f32⟩
  | .hbm, ⟨33, _⟩ => ⟨S1024x984, .f32⟩
  | .hbm, ⟨34, _⟩ => ⟨S1024x984, .f32⟩
  | .hbm, ⟨35, _⟩ => ⟨S_, .f32⟩
  | .hbm, ⟨36, _⟩ => ⟨S1024x984, .f32⟩
  | .hbm, ⟨37, _⟩ => ⟨S1024x984, .f32⟩
  | .hbm, ⟨38, _⟩ => ⟨S1024x984, .f32⟩
  | .hbm, ⟨39, _⟩ => ⟨S_, .f32⟩
  | .hbm, ⟨40, _⟩ => ⟨S1024x984, .f32⟩
  | .hbm, ⟨41, _⟩ => ⟨S1024x984, .f32⟩
  | .hbm, ⟨42, _⟩ => ⟨S1024x984, .f32⟩
  | .hbm, ⟨43, _⟩ => ⟨S_, .f32⟩
  | .hbm, ⟨44, _⟩ => ⟨S1024x984, .f32⟩
  | .hbm, ⟨45, _⟩ => ⟨S1024x984, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel6.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel7.lean ====
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel8.lean ====
abbrev S8192x1024 : Shape := ⟨2, ![8192, 1024]⟩
abbrev S1024x8192 : Shape := ⟨2, ![1024, 8192]⟩
abbrev S1x1024 : Shape := ⟨2, ![1, 1024]⟩
abbrev S8x1024 : Shape := ⟨2, ![8, 1024]⟩
abbrev S256x1024 : Shape := ⟨2, ![256, 1024]⟩
abbrev S256x8192 : Shape := ⟨2, ![256, 8192]⟩
abbrev S256 : Shape := ⟨1, ![256]⟩
abbrev S256x1 : Shape := ⟨2, ![256, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S1024x8192, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x8192, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | .local _ .vmem, ⟨25, _⟩ => ⟨S256x8192, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S8192x1024 : Shape := ⟨2, ![8192, 1024]⟩
abbrev S1024x8192 : Shape := ⟨2, ![1024, 8192]⟩
abbrev S1x1024 : Shape := ⟨2, ![1, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S1024x8192, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x8192, .bf16⟩
  | .hbm, ⟨13, _⟩ => ⟨S8192x8192, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024x8192, .f32⟩
  | .hbm, ⟨34, _⟩ => ⟨S8192x8192, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Launch
public import Idealize.ShloMosaic.Lib.VecWindow

@[expose] public section

/-!
# What one grid point does to its blocks

The kernel's body at a grid point reads a block of `q`, `k`, `v`, the cotangent, the saved output and
the saved log-sum-exp, and adds to the rows `1024·β …` of the gradient of `q` and to the two
accumulators of the gradients of `k` and `v`. Here these are written as functions of the blocks: one
set for a point on the diagonal (four groups of 256 rows against the keys up to the group's end) and
one for a point below the diagonal (two groups of 512 rows against all 1024 keys).
-/

set_option maxRecDepth 16384

noncomputable section

namespace Cert.KernelIdeal.Gen

open Idealize.ShloMosaic Idealize.ShloMosaic.TcCoe
open Idealize.ShloMosaic.VecWindow

variable {F : FTy → Type} [FloatOps F] [Named F]

/-- Where row `r` of the `β`-th block of 1024 rows begins in the gradient of `q`. -/
def rowOff (β : Fin 8) (r : ℕ) : Fin 2 → ℕ := ![1024 * β.val + r, 0]

/-- A window of `n ≤ 1024 - r` rows at `rowOff β r` lies inside the 8192 rows. -/
theorem rowOff_inb (β : Fin 8) (r n : ℕ) (h : r + n ≤ 1024) : ∀ a : Fin 2, rowOff β r a + (![n, 256] : Fin 2 → ℕ) a ≤ S8192x256.size a := by
  intro a
  have := β.isLt
  fin_cases a
  · show 1024 * β.val + r + n ≤ 8192
    omega
  · show 0 + 256 ≤ 256
    omega

/-- The rows `r …` of the `β`-th block of the gradient of `q`, 256 of them. -/
def rows256 (β : Fin 8) (r : ℕ) (h : r + 256 ≤ 1024) (X : Vec F S8192x256 .f32) : Vec F S256x256 .f32 :=
  window X (rowOff β r) S256x256.size (rowOff_inb β r 256 h)

/-- The rows `r …` of the `β`-th block of the gradient of `q`, 512 of them. -/
def rows512 (β : Fin 8) (r : ℕ) (h : r + 512 ≤ 1024) (X : Vec F S8192x256 .f32) : Vec F S512x256 .f32 :=
  window X (rowOff β r) S512x256.size (rowOff_inb β r 512 h)

section Diag

variable (x4 x5 x6 : Vec F S1024x256 .bf16) (x7 : Vec F S1024x128 .bf16) (x8 x9 : Vec F S1024x128 .f32)

/-- The rows 0–255 of a diagonal point's gradient of `q`, from the rows before it. -/
def dgQ0 (old : Vec F S256x256 .f32) : Vec F S256x256 .f32 :=
  k0_pay14 (k0_pay7 (window x5 ![0, 0] S256x256.size inb_S1024x256_S256x256_0_0)) (k0_pay12 (window x5 ![0, 0] S256x256.size inb_S1024x256_S256x256_0_0) (window x6 ![0, 0] S256x128.size inb_S1024x256_S256x128_0_0) (window x4 ![0, 0] S256x256.size inb_S1024x256_S256x256_0_0) (window x9 ![0, 0] S256x1.size inb_S1024x128_S256x1_0_0) (window x7 ![0, 0] S256x128.size inb_S1024x128_S256x128_0_0) (window x8 ![0, 0] S256x128.size inb_S1024x128_S256x128_0_0)) old

/-- The first 256 rows of the gradient of `k` after the rows 0–255 of a diagonal point. -/
def dgK0 (old : Vec F S256x256 .f32) : Vec F S256x256 .f32 :=
  k0_pay15 (k0_pay13 (window x5 ![0, 0] S256x256.size inb_S1024x256_S256x256_0_0) (window x6 ![0, 0] S256x128.size inb_S1024x256_S256x128_0_0) (window x4 ![0, 0] S256x256.size inb_S1024x256_S256x256_0_0) (window x9 ![0, 0] S256x1.size inb_S1024x128_S256x1_0_0) (window x7 ![0, 0] S256x128.size inb_S1024x128_S256x128_0_0) (window x8 ![0, 0] S256x128.size inb_S1024x128_S256x128_0_0)) old

/-- The first 256 rows of the gradient of `v` after the rows 0–255 of a diagonal point. -/
def dgV0 (old : Vec F S256x128 .f32) : Vec F S256x128 .f32 :=
  k0_pay16 (k0_pay11 (window x5 ![0, 0] S256x256.size inb_S1024x256_S256x256_0_0) (window x4 ![0, 0] S256x256.size inb_S1024x256_S256x256_0_0) (window x9 ![0, 0] S256x1.size inb_S1024x128_S256x1_0_0) (window x7 ![0, 0] S256x128.size inb_S1024x128_S256x128_0_0)) old

/-- The rows 256–511 of a diagonal point's gradient of `q`, from the rows before it. -/
def dgQ1 (old : Vec F S256x256 .f32) : Vec F S256x256 .f32 :=
  k0_pay23 (k0_pay17 (window x5 ![0, 0] S512x256.size inb_S1024x256_S512x256_0_0)) (k0_pay18 (window x6 ![0, 0] S512x128.size inb_S1024x256_S512x128_0_0)) (k0_pay20 (window x5 ![0, 0] S512x256.size inb_S1024x256_S512x256_0_0) (window x4 ![256, 0] S256x256.size inb_S1024x256_S256x256_256_0) (window x9 ![256, 0] S256x1.size inb_S1024x128_S256x1_256_0)) (window x7 ![256, 0] S256x128.size inb_S1024x128_S256x128_256_0) (window x8 ![256, 0] S256x128.size inb_S1024x128_S256x128_256_0) old

/-- The first 512 rows of the gradient of `k` after the rows 256–511 of a diagonal point. -/
def dgK1 (old : Vec F S512x256 .f32) : Vec F S512x256 .f32 :=
  k0_pay24 (k0_pay18 (window x6 ![0, 0] S512x128.size inb_S1024x256_S512x128_0_0)) (k0_pay19 (window x4 ![256, 0] S256x256.size inb_S1024x256_S256x256_256_0)) (k0_pay20 (window x5 ![0, 0] S512x256.size inb_S1024x256_S512x256_0_0) (window x4 ![256, 0] S256x256.size inb_S1024x256_S256x256_256_0) (window x9 ![256, 0] S256x1.size inb_S1024x128_S256x1_256_0)) (window x7 ![256, 0] S256x128.size inb_S1024x128_S256x128_256_0) (window x8 ![256, 0] S256x128.size inb_S1024x128_S256x128_256_0) old

/-- The first 512 rows of the gradient of `v` after the rows 256–511 of a diagonal point. -/
def dgV1 (old : Vec F S512x128 .f32) : Vec F S512x128 .f32 :=
  k0_pay25 (k0_pay20 (window x5 ![0, 0] S512x256.size inb_S1024x256_S512x256_0_0) (window x4 ![256, 0] S256x256.size inb_S1024x256_S256x256_256_0) (window x9 ![256, 0] S256x1.size inb_S1024x128_S256x1_256_0)) (window x7 ![256, 0] S256x128.size inb_S1024x128_S256x128_256_0) old

/-- The rows 512–767 of a diagonal point's gradient of `q`, from the rows before it. -/
def dgQ2 (old : Vec F S256x256 .f32) : Vec F S256x256 .f32 :=
  k0_pay33 (k0_pay26 (window x5 ![0, 0] S768x256.size inb_S1024x256_S768x256_0_0)) (k0_pay31 (window x5 ![0, 0] S768x256.size inb_S1024x256_S768x256_0_0) (window x6 ![0, 0] S768x128.size inb_S1024x256_S768x128_0_0) (window x4 ![512, 0] S256x256.size inb_S1024x256_S256x256_512_0) (window x9 ![512, 0] S256x1.size inb_S1024x128_S256x1_512_0) (window x7 ![512, 0] S256x128.size inb_S1024x128_S256x128_512_0) (window x8 ![512, 0] S256x128.size inb_S1024x128_S256x128_512_0)) old

/-- The first 768 rows of the gradient of `k` after the rows 512–767 of a diagonal point. -/
def dgK2 (old : Vec F S768x256 .f32) : Vec F S768x256 .f32 :=
  k0_pay34 (k0_pay32 (window x5 ![0, 0] S768x256.size inb_S1024x256_S768x256_0_0) (window x6 ![0, 0] S768x128.size inb_S1024x256_S768x128_0_0) (window x4 ![512, 0] S256x256.size inb_S1024x256_S256x256_512_0) (window x9 ![512, 0] S256x1.size inb_S1024x128_S256x1_512_0) (window x7 ![512, 0] S256x128.size inb_S1024x128_S256x128_512_0) (window x8 ![512, 0] S256x128.size inb_S1024x128_S256x128_512_0)) old

/-- The first 768 rows of the gradient of `v` after the rows 512–767 of a diagonal point. -/
def dgV2 (old : Vec F S768x128 .f32) : Vec F S768x128 .f32 :=
  k0_pay35 (k0_pay30 (window x5 ![0, 0] S768x256.size inb_S1024x256_S768x256_0_0) (window x4 ![512, 0] S256x256.size inb_S1024x256_S256x256_512_0) (window x9 ![512, 0] S256x1.size inb_S1024x128_S256x1_512_0) (window x7 ![512, 0] S256x128.size inb_S1024x128_S256x128_512_0)) old

/-- The rows 768–1023 of a diagonal point's gradient of `q`, from the rows before it. -/
def dgQ3 (old : Vec F S256x256 .f32) : Vec F S256x256 .f32 :=
  k0_pay42 (k0_pay36 (window x5 ![0, 0] S1024x256.size inb_S1024x256_S1024x256_0_0)) (k0_pay37 (window x6 ![0, 0] S1024x128.size inb_S1024x256_S1024x128_0_0)) (k0_pay39 (window x5 ![0, 0] S1024x256.size inb_S1024x256_S1024x256_0_0) (window x4 ![768, 0] S256x256.size inb_S1024x256_S256x256_768_0) (window x9 ![768, 0] S256x1.size inb_S1024x128_S256x1_768_0)) (window x7 ![768, 0] S256x128.size inb_S1024x128_S256x128_768_0) (window x8 ![768, 0] S256x128.size inb_S1024x128_S256x128_768_0) old

/-- All 1024 rows of the gradient of `k` after the rows 768–1023 of a diagonal point. -/
def dgK3 (old : Vec F S1024x256 .f32) : Vec F S1024x256 .f32 :=
  k0_pay43 (k0_pay37 (window x6 ![0, 0] S1024x128.size inb_S1024x256_S1024x128_0_0)) (k0_pay38 (window x4 ![768, 0] S256x256.size inb_S1024x256_S256x256_768_0)) (k0_pay39 (window x5 ![0, 0] S1024x256.size inb_S1024x256_S1024x256_0_0) (window x4 ![768, 0] S256x256.size inb_S1024x256_S256x256_768_0) (window x9 ![768, 0] S256x1.size inb_S1024x128_S256x1_768_0)) (window x7 ![768, 0] S256x128.size inb_S1024x128_S256x128_768_0) (window x8 ![768, 0] S256x128.size inb_S1024x128_S256x128_768_0) old

/-- All 1024 rows of the gradient of `v` after the rows 768–1023 of a diagonal point. -/
def dgV3 (old : Vec F S1024x128 .f32) : Vec F S1024x128 .f32 :=
  k0_pay44 (k0_pay39 (window x5 ![0, 0] S1024x256.size inb_S1024x256_S1024x256_0_0) (window x4 ![768, 0] S256x256.size inb_S1024x256_S256x256_768_0) (window x9 ![768, 0] S256x1.size inb_S1024x128_S256x1_768_0)) (window x7 ![768, 0] S256x128.size inb_S1024x128_S256x128_768_0) old

/-- The gradient of `q` after a diagonal point. -/
def diagQ (β : Fin 8) (X : Vec F S8192x256 .f32) : Vec F S8192x256 .f32 :=
  let X0 := put X (rowOff β 0) S256x256.size (dgQ0 x4 x5 x6 x7 x8 x9 (rows256 β 0 (by omega) X))
  let X1 := put X0 (rowOff β 256) S256x256.size (dgQ1 x4 x5 x6 x7 x8 x9 (rows256 β 256 (by omega) X0))
  let X2 := put X1 (rowOff β 512) S256x256.size (dgQ2 x4 x5 x6 x7 x8 x9 (rows256 β 512 (by omega) X1))
  put X2 (rowOff β 768) S256x256.size (dgQ3 x4 x5 x6 x7 x8 x9 (rows256 β 768 (by omega) X2))

/-- The gradient of `k` after a diagonal point. -/
def diagK : Vec F S1024x256 .f32 :=
  let Y0 := put (k0_pay1 (F := F)) ![0, 0] S256x256.size (dgK0 x4 x5 x6 x7 x8 x9 (window (k0_pay1 (F := F)) ![0, 0] S256x256.size inb_S1024x256_S256x256_0_0))
  let Y1 := put Y0 ![0, 0] S512x256.size (dgK1 x4 x5 x6 x7 x8 x9 (window Y0 ![0, 0] S512x256.size inb_S1024x256_S512x256_0_0))
  let Y2 := put Y1 ![0, 0] S768x256.size (dgK2 x4 x5 x6 x7 x8 x9 (window Y1 ![0, 0] S768x256.size inb_S1024x256_S768x256_0_0))
  dgK3 x4 x5 x6 x7 x8 x9 Y2

/-- The gradient of `v` after a diagonal point. -/
def diagV : Vec F S1024x128 .f32 :=
  let Y0 := put (k0_pay2 (F := F)) ![0, 0] S256x128.size (dgV0 x4 x5 x7 x9 (window (k0_pay2 (F := F)) ![0, 0] S256x128.size inb_S1024x128_S256x128_0_0))
  let Y1 := put Y0 ![0, 0] S512x128.size (dgV1 x4 x5 x7 x9 (window Y0 ![0, 0] S512x128.size inb_S1024x128_S512x128_0_0))
  let Y2 := put Y1 ![0, 0] S768x128.size (dgV2 x4 x5 x7 x9 (window Y1 ![0, 0] S768x128.size inb_S1024x128_S768x128_0_0))
  dgV3 x4 x5 x7 x9 Y2

end Diag

section Off

variable (x4 x5 x6 : Vec F S1024x256 .bf16) (x7 : Vec F S1024x128 .bf16) (x8 x9 : Vec F S1024x128 .f32)

/-- The rows 0–511 of the gradient of `q` at a point below the diagonal, from the rows before it. -/
def ofQ0 (old : Vec F S512x256 .f32) : Vec F S512x256 .f32 :=
  k0_pay52 (window x5 ![0, 0] S1024x256.size inb_S1024x256_S1024x256_0_0) (window x6 ![0, 0] S1024x128.size inb_S1024x256_S1024x128_0_0) (window x4 ![0, 0] S512x256.size inb_S1024x256_S512x256_0_0) (window x9 ![0, 0] S512x1.size inb_S1024x128_S512x1_0_0) (window x7 ![0, 0] S512x128.size inb_S1024x128_S512x128_0_0) (window x8 ![0, 0] S512x128.size inb_S1024x128_S512x128_0_0) old

/-- What the rows 0–511 of a point below the diagonal add to the gradient of `k`. -/
def ofK0 : Vec F S1024x256 .f32 :=
  k0_pay51 (window x5 ![0, 0] S1024x256.size inb_S1024x256_S1024x256_0_0) (window x6 ![0, 0] S1024x128.size inb_S1024x256_S1024x128_0_0) (window x4 ![0, 0] S512x256.size inb_S1024x256_S512x256_0_0) (window x9 ![0, 0] S512x1.size inb_S1024x128_S512x1_0_0) (window x7 ![0, 0] S512x128.size inb_S1024x128_S512x128_0_0) (window x8 ![0, 0] S512x128.size inb_S1024x128_S512x128_0_0)

/-- What the rows 0–511 of a point below the diagonal add to the gradient of `v`. -/
def ofV0 : Vec F S1024x128 .f32 :=
  k0_pay49 (window x5 ![0, 0] S1024x256.size inb_S1024x256_S1024x256_0_0) (window x4 ![0, 0] S512x256.size inb_S1024x256_S512x256_0_0) (window x9 ![0, 0] S512x1.size inb_S1024x128_S512x1_0_0) (window x7 ![0, 0] S512x128.size inb_S1024x128_S512x128_0_0)

/-- The rows 512–1023 of the gradient of `q` at a point below the diagonal, from the rows before it. -/
def ofQ1 (old : Vec F S512x256 .f32) : Vec F S512x256 .f32 :=
  k0_pay60 (window x5 ![0, 0] S1024x256.size inb_S1024x256_S1024x256_0_0) (window x6 ![0, 0] S1024x128.size inb_S1024x256_S1024x128_0_0) (window x4 ![512, 0] S512x256.size inb_S1024x256_S512x256_512_0) (window x9 ![512, 0] S512x1.size inb_S1024x128_S512x1_512_0) (window x7 ![512, 0] S512x128.size inb_S1024x128_S512x128_512_0) (window x8 ![512, 0] S512x128.size inb_S1024x128_S512x128_512_0) old

/-- What the rows 512–1023 of a point below the diagonal add to the gradient of `k`. -/
def ofK1 : Vec F S1024x256 .f32 :=
  k0_pay59 (window x5 ![0, 0] S1024x256.size inb_S1024x256_S1024x256_0_0) (window x6 ![0, 0] S1024x128.size inb_S1024x256_S1024x128_0_0) (window x4 ![512, 0] S512x256.size inb_S1024x256_S512x256_512_0) (window x9 ![512, 0] S512x1.size inb_S1024x128_S512x1_512_0) (window x7 ![512, 0] S512x128.size inb_S1024x128_S512x128_512_0) (window x8 ![512, 0] S512x128.size inb_S1024x128_S512x128_512_0)

/-- What the rows 512–1023 of a point below the diagonal add to the gradient of `v`. -/
def ofV1 : Vec F S1024x128 .f32 :=
  k0_pay57 (window x5 ![0, 0] S1024x256.size inb_S1024x256_S1024x256_0_0) (window x4 ![512, 0] S512x256.size inb_S1024x256_S512x256_512_0) (window x9 ![512, 0] S512x1.size inb_S1024x128_S512x1_512_0) (window x7 ![512, 0] S512x128.size inb_S1024x128_S512x128_512_0)

/-- The gradient of `q` after a point below the diagonal. -/
def offQ (β : Fin 8) (X : Vec F S8192x256 .f32) : Vec F S8192x256 .f32 :=
  let X0 := put X (rowOff β 0) S512x256.size (ofQ0 x4 x5 x6 x7 x8 x9 (rows512 β 0 (by omega) X))
  put X0 (rowOff β 512) S512x256.size (ofQ1 x4 x5 x6 x7 x8 x9 (rows512 β 512 (by omega) X0))

/-- The gradient of `k` after a point below the diagonal. -/
def offK (Y : Vec F S1024x256 .f32) : Vec F S1024x256 .f32 :=
  k0_pay4 (ofK0 x4 x5 x6 x7 x8 x9) (ofK1 x4 x5 x6 x7 x8 x9) Y

/-- The gradient of `v` after a point below the diagonal. -/
def offV (Y : Vec F S1024x128 .f32) : Vec F S1024x128 .f32 :=
  k0_pay5 (ofV0 x4 x5 x7 x9) (ofV1 x4 x5 x7 x9) Y

/-- The gradient of `q` with the point's rows cleared where the point is the first of its row of blocks. -/
def clearQ (κ β : Fin 8) (X : Vec F S8192x256 .f32) : Vec F S8192x256 .f32 :=
  if κ = 0 then put X (rowOff β 0) S1024x256.size (k0_pay3 (F := F)) else X

/-- The gradient of `q` after the point of key block `κ` and query block `β`. -/
def stepQ (κ β : Fin 8) (X : Vec F S8192x256 .f32) : Vec F S8192x256 .f32 :=
  if κ = β then diagQ x4 x5 x6 x7 x8 x9 β (clearQ κ β X) else offQ x4 x5 x6 x7 x8 x9 β (clearQ κ β X)

/-- The accumulator of the gradient of `k` after the point of key block `κ` and query block `β`. -/
def stepK (κ β : Fin 8) (Y : Vec F S1024x256 .f32) : Vec F S1024x256 .f32 :=
  if κ = β then diagK x4 x5 x6 x7 x8 x9 else offK x4 x5 x6 x7 x8 x9 Y

/-- The accumulator of the gradient of `v` after the point of key block `κ` and query block `β`. -/
def stepV (κ β : Fin 8) (Y : Vec F S1024x128 .f32) : Vec F S1024x128 .f32 :=
  if κ = β then diagV x4 x5 x7 x9 else offV x4 x5 x7 x9 Y

end Off

end Cert.KernelIdeal.Gen
end
-- ==== Proof.Words.lean ====
module

public import proofs.«01_k».proof.Proof.Steps

@[expose] public section

/-!
# The words of the block tables

The body reads its key block and its query block as 32-bit words. A block number is below 8, so each
side condition of the body and each branch it takes is a finite check.
-/

set_option maxRecDepth 16384

noncomputable section

namespace Cert.KernelIdeal.Gen

open Idealize.ShloMosaic Idealize.ShloMosaic.TcCoe
open Idealize.ShloMosaic.VecWindow

/-- The word of a block number. -/
def wd (n : Fin 8) : BitVec 32 := BitVec.ofNat 32 n.val

/-- The body's side condition holds of every point whose query block is not before its key block. -/
theorem chk_wd : ∀ κ β : Fin 8, κ ≤ β → k0_chk1 (wd κ) (wd β) := by decide +kernel

/-- The accumulators are cleared exactly on the diagonal. -/
theorem cond1_wd : ∀ κ β : Fin 8, (Scalar.cmpi .ne (Scalar.extui (Scalar.cmpi .eq (wd β) (wd κ)) : BitVec 32) 0#32 = 1#1) ↔ κ = β := by decide +kernel

/-- The rows of the gradient of `q` are cleared exactly at the first key block. -/
theorem cond2_wd : ∀ κ : Fin 8, k0_cond2 (wd κ) = 1#1 ↔ κ = 0 := by decide +kernel

/-- The masked branch is taken exactly on the diagonal. -/
theorem cond3_wd : ∀ κ β : Fin 8, k0_cond3 (wd κ) (wd β) = 1#1 ↔ κ = β := by decide +kernel

/-- The unmasked branch is taken exactly below the diagonal. -/
theorem cond4_wd : ∀ κ β : Fin 8, k0_cond4 (wd κ) (wd β) = 1#1 ↔ κ < β := by decide +kernel

/-- The accumulators are written out exactly at the last query block. -/
theorem cond5_wd : ∀ β : Fin 8, k0_cond5 (wd β) = 1#1 ↔ β = 7 := by decide +kernel

/-- Where the cleared rows begin. -/
theorem off2_wd : ∀ β : Fin 8, k0_off2 (wd β) = rowOff β 0 := by decide +kernel

/-- Where the diagonal point's four groups of rows begin. -/
theorem off3_wd : ∀ β : Fin 8, k0_off3 (wd β) 0#32 = rowOff β 0 ∧ k0_off3 (wd β) 256#32 = rowOff β 256
    ∧ k0_off3 (wd β) 512#32 = rowOff β 512 ∧ k0_off3 (wd β) 768#32 = rowOff β 768 := by decide +kernel

/-- Where the other points' two groups of rows begin. -/
theorem off4_wd : ∀ β : Fin 8, k0_off4 (wd β) 0#32 = rowOff β 0 ∧ k0_off4 (wd β) 512#32 = rowOff β 512 := by decide +kernel

end Cert.KernelIdeal.Gen
end
-- ==== Proof.Pieces.lean ====
module

public import Idealize.ShloMosaic.Lib.VecWindow

@[expose] public section

/-!
# A buffer updated several times in one run

Two patterns of the body: a buffer whose windows are read, changed and stored one after another, and an
accumulator stored whole and then read and stored in growing windows. In both the buffer is left as the
nested functional update.
-/

noncomputable section

namespace Cert.KernelIdeal.Gen

open Idealize.ShloMosaic Idealize.ShloMosaic.VecWindow Idealize.ShloMosaic.View

variable {sig : RefSig} {κ : Kind} {sp : Space} {s : Shape} {e : EltTy} {Val : EltTy → Type}

/-- The stores so far with one more: the window at `off`, read after those stores, changed by `g`. -/
def upd (v : View sig κ sp s e) (f : v.ty.Contents Val) (off size : Fin s.rank → ℕ) (inb : ∀ a, off a + size a ≤ s.size a)
    (g : ((Rect.unit off size inb).shape.Idx → Val e) → ((Rect.unit off size inb).shape.Idx → Val e)) (L : List (Piece Val s e)) : List (Piece Val s e) :=
  ⟨Rect.unit off size inb, g (v.readAt Val (Rect.unit off size inb).toLoadRect (v.writes Val f L))⟩ :: L

/-- One update read back: the window put where it was read. -/
theorem read_upd (v : View sig κ sp s e) (f : v.ty.Contents Val) {off off' size : Fin s.rank → ℕ} (inb : ∀ a, off a + size a ≤ s.size a)
    (inb' : ∀ a, off' a + size a ≤ s.size a) (h : off = off')
    (g : ((Rect.unit off size inb).shape.Idx → Val e) → ((Rect.unit off size inb).shape.Idx → Val e)) (L : List (Piece Val s e)) :
    v.read Val (v.writes Val f (upd v f off size inb g L)) = put (v.read Val (v.writes Val f L)) off' size (g (window (v.read Val (v.writes Val f L)) off' size inb')) := by
  subst h
  rw [upd, read_writes_cons_put v f inb _ L rfl]
  rfl

/-- The stores so far with one more, the window read over the stores alone. -/
def updC [∀ e, Nonempty (Val e)] (v : View sig κ sp s e) (off size : Fin s.rank → ℕ) (inb : ∀ a, off a + size a ≤ s.size a)
    (g : ((Rect.unit off size inb).shape.Idx → Val e) → ((Rect.unit off size inb).shape.Idx → Val e)) (L : List (Piece Val s e)) : List (Piece Val s e) :=
  ⟨Rect.unit off size inb, g (v.readCov L (Rect.unit off size inb).toLoadRect)⟩ :: L

/-- One such update over the stores alone, read back. -/
theorem read_updC [∀ e, Nonempty (Val e)] (v : View sig κ sp s e) {off size : Fin s.rank → ℕ} (inb : ∀ a, off a + size a ≤ s.size a)
    (g : ((Rect.unit off size inb).shape.Idx → Val e) → ((Rect.unit off size inb).shape.Idx → Val e)) (L : List (Piece Val s e)) :
    v.read Val (v.writes Val v.junk (updC v off size inb g L)) = put (v.read Val (v.writes Val v.junk L)) off size (g (window (v.read Val (v.writes Val v.junk L)) off size inb)) := by
  rw [updC, read_writes_cons_put v _ inb _ L rfl]
  rfl

/-- An accumulator stored whole, updated in three windows and then whole. -/
theorem read_acc [∀ e, Nonempty (Val e)] (v : View sig κ sp s e) (f : v.ty.Contents Val) {off n0 n1 n2 : Fin s.rank → ℕ}
    (i0 : ∀ a, off a + n0 a ≤ s.size a) (i1 : ∀ a, off a + n1 a ≤ s.size a) (i2 : ∀ a, off a + n2 a ≤ s.size a) (i : ∀ a, off a + s.size a ≤ s.size a)
    (w : s.Idx → Val e)
    (g0 : ((Rect.unit off n0 i0).shape.Idx → Val e) → ((Rect.unit off n0 i0).shape.Idx → Val e))
    (g1 : ((Rect.unit off n1 i1).shape.Idx → Val e) → ((Rect.unit off n1 i1).shape.Idx → Val e))
    (g2 : ((Rect.unit off n2 i2).shape.Idx → Val e) → ((Rect.unit off n2 i2).shape.Idx → Val e))
    (g3 : (s.Idx → Val e) → (s.Idx → Val e)) :
    v.read Val (v.writes Val f (updC v off s.size i g3 (updC v off n2 i2 g2 (updC v off n1 i1 g1 (updC v off n0 i0 g0 [⟨Rect.unit off s.size i, w⟩])))))
      = g3 (let Y0 := put w off n0 (g0 (window w off n0 i0))
            let Y1 := put Y0 off n1 (g1 (window Y0 off n1 i1))
            put Y1 off n2 (g2 (window Y1 off n2 i2))) := by
  conv_lhs => rw [updC]
  rw [read_writes_full]
  refine congrArg g3 ?_
  refine (readAt_full v _ i).trans ?_
  rw [read_updC, read_updC, read_updC, read_writes_full]

end Cert.KernelIdeal.Gen
end
-- ==== Proof.Body.lean ====
module

public import proofs.«01_k».proof.Proof.Words
public import proofs.«01_k».proof.Proof.Pieces
public import Idealize.ShloMosaic.Lib.Pipeline.Frame
public import Idealize.ShloMosaic.Lib.Exec
public import Idealize.ShloMosaic.Lib.Tactic

@[expose] public section

/-!
# The body at one grid point

Given the words of the point's key block `κ` and query block `β`, the body leaves the gradient of `q`
at `stepQ`, the accumulators at `stepK` and `stepV`, and at the last query block it writes the
accumulators out.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow Idealize.ShloMosaic.View

variable {F : FTy → Type} [FloatOps F] [Named F]

local notation "𝕄" => MT nD τ sig Unit (Elt F) ℕ (UR sig nD τ) ℕ

/-- A returned value goes straight to what follows it. -/
theorem pret_bind {E : Type → Type} {α β : Type} (a : α) (k : α → Prog E β) : (Prog.ret a >>= k) = k a := rfl

section Reads

variable (x4 x5 x6 : Vec F S1024x256 .bf16) (x7 : Vec F S1024x128 .bf16) (x8 x9 : Vec F S1024x128 .f32)

/-- The stores of a point below the diagonal, read back. -/
theorem offQ_read (v : View sig .tc .vmem S8192x256 .f32) (f : v.ty.Contents (Elt F)) (β : Fin 8)
    (i0 : ∀ a, k0_off4 (wd β) 0#32 a + S512x256.size a ≤ S8192x256.size a) (i1 : ∀ a, k0_off4 (wd β) 512#32 a + S512x256.size a ≤ S8192x256.size a)
    (L : List (Piece (Elt F) S8192x256 .f32)) :
    v.read (Elt F) (v.writes (Elt F) f (upd v f (k0_off4 (wd β) 512#32) S512x256.size i1 (ofQ1 x4 x5 x6 x7 x8 x9) (upd v f (k0_off4 (wd β) 0#32) S512x256.size i0 (ofQ0 x4 x5 x6 x7 x8 x9) L)))
      = offQ x4 x5 x6 x7 x8 x9 β (v.read (Elt F) (v.writes (Elt F) f L)) := by
  obtain ⟨o0, o1⟩ := off4_wd β
  rw [read_upd v f i1 (rowOff_inb β 512 512 (by omega)) o1, read_upd v f i0 (rowOff_inb β 0 512 (by omega)) o0]
  rfl

/-- The stores of a diagonal point, read back. -/
theorem diagQ_read (v : View sig .tc .vmem S8192x256 .f32) (f : v.ty.Contents (Elt F)) (β : Fin 8)
    (i0 : ∀ a, k0_off3 (wd β) 0#32 a + S256x256.size a ≤ S8192x256.size a) (i1 : ∀ a, k0_off3 (wd β) 256#32 a + S256x256.size a ≤ S8192x256.size a)
    (i2 : ∀ a, k0_off3 (wd β) 512#32 a + S256x256.size a ≤ S8192x256.size a) (i3 : ∀ a, k0_off3 (wd β) 768#32 a + S256x256.size a ≤ S8192x256.size a)
    (L : List (Piece (Elt F) S8192x256 .f32)) :
    v.read (Elt F) (v.writes (Elt F) f (upd v f (k0_off3 (wd β) 768#32) S256x256.size i3 (dgQ3 x4 x5 x6 x7 x8 x9) (upd v f (k0_off3 (wd β) 512#32) S256x256.size i2 (dgQ2 x4 x5 x6 x7 x8 x9)
        (upd v f (k0_off3 (wd β) 256#32) S256x256.size i1 (dgQ1 x4 x5 x6 x7 x8 x9) (upd v f (k0_off3 (wd β) 0#32) S256x256.size i0 (dgQ0 x4 x5 x6 x7 x8 x9) L)))))
      = diagQ x4 x5 x6 x7 x8 x9 β (v.read (Elt F) (v.writes (Elt F) f L)) := by
  obtain ⟨o0, o1, o2, o3⟩ := off3_wd β
  rw [read_upd v f i3 (rowOff_inb β 768 256 (by omega)) o3, read_upd v f i2 (rowOff_inb β 512 256 (by omega)) o2,
    read_upd v f i1 (rowOff_inb β 256 256 (by omega)) o1, read_upd v f i0 (rowOff_inb β 0 256 (by omega)) o0]
  rfl

/-- The accumulator of the gradient of `k` at a diagonal point, read back. -/
theorem diagK_read (v : View sig .tc .vmem S1024x256 .f32) (f : v.ty.Contents (Elt F)) :
    v.read (Elt F) (v.writes (Elt F) f (updC v ![0, 0] S1024x256.size inb_S1024x256_S1024x256_0_0 (dgK3 x4 x5 x6 x7 x8 x9) (updC v ![0, 0] S768x256.size inb_S1024x256_S768x256_0_0 (dgK2 x4 x5 x6 x7 x8 x9)
        (updC v ![0, 0] S512x256.size inb_S1024x256_S512x256_0_0 (dgK1 x4 x5 x6 x7 x8 x9) (updC v ![0, 0] S256x256.size inb_S1024x256_S256x256_0_0 (dgK0 x4 x5 x6 x7 x8 x9)
          [⟨Rect.unit (s := S1024x256) ![0, 0] S1024x256.size inb_S1024x256_S1024x256_0_0, k0_pay1 (F := F)⟩])))))
      = diagK x4 x5 x6 x7 x8 x9 :=
  read_acc v f inb_S1024x256_S256x256_0_0 inb_S1024x256_S512x256_0_0 inb_S1024x256_S768x256_0_0 inb_S1024x256_S1024x256_0_0 (k0_pay1 (F := F))
    (dgK0 x4 x5 x6 x7 x8 x9) (dgK1 x4 x5 x6 x7 x8 x9) (dgK2 x4 x5 x6 x7 x8 x9) (dgK3 x4 x5 x6 x7 x8 x9)

/-- The accumulator of the gradient of `v` at a diagonal point, read back. -/
theorem diagV_read (v : View sig .tc .vmem S1024x128 .f32) (f : v.ty.Contents (Elt F)) :
    v.read (Elt F) (v.writes (Elt F) f (updC v ![0, 0] S1024x128.size inb_S1024x128_S1024x128_0_0 (dgV3 x4 x5 x7 x9) (updC v ![0, 0] S768x128.size inb_S1024x128_S768x128_0_0 (dgV2 x4 x5 x7 x9)
        (updC v ![0, 0] S512x128.size inb_S1024x128_S512x128_0_0 (dgV1 x4 x5 x7 x9) (updC v ![0, 0] S256x128.size inb_S1024x128_S256x128_0_0 (dgV0 x4 x5 x7 x9)
          [⟨Rect.unit (s := S1024x128) ![0, 0] S1024x128.size inb_S1024x128_S1024x128_0_0, k0_pay2 (F := F)⟩])))))
      = diagV x4 x5 x7 x9 :=
  read_acc v f inb_S1024x128_S256x128_0_0 inb_S1024x128_S512x128_0_0 inb_S1024x128_S768x128_0_0 inb_S1024x128_S1024x128_0_0 (k0_pay2 (F := F))
    (dgV0 x4 x5 x7 x9) (dgV1 x4 x5 x7 x9) (dgV2 x4 x5 x7 x9) (dgV3 x4 x5 x7 x9)

/-- An accumulator changed whole, read back. -/
theorem whole_read {s : Shape} {e : EltTy} (v : View sig .tc .vmem s e) (f : v.ty.Contents (Elt F)) {off : Fin s.rank → ℕ} (i : ∀ a, off a + s.size a ≤ s.size a)
    (g : (s.Idx → Elt F e) → (s.Idx → Elt F e)) :
    v.read (Elt F) (v.writes (Elt F) f [⟨Rect.unit off s.size i, g (v.readAt (Elt F) (Rect.unit off s.size i).toLoadRect f)⟩]) = g (v.read (Elt F) f) := by
  rw [read_writes_full, readAt_full]

/-- A whole load over stores that cover the buffer reads what the stores leave, over any contents. -/
theorem whole_cov {s : Shape} {e : EltTy} (v : View sig .tc .vmem s e) {off : Fin s.rank → ℕ} (i : ∀ a, off a + s.size a ≤ s.size a)
    (L : List (Piece (Elt F) s e)) (X : s.Idx → Elt F e) (h : ∀ f, v.read (Elt F) (v.writes (Elt F) f L) = X) :
    v.readCov L (Rect.unit off s.size i).toLoadRect = X :=
  (readAt_full v _ i).trans (h _)

end Reads

section Body

variable (c : Dev nD) (i : grid0.Coords) (arg2 : Memref sig .tc .smem S36 .i32) (harg2 : arg2.IsWhole) (arg3 : Memref sig .tc .smem S36 .i32) (harg3 : arg3.IsWhole)
  (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole)
  (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole)
  (arg10 : Memref sig .tc .vmem S8192x256 .f32) (harg10 : arg10.IsWhole) (arg11 : Memref sig .tc .vmem S1024x256 .f32) (harg11 : arg11.IsWhole) (arg12 : Memref sig .tc .vmem S1024x128 .f32) (harg12 : arg12.IsWhole)
  (arg13 : Memref sig .tc .vmem S1024x256 .f32) (harg13 : arg13.IsWhole) (arg14 : Memref sig .tc .vmem S1024x128 .f32) (harg14 : arg14.IsWhole)
  (f2 : Buf (Elt F) (arg2.view.loc (c : Thread nD τ))) (f3 : Buf (Elt F) (arg3.view.loc (c : Thread nD τ)))
  (x4 : Vec F S1024x256 .bf16) (x5 : Vec F S1024x256 .bf16) (x6 : Vec F S1024x256 .bf16) (x7 : Vec F S1024x128 .bf16) (x8 : Vec F S1024x128 .f32) (x9 : Vec F S1024x128 .f32)
  (x10 : Vec F S8192x256 .f32) (x11 : Vec F S1024x256 .f32) (x12 : Vec F S1024x128 .f32) (x13 : Vec F S1024x256 .f32) (x14 : Vec F S1024x128 .f32)

/-- The blocks the body reads. -/
abbrev bodyIn (x4 x5 x6 : Vec F S1024x256 .bf16) (x7 : Vec F S1024x128 .bf16) (x8 x9 : Vec F S1024x128 .f32) : sProp 𝕄 :=
  iprop((arg2.view.loc (c : Thread nD τ) ↦{fullShare.right} f2) ∗ (arg3.view.loc (c : Thread nD τ) ↦{fullShare.right} f3)
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8 ∗ owns (c : Thread nD τ) arg9 fullShare x9)

/-- The blocks the body changes. -/
abbrev bodyOut (x10 : Vec F S8192x256 .f32) (x11 : Vec F S1024x256 .f32) (x12 : Vec F S1024x128 .f32) (x13 : Vec F S1024x256 .f32) (x14 : Vec F S1024x128 .f32) : sProp 𝕄 :=
  iprop(owns (c : Thread nD τ) arg10 fullShare x10 ∗ owns (c : Thread nD τ) arg11 fullShare x11 ∗ owns (c : Thread nD τ) arg12 fullShare x12
    ∗ owns (c : Thread nD τ) arg13 fullShare x13 ∗ owns (c : Thread nD τ) arg14 fullShare x14)

set_option maxHeartbeats 4000000 in
/-- The body at a point of key block `κ` and query block `β`. -/
theorem body (κ β : Fin 8) (hle : κ ≤ β)
    (ha : ∀ x, wd κ = (arg2.access (Rect.unit (s := S36) (k0_off1 i) S1.size (k0_off1_inb i))).read (Elt F) f2 x)
    (hb : ∀ x, wd β = (arg3.access (Rect.unit (s := S36) (k0_off1 i) S1.size (k0_off1_inb i))).read (Elt F) f3 x)
    (E : Set ℕ) (K : PUnit → sProp 𝕄) :
    iprop(bodyIn (F := F) c arg2 arg3 arg4 arg5 arg6 arg7 arg8 arg9 f2 f3 x4 x5 x6 x7 x8 x9 ∗ bodyOut (F := F) c arg10 arg11 arg12 arg13 arg14 x10 x11 x12 x13 x14
      ∗ (bodyIn (F := F) c arg2 arg3 arg4 arg5 arg6 arg7 arg8 arg9 f2 f3 x4 x5 x6 x7 x8 x9
          ∗ bodyOut (F := F) c arg10 arg11 arg12 arg13 arg14 (stepQ x4 x5 x6 x7 x8 x9 κ β x10)
              (if β = 7 then k0_pay6 (stepK x4 x5 x6 x7 x8 x9 κ β x13) else x11) (if β = 7 then stepV x4 x5 x7 x9 κ β x14 else x12)
              (stepK x4 x5 x6 x7 x8 x9 κ β x13) (stepV x4 x5 x7 x9 κ β x14) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  have hchk := chk_wd κ β hle
  have h1 := cond1_wd κ β
  have h2 := cond2_wd κ
  have h3 := cond3_wd κ β
  have h4 := cond4_wd κ β
  have h5 := cond5_wd β
  obtain ⟨o30, o31, o32, o33⟩ := off3_wd β
  obtain ⟨o40, o41⟩ := off4_wd β
  have o2 := off2_wd β
  simp only [cc0_flash_bwd_eq_skeleton]; unfold cc0_flash_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold smemLoad bodyIn bodyOut owns
  iintro ⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%f10, %hf10, H10⟩, ⟨%f11, %hf11, H11⟩, ⟨%f12, %hf12, H12⟩, ⟨%f13, %hf13, H13⟩, ⟨%f14, %hf14, H14⟩⟩, Hk⟩
  subst hf4 hf5 hf6 hf7 hf8 hf9 hf10 hf11 hf12 hf13 hf14
  simp only [smemLoadElt_bind]
  named_smem H2 (wd κ) (ha _)
  simp only [pret_bind]
  named_smem H3 (wd β) (hb _)
  simp only [pret_bind]
  by_cases hd : κ = β
  · have hc1 := h1.2 hd
    have hc3 := h3.2 hd
    have hc4 : ¬ k0_cond4 (wd κ) (wd β) = 1#1 := fun h => absurd hd (ne_of_lt (h4.1 h))
    by_cases hz : κ = 0 <;> [have hc2 := h2.2 hz; have hc2 := fun h => hz (h2.1 h)] <;>
    by_cases h7 : β = 7 <;> [have hc5 := h5.2 h7; have hc5 := fun h => h7 (h5.1 h); have hc5 := h5.2 h7; have hc5 := fun h => h7 (h5.1 h)]
    · exact absurd (hz.symm.trans (hd.trans h7)) (by decide)
    all_goals
      sl_exec (disch := first | sl_exact hchk | sl_exact hc1 | sl_exact hc2 | sl_exact hc3 | sl_exact hc4 | sl_exact hc5)
      sl_step
      iapply Hk
      isplitl [H2 H3 H4 H5 H6 H7 H8 H9]
      · isplitl [H2]
        · iexact H2
        isplitl [H3]
        · iexact H3
        isplitl [H4]
        · iexists _; isplitr
          · ipureintro; exact rfl
          · iexact H4
        isplitl [H5]
        · iexists _; isplitr
          · ipureintro; exact rfl
          · iexact H5
        isplitl [H6]
        · iexists _; isplitr
          · ipureintro; exact rfl
          · iexact H6
        isplitl [H7]
        · iexists _; isplitr
          · ipureintro; exact rfl
          · iexact H7
        isplitl [H8]
        · iexists _; isplitr
          · ipureintro; exact rfl
          · iexact H8
        iexists _; isplitr
        · ipureintro; exact rfl
        · iexact H9
      isplitl [H10]
      · iexists _; isplitr; swap
        · iexact H10
        · ipureintro
          unfold stepQ clearQ
          rw [if_pos hd]
          first | (rw [if_pos hz]; exact (diagQ_read (arg4.view.read (Elt F) f4) (arg5.view.read (Elt F) f5) (arg6.view.read (Elt F) f6) (arg7.view.read (Elt F) f7) (arg8.view.read (Elt F) f8) (arg9.view.read (Elt F) f9) arg10.view f10 β _ _ _ _ [⟨Rect.unit (s := S8192x256) (k0_off2 (wd β)) S1024x256.size (k0_off2_inb _ _ hchk hc2), k0_pay3 (F := F)⟩]).trans (congrArg _ (read_writes_cons_put arg10.view f10 _ _ [] o2))) | (rw [if_neg hz]; exact diagQ_read (arg4.view.read (Elt F) f4) (arg5.view.read (Elt F) f5) (arg6.view.read (Elt F) f6) (arg7.view.read (Elt F) f7) (arg8.view.read (Elt F) f8) (arg9.view.read (Elt F) f9) arg10.view f10 β _ _ _ _ [])
      isplitl [H11]
      · iexists _; isplitr; swap
        · iexact H11
        · ipureintro
          unfold stepK
          first | rw [if_neg h7] | (rw [if_pos h7, if_pos hd]; exact (read_writes_full arg11.view f11 inb_S1024x256_S1024x256_0_0 _ []).trans (congrArg k0_pay6 (whole_cov arg13.view inb_S1024x256_S1024x256_0_0 _ _ fun f => diagK_read (arg4.view.read (Elt F) f4) (arg5.view.read (Elt F) f5) (arg6.view.read (Elt F) f6) (arg7.view.read (Elt F) f7) (arg8.view.read (Elt F) f8) (arg9.view.read (Elt F) f9) arg13.view f)))
      isplitl [H12]
      · iexists _; isplitr; swap
        · iexact H12
        · ipureintro
          unfold stepV
          first | rw [if_neg h7] | (rw [if_pos h7, if_pos hd]; exact (read_writes_full arg12.view f12 inb_S1024x128_S1024x128_0_0 _ []).trans (whole_cov arg14.view inb_S1024x128_S1024x128_0_0 _ _ fun f => diagV_read (arg4.view.read (Elt F) f4) (arg5.view.read (Elt F) f5) (arg7.view.read (Elt F) f7) (arg9.view.read (Elt F) f9) arg14.view f))
      isplitl [H13]
      · iexists _; isplitr; swap
        · iexact H13
        · ipureintro
          unfold stepK
          rw [if_pos hd]
          exact diagK_read (arg4.view.read (Elt F) f4) (arg5.view.read (Elt F) f5) (arg6.view.read (Elt F) f6) (arg7.view.read (Elt F) f7) (arg8.view.read (Elt F) f8) (arg9.view.read (Elt F) f9) arg13.view f13
      · iexists _; isplitr; swap
        · iexact H14
        · ipureintro
          unfold stepV
          rw [if_pos hd]
          exact diagV_read (arg4.view.read (Elt F) f4) (arg5.view.read (Elt F) f5) (arg7.view.read (Elt F) f7) (arg9.view.read (Elt F) f9) arg14.view f14
  · have hlt : κ < β := lt_of_le_of_ne hle hd
    have hc1 := fun h => hd (h1.1 h)
    have hc3 := fun h => hd (h3.1 h)
    have hc4 := h4.2 hlt
    by_cases hz : κ = 0 <;> [have hc2 := h2.2 hz; have hc2 := fun h => hz (h2.1 h)] <;>
    by_cases h7 : β = 7 <;> [have hc5 := h5.2 h7; have hc5 := fun h => h7 (h5.1 h); have hc5 := h5.2 h7; have hc5 := fun h => h7 (h5.1 h)]
    all_goals
      sl_exec (disch := first | sl_exact hchk | sl_exact hc1 | sl_exact hc2 | sl_exact hc3 | sl_exact hc4 | sl_exact hc5)
      sl_step
      iapply Hk
      isplitl [H2 H3 H4 H5 H6 H7 H8 H9]
      · isplitl [H2]
        · iexact H2
        isplitl [H3]
        · iexact H3
        isplitl [H4]
        · iexists _; isplitr
          · ipureintro; exact rfl
          · iexact H4
        isplitl [H5]
        · iexists _; isplitr
          · ipureintro; exact rfl
          · iexact H5
        isplitl [H6]
        · iexists _; isplitr
          · ipureintro; exact rfl
          · iexact H6
        isplitl [H7]
        · iexists _; isplitr
          · ipureintro; exact rfl
          · iexact H7
        isplitl [H8]
        · iexists _; isplitr
          · ipureintro; exact rfl
          · iexact H8
        iexists _; isplitr
        · ipureintro; exact rfl
        · iexact H9
      isplitl [H10]
      · iexists _; isplitr; swap
        · iexact H10
        · ipureintro
          unfold stepQ clearQ
          rw [if_neg hd]
          first | (rw [if_pos hz]; exact (offQ_read (arg4.view.read (Elt F) f4) (arg5.view.read (Elt F) f5) (arg6.view.read (Elt F) f6) (arg7.view.read (Elt F) f7) (arg8.view.read (Elt F) f8) (arg9.view.read (Elt F) f9) arg10.view f10 β _ _ [⟨Rect.unit (s := S8192x256) (k0_off2 (wd β)) S1024x256.size (k0_off2_inb _ _ hchk hc2), k0_pay3 (F := F)⟩]).trans (congrArg _ (read_writes_cons_put arg10.view f10 _ _ [] o2))) | (rw [if_neg hz]; exact offQ_read (arg4.view.read (Elt F) f4) (arg5.view.read (Elt F) f5) (arg6.view.read (Elt F) f6) (arg7.view.read (Elt F) f7) (arg8.view.read (Elt F) f8) (arg9.view.read (Elt F) f9) arg10.view f10 β _ _ [])
      isplitl [H11]
      · iexists _; isplitr; swap
        · iexact H11
        · ipureintro
          unfold stepK
          first | rw [if_neg h7] | (rw [if_pos h7, if_neg hd]; exact (read_writes_full arg11.view f11 inb_S1024x256_S1024x256_0_0 _ []).trans (congrArg k0_pay6 ((readCov_full arg13.view inb_S1024x256_S1024x256_0_0 inb_S1024x256_S1024x256_0_0 _ []).trans (congrArg (offK (arg4.view.read (Elt F) f4) (arg5.view.read (Elt F) f5) (arg6.view.read (Elt F) f6) (arg7.view.read (Elt F) f7) (arg8.view.read (Elt F) f8) (arg9.view.read (Elt F) f9)) (readAt_full arg13.view f13 inb_S1024x256_S1024x256_0_0)))))
      isplitl [H12]
      · iexists _; isplitr; swap
        · iexact H12
        · ipureintro
          unfold stepV
          first | rw [if_neg h7] | (rw [if_pos h7, if_neg hd]; exact (read_writes_full arg12.view f12 inb_S1024x128_S1024x128_0_0 _ []).trans ((readCov_full arg14.view inb_S1024x128_S1024x128_0_0 inb_S1024x128_S1024x128_0_0 _ []).trans (congrArg (offV (arg4.view.read (Elt F) f4) (arg5.view.read (Elt F) f5) (arg7.view.read (Elt F) f7) (arg9.view.read (Elt F) f9)) (readAt_full arg14.view f14 inb_S1024x128_S1024x128_0_0))))
      isplitl [H13]
      · iexists _; isplitr; swap
        · iexact H13
        · ipureintro
          unfold stepK
          rw [if_neg hd]
          exact whole_read arg13.view f13 inb_S1024x256_S1024x256_0_0 (offK (arg4.view.read (Elt F) f4) (arg5.view.read (Elt F) f5) (arg6.view.read (Elt F) f6) (arg7.view.read (Elt F) f7) (arg8.view.read (Elt F) f8) (arg9.view.read (Elt F) f9))
      · iexists _; isplitr; swap
        · iexact H14
        · ipureintro
          unfold stepV
          rw [if_neg hd]
          exact whole_read arg14.view f14 inb_S1024x128_S1024x128_0_0 (offV (arg4.view.read (Elt F) f4) (arg5.view.read (Elt F) f5) (arg7.view.read (Elt F) f7) (arg9.view.read (Elt F) f9))

end Body

end Cert.KernelIdeal.Gen
end
-- ==== Proof.Data.lean ====
module

public import proofs.«01_k».proof.Proof.Body
public import proofs.«01_k».proof.Proof.Gen.KernelIdeal.Launch
public import Idealize.ShloMosaic.Lib.Pipeline.FrameBody
public import Idealize.ShloMosaic.Lib.Affine

@[expose] public section

/-!
# The grid's schedule and the pipeline's data

The two tables name, for each of the 36 steps of a head, the key block and the query block of the step.
The tables the host writes are admissible, and every window's block index is read off them.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat)

variable {F : FTy → Type} [FloatOps F] [Named F]

local notation "𝕄" => MT nD τ sig Unit (Elt F) ℕ (UR sig nD τ) ℕ

/-- The key block of each step of a head. -/
def kap : Fin 36 → Fin 8 := ![0, 0, 0, 0, 0, 0, 0, 0, 1, 1, 1, 1, 1, 1, 1, 2, 2, 2, 2, 2, 2, 3, 3, 3, 3, 3, 4, 4, 4, 4, 5, 5, 5, 6, 6, 7]

/-- The query block of each step of a head. -/
def bet : Fin 36 → Fin 8 := ![0, 1, 2, 3, 4, 5, 6, 7, 1, 2, 3, 4, 5, 6, 7, 2, 3, 4, 5, 6, 7, 3, 4, 5, 6, 7, 4, 5, 6, 7, 5, 6, 7, 6, 7, 7]

/-- Causal order: a step's key block is not after its query block. -/
theorem kap_le : ∀ p, kap p ≤ bet p := by decide +kernel
theorem lit0_eq : ∀ p, lit0 p = wd (kap p) := by decide +kernel
theorem lit1_eq : ∀ p, lit1 p = wd (bet p) := by decide +kernel
theorem wd_toNat : ∀ n : Fin 8, (wd n).toNat = n.val := by decide +kernel

/-- The tables' contents as the host writes them. -/
def tabs : pre0.Contents (Elt F) := fun
  | ⟨0, _⟩ => fun i => lit0 (S36.rowMajor i)
  | ⟨1, _⟩ => fun i => lit1 (S36.rowMajor i)
  | ⟨_ + 2, h⟩ => absurd h (Nat.not_lt.2 (Nat.le_add_left _ _))

/-- The element of the tables' shape at step `p`. -/
theorem rowMajor_eq (i : grid0.Coords) (o : Fin 1 → ℕ) (ho : o = ![(i 1).val]) (inb : ∀ a, o a + S1.size a ≤ S36.size a) (x : (Rect.unit (s := S36) o S1.size inb).shape.Idx) :
    S36.rowMajor ((Rect.unit (s := S36) o S1.size inb).emb x) = (i 1 : Fin 36) := by
  subst ho
  refine Fin.ext ?_
  refine (Shape.rowMajor_val_one _).trans ?_
  have hx : (x 0).val < 1 := (x 0).isLt
  show (i 1).val + 1 * (x 0).val = (i 1).val
  omega

theorem tabs_key (i : grid0.Coords) (o : Fin 1 → ℕ) (ho : o = ![(i 1).val]) (inb : ∀ a, o a + S1.size a ≤ S36.size a) (x : (Rect.unit (s := S36) o S1.size inb).shape.Idx) :
    (tabs (F := F) 0 ((Rect.unit (s := S36) o S1.size inb).emb x) : BitVec 32) = wd (kap (i 1)) :=
  (congrArg lit0 (rowMajor_eq i o ho inb x)).trans (lit0_eq _)

theorem tabs_query (i : grid0.Coords) (o : Fin 1 → ℕ) (ho : o = ![(i 1).val]) (inb : ∀ a, o a + S1.size a ≤ S36.size a) (x : (Rect.unit (s := S36) o S1.size inb).shape.Idx) :
    (tabs (F := F) 1 ((Rect.unit (s := S36) o S1.size inb).emb x) : BitVec 32) = wd (bet (i 1)) :=
  (congrArg lit1 (rowMajor_eq i o ho inb x)).trans (lit1_eq _)

theorem head_toNat (i : grid0.Coords) : (BitVec.ofNat 32 (i 0).val).toNat = (i 0).val := by
  have h : (i 0).val < 8 := (i 0).isLt
  rw [BitVec.toNat_ofNat]; omega

theorem ix_query (i : grid0.Coords) : cc0_transform_0 k0_off1_inb numel1_S1 (tabs (F := F)) i = ![(bet (i 1)).val, (i 0).val] := by
  show ![_, _] = _
  rw [head_toNat]
  refine congrArg (fun n : ℕ => ![n, (i 0).val]) ?_
  exact (congrArg BitVec.toNat (tabs_query (F := F) i _ (k0_off1_eq i) _ _)).trans (wd_toNat _)

theorem ix_key (i : grid0.Coords) : cc0_transform_1 k0_off1_inb numel1_S1 (tabs (F := F)) i = ![(kap (i 1)).val, (i 0).val] := by
  show ![_, _] = _
  rw [head_toNat]
  refine congrArg (fun n : ℕ => ![n, (i 0).val]) ?_
  exact (congrArg BitVec.toNat (tabs_key (F := F) i _ (k0_off1_eq i) _ _)).trans (wd_toNat _)

theorem ix_all (i : grid0.Coords) : cc0_transform_6 i = ![0, (i 0).val] := by
  show ![_, _] = _
  rw [head_toNat]; rfl

/-- A block of 1024 rows of one head lies inside its array. -/
theorem inb_block (n : ℕ) (β : Fin 8) (i : grid0.Coords) (a : Fin 2) : ((![β.val, (i 0).val] : Fin 2 → ℕ) a + 1) * (![1024, n] : Fin 2 → ℕ) a ≤ (![8192, 8 * n] : Fin 2 → ℕ) a := by
  have h : (i 0).val < 8 := (i 0).isLt
  have hb := β.isLt
  match a with
  | 0 => show (β.val + 1) * 1024 ≤ 8192; omega
  | 1 => show ((i 0).val + 1) * n ≤ 8 * n; exact Nat.mul_le_mul_right n (by omega)

/-- The host's tables are admissible. -/
theorem tabs_ok : ok0 (F := F) tabs := by
  refine ⟨fun i => ⟨?_, .inr ?_⟩, fun i => ⟨?_, .inr ?_⟩, fun i => ⟨?_, .inr ?_⟩, fun i => ⟨?_, .inr ?_⟩, fun i => ⟨?_, .inl rfl⟩, fun i => ⟨?_, .inl rfl⟩, fun i => ⟨?_, .inl rfl⟩, fun i => ⟨?_, .inl rfl⟩⟩
  · rw [ix_query]; exact inb_block 256 _ i
  · exact Affine.block_words_dvd (by decide) (by decide)
  · rw [ix_key]; exact inb_block 256 _ i
  · exact Affine.block_words_dvd (by decide) (by decide)
  · rw [show cc0_transform_2 k0_off1_inb numel1_S1 (tabs (F := F)) i = _ from ix_key i]; exact inb_block 256 _ i
  · exact Affine.block_words_dvd (by decide) (by decide)
  · rw [show cc0_transform_3 k0_off1_inb numel1_S1 (tabs (F := F)) i = _ from ix_query i]; exact inb_block 128 _ i
  · exact Affine.block_words_dvd (by decide) (by decide)
  · rw [show cc0_transform_4 k0_off1_inb numel1_S1 (tabs (F := F)) i = _ from ix_query i]; exact inb_block 128 _ i
  · rw [show cc0_transform_5 k0_off1_inb numel1_S1 (tabs (F := F)) i = _ from ix_query i]; exact inb_block 128 _ i
  · rw [show cc0_transform_7 k0_off1_inb numel1_S1 (tabs (F := F)) i = _ from ix_key i]; exact inb_block 256 _ i
  · rw [show cc0_transform_8 k0_off1_inb numel1_S1 (tabs (F := F)) i = _ from ix_key i]; exact inb_block 128 _ i

/-- The tables, admissible. -/
def adm : (p : Fin 1) → (pcfgs (F := F) p).Adm := fun _ => ⟨tabs, tabs_ok⟩

/-- The pipeline at the host's tables. -/
abbrev cfgT : Cfg sig Λ₀ := Pipeline.pin (pcfgs (F := F)) adm 0

/-- The head of a point. -/
theorem head_of (t : Fin grid0.N) : (grid0.coords t 0).val = t.val / 36 := by
  have ht : t.val < 288 := Nat.lt_of_lt_of_eq t.isLt N_0
  have e0 : (grid0.coords t 0).val = t.val / 36 % 8 := Pipeline.Grid.coords_val t 0 (by decide) rfl
  omega

/-- The step of a point within its head. -/
theorem step_of (t : Fin grid0.N) : (grid0.coords t 1).val = t.val % 36 := by
  have e1 : (grid0.coords t 1).val = t.val / 1 % 36 := Pipeline.Grid.coords_val t 1 (by decide) rfl
  omega

end Cert.KernelIdeal.Gen

end
-- ==== Proof.Run.lean ====
module

public import proofs.«01_k».proof.Proof.Data

@[expose] public section

/-!
# The run of the whole call

The pipeline's data: inputs stay at their blocks, the gradient of `q` advances by `stepQ` at each point, the
gradients of `k` and `v` leave their accumulators at each key block's last point.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host's operations before the call. -/
abbrev hostAll : List (List (HloOp τ sig (Elt F))) := [hostOps0, hostOps0_1, hostOps0_2, hostOps0_3, hostOps0_4]

/-- What every buffer holds when the call is entered. -/
def V (c : Dev nD) (b : Ref sig .tc) : Buf (Elt F) ((c : Thread nD τ).loc b) :=
  StableHlo.after (hostAll (F := F)).flatten (fun b => m (c, b)) b

/-- Window `w`'s block at point `t`. -/
def iblk (c : Dev nD) (w : Fin 9) (t : Fin grid0.N) : (((cfgT (F := F)).win w).xblock (grid0.coords t)).Idx → Elt F ((cfgT (F := F)).win w).elt :=
  (((cfgT (F := F)).win w).blk t).view.read (Elt F) (V m c (Pipeline.arrRef spec0 w))

/-- The blocks of the six inputs at a point, at their shapes. -/
abbrev qB (c : Dev nD) (t : Fin grid0.N) : Vec F S1024x256 .bf16 := iblk m c 0 t
abbrev kB (c : Dev nD) (t : Fin grid0.N) : Vec F S1024x256 .bf16 := iblk m c 1 t
abbrev vB (c : Dev nD) (t : Fin grid0.N) : Vec F S1024x256 .bf16 := iblk m c 2 t
abbrev doB (c : Dev nD) (t : Fin grid0.N) : Vec F S1024x128 .bf16 := iblk m c 3 t
abbrev aoB (c : Dev nD) (t : Fin grid0.N) : Vec F S1024x128 .f32 := iblk m c 4 t
abbrev lseB (c : Dev nD) (t : Fin grid0.N) : Vec F S1024x128 .f32 := iblk m c 5 t

/-- The key block and the query block of a point. -/
abbrev kp (t : Fin grid0.N) : Fin 8 := kap (grid0.coords t 1)
abbrev bt (t : Fin grid0.N) : Fin 8 := bet (grid0.coords t 1)

/-- One point's change of the three results. -/
abbrev nextQ (c : Dev nD) (t : Fin grid0.N) (X : Vec F S8192x256 .f32) : Vec F S8192x256 .f32 :=
  stepQ (qB m c t) (kB m c t) (vB m c t) (doB m c t) (aoB m c t) (lseB m c t) (kp t) (bt t) X
abbrev nextK (c : Dev nD) (t : Fin grid0.N) (X : Vec F S1024x256 .f32) : Vec F S1024x256 .f32 :=
  stepK (qB m c t) (kB m c t) (vB m c t) (doB m c t) (aoB m c t) (lseB m c t) (kp t) (bt t) X
abbrev nextV (c : Dev nD) (t : Fin grid0.N) (X : Vec F S1024x128 .f32) : Vec F S1024x128 .f32 :=
  stepV (qB m c t) (kB m c t) (doB m c t) (lseB m c t) (kp t) (bt t) X

/-- The accumulator of the gradient of `k` before point `n`. -/
def dkAt (c : Dev nD) : ℕ → Vec F S1024x256 .f32
  | 0 => fun _ => Scalar.ofBits .f32 0#32
  | n + 1 => if h : n < grid0.N then nextK m c ⟨n, h⟩ (dkAt c n) else dkAt c n

/-- The accumulator of the gradient of `v` before point `n`. -/
def dvAt (c : Dev nD) : ℕ → Vec F S1024x128 .f32
  | 0 => fun _ => Scalar.ofBits .f32 0#32
  | n + 1 => if h : n < grid0.N then nextV m c ⟨n, h⟩ (dvAt c n) else dvAt c n

theorem dkAt_succ (c : Dev nD) (t : Fin grid0.N) : dkAt m c (t.val + 1) = nextK m c t (dkAt m c t.val) := by
  show (if h : t.val < grid0.N then _ else _) = _
  rw [dif_pos t.isLt]
theorem dvAt_succ (c : Dev nD) (t : Fin grid0.N) : dvAt m c (t.val + 1) = nextV m c t (dvAt m c t.val) := by
  show (if h : t.val < grid0.N then _ else _) = _
  rw [dif_pos t.isLt]

/-- The two accumulators. -/
abbrev accK : Memref sig .tc .vmem S1024x256 .f32 := Memref.whole cc0_scratch0
abbrev accV : Memref sig .tc .vmem S1024x128 .f32 := Memref.whole cc0_scratch1

/-- The two tables, as the body may read them. -/
def held (c : Dev nD) : sProp 𝕄 :=
  iprop(((Memref.whole main_c : Memref sig .tc .smem S36 .i32).view.loc (c : Thread nD τ) ↦{fullShare.right} (tabs (F := F) 0))
    ∗ ((Memref.whole main_c_0 : Memref sig .tc .smem S36 .i32).view.loc (c : Thread nD τ) ↦{fullShare.right} (tabs (F := F) 1)))

/-- The invariant between points: the accumulators, the generator's register and the tables. -/
def inv (c : Dev nD) (n : ℕ) : sProp 𝕄 :=
  iprop(∃ a b, ⌜n ≠ 0 → a = dkAt m c n ∧ b = dvAt m c n⌝ ∗ owns (c : Thread nD τ) accK fullShare a ∗ owns (c : Thread nD τ) accV fullShare b
    ∗ (∃ r, prngReg c r) ∗ held (F := F) c)

/-- The exact part of the data: the inputs' blocks. -/
def dat (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfgT (F := F)) ⟨6, h⟩ t
    | ⟨7, h⟩ => Pipeline.Dat.unnamed (cfg := cfgT (F := F)) ⟨7, h⟩ t
    | ⟨8, h⟩ => Pipeline.Dat.unnamed (cfg := cfgT (F := F)) ⟨8, h⟩ t
  Φ t := inv m c t.val
  q _ := fullShare
  owed _ := 0

/-- What a point leaves in an output's buffer, given what it found there. -/
def outs (c : Dev nD) : (w : Fin (cfgT (F := F)).W) → Option (Fin (cfgT (F := F)).N → (Y X : ((cfgT (F := F)).win w).block.Idx → Elt F ((cfgT (F := F)).win w).elt) → Prop)
  | ⟨6, _⟩ => some fun t Y X => X = nextQ m c t Y
  | ⟨7, _⟩ => some fun t Y X => X = if bt t = 7 then k0_pay6 (dkAt m c (t.val + 1)) else Y
  | ⟨8, _⟩ => some fun t Y X => X = if bt t = 7 then dvAt m c (t.val + 1) else Y
  | _ => none

/-- The pipeline's data. -/
def rdat (c : Dev nD) : RDat τ (Elt F) Unit ℕ (UR sig nD τ) ℕ (cfgT (F := F)) c := (dat m c).toR.override (outs m c)

theorem rdat_A (c : Dev nD) (w : Fin (cfgT (F := F)).W) : (rdat m c).A w = V m c (Pipeline.arrRef spec0 w) := rfl

theorem dat_A (c : Dev nD) (w : Fin (cfgT (F := F)).W) : (dat m c).A w = V m c (Pipeline.arrRef spec0 w) := by dsimp only [dat]

/-- An input window left at its block holds its block at every point. -/
theorem found_of (c : Dev nD) (w : Fin (cfgT (F := F)).W) (t : Fin (cfgT (F := F)).N)
    (hb : ∀ d, (dat m c).before w t d = (dat m c).fetched w t d) (hf : ∀ d, (dat m c).fetched w t d = iblk m c w t)
    (ho : outs m c w = none) (X) (h : (rdat m c).Finds w t X) : X = iblk m c w t := by
  obtain ⟨d, rfl⟩ := (dat m c).toR_finds _ t X (((dat m c).toR.override_finds ho t X).1 h)
  rw [hb, hf]

theorem found0 (c : Dev nD) (t : Fin (cfgT (F := F)).N) (X) (h : (rdat m c).Finds 0 t X) : X = iblk m c 0 t :=
  found_of m c 0 t
    (fun d => (dat m c).before_in_eq_fetched 0 rfl (fun _ => rfl) (fun _ _ _ => rfl)
      (fun t => (show (dat m c).after 0 t = iblk m c 0 t by dsimp only [dat]; rfl).trans (by unfold Dat.blockOf iblk; rw [dat_A]; try rfl)) t d)
    (fun d => by unfold Dat.fetched Dat.blockOf iblk; rw [dat_A]; try rfl) rfl X h
theorem found1 (c : Dev nD) (t : Fin (cfgT (F := F)).N) (X) (h : (rdat m c).Finds 1 t X) : X = iblk m c 1 t :=
  found_of m c 1 t
    (fun d => (dat m c).before_in_eq_fetched 1 rfl (fun _ => rfl) (fun _ _ _ => rfl)
      (fun t => (show (dat m c).after 1 t = iblk m c 1 t by dsimp only [dat]; rfl).trans (by unfold Dat.blockOf iblk; rw [dat_A]; try rfl)) t d)
    (fun d => by unfold Dat.fetched Dat.blockOf iblk; rw [dat_A]; try rfl) rfl X h
theorem found2 (c : Dev nD) (t : Fin (cfgT (F := F)).N) (X) (h : (rdat m c).Finds 2 t X) : X = iblk m c 2 t :=
  found_of m c 2 t
    (fun d => (dat m c).before_in_eq_fetched 2 rfl (fun _ => rfl) (fun _ _ _ => rfl)
      (fun t => (show (dat m c).after 2 t = iblk m c 2 t by dsimp only [dat]; rfl).trans (by unfold Dat.blockOf iblk; rw [dat_A]; try rfl)) t d)
    (fun d => by unfold Dat.fetched Dat.blockOf iblk; rw [dat_A]; try rfl) rfl X h
theorem found3 (c : Dev nD) (t : Fin (cfgT (F := F)).N) (X) (h : (rdat m c).Finds 3 t X) : X = iblk m c 3 t :=
  found_of m c 3 t
    (fun d => (dat m c).before_in_eq_fetched 3 rfl (fun _ => rfl) (fun _ _ _ => rfl)
      (fun t => (show (dat m c).after 3 t = iblk m c 3 t by dsimp only [dat]; rfl).trans (by unfold Dat.blockOf iblk; rw [dat_A]; try rfl)) t d)
    (fun d => by unfold Dat.fetched Dat.blockOf iblk; rw [dat_A]; try rfl) rfl X h
theorem found4 (c : Dev nD) (t : Fin (cfgT (F := F)).N) (X) (h : (rdat m c).Finds 4 t X) : X = iblk m c 4 t :=
  found_of m c 4 t
    (fun d => (dat m c).before_in_eq_fetched 4 rfl (fun _ => rfl) (fun _ _ _ => rfl)
      (fun t => (show (dat m c).after 4 t = iblk m c 4 t by dsimp only [dat]; rfl).trans (by unfold Dat.blockOf iblk; rw [dat_A]; try rfl)) t d)
    (fun d => by unfold Dat.fetched Dat.blockOf iblk; rw [dat_A]; try rfl) rfl X h
theorem found5 (c : Dev nD) (t : Fin (cfgT (F := F)).N) (X) (h : (rdat m c).Finds 5 t X) : X = iblk m c 5 t :=
  found_of m c 5 t
    (fun d => (dat m c).before_in_eq_fetched 5 rfl (fun _ => rfl) (fun _ _ _ => rfl)
      (fun t => (show (dat m c).after 5 t = iblk m c 5 t by dsimp only [dat]; rfl).trans (by unfold Dat.blockOf iblk; rw [dat_A]; try rfl)) t d)
    (fun d => by unfold Dat.fetched Dat.blockOf iblk; rw [dat_A]; try rfl) rfl X h

end Cert.KernelIdeal.Gen

end
-- ==== Proof.Obligation.lean ====
module

public import proofs.«01_k».proof.Proof.Run

@[expose] public section

/-!
# The body keeps the data's promise

At every point of the grid the body, run on what the pipeline hands it, leaves what the data say.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem kap_start : ∀ p : Fin 36, p.val = 0 → kap p = bet p := by decide +kernel

theorem dkAt_start (c : Dev nD) (t : Fin grid0.N) (h : kp t = bt t) (X : Vec F S1024x256 .f32) : nextK m c t X = nextK m c t (dkAt m c t.val) := by
  unfold nextK stepK; rw [if_pos h, if_pos h]
theorem dvAt_start (c : Dev nD) (t : Fin grid0.N) (h : kp t = bt t) (X : Vec F S1024x128 .f32) : nextV m c t X = nextV m c t (dvAt m c t.val) := by
  unfold nextV stepV; rw [if_pos h, if_pos h]

/-- After a point the accumulators stand at their next values, whatever the first point found there. -/
theorem next_acc (c : Dev nD) (t : Fin grid0.N) (a : Vec F S1024x256 .f32) (b : Vec F S1024x128 .f32)
    (h : t.val ≠ 0 → a = dkAt m c t.val ∧ b = dvAt m c t.val) :
    nextK m c t a = dkAt m c (t.val + 1) ∧ nextV m c t b = dvAt m c (t.val + 1) := by
  rw [dkAt_succ, dvAt_succ]
  by_cases hz : t.val = 0
  · have hk : kp t = bt t := by
      exact kap_start _ (by rw [step_of, hz])
    exact ⟨dkAt_start m c t hk a, dvAt_start m c t hk b⟩
  · obtain ⟨ha, hb⟩ := h hz
    rw [ha, hb]; exact ⟨rfl, rfl⟩

theorem ovr_out (c : Dev nD) (w : Fin (cfgT (F := F)).W) (R) (h : outs m c w = some R) (t) (Y X) (hR : R t Y X) : (rdat m c).after w t Y X := by
  unfold rdat; rw [RDat.override_after_of_eq_some _ h]; exact hR
theorem ovr_in (c : Dev nD) (w : Fin (cfgT (F := F)).W) (h : outs m c w = none) (t) (Y X) (hR : (dat m c).Leaves w t X) : (rdat m c).after w t Y X := by
  unfold rdat; rw [RDat.override_after_of_eq_none _ h]; exact hR

/-- The body at a point of the grid, as the pipeline calls it. -/
theorem row (t : Fin (cfgT (F := F)).N) : defs₀ (F := F) .tc (cfgT (F := F)).body ((cfgT (F := F)).bodyArgs t ((cfgT (F := F)).slots t))
    = cc0_flash_bwd (grid0.coords t) (Memref.whole main_c) (Memref.isWhole_whole _) (Memref.whole main_c_0) (Memref.isWhole_whole _)
      (spec0_0.stage ((cfgT (F := F)).slots t 0)) (hstage0_0 (((cfgT (F := F)).slots t 0).cast nbuf0_0))
      (spec0_1.stage ((cfgT (F := F)).slots t 1)) (hstage0_1 (((cfgT (F := F)).slots t 1).cast nbuf0_1))
      (spec0_2.stage ((cfgT (F := F)).slots t 2)) (hstage0_2 (((cfgT (F := F)).slots t 2).cast nbuf0_2))
      (spec0_3.stage ((cfgT (F := F)).slots t 3)) (hstage0_3 (((cfgT (F := F)).slots t 3).cast nbuf0_3))
      (spec0_4.stage ((cfgT (F := F)).slots t 4)) (hstage0_4 (((cfgT (F := F)).slots t 4).cast nbuf0_4))
      (spec0_5.stage ((cfgT (F := F)).slots t 5)) (hstage0_5 (((cfgT (F := F)).slots t 5).cast nbuf0_5))
      (spec0_6.stage ((cfgT (F := F)).slots t 6)) (hstage0_6 (((cfgT (F := F)).slots t 6).cast nbuf0_6))
      (spec0_7.stage ((cfgT (F := F)).slots t 7)) (hstage0_7 (((cfgT (F := F)).slots t 7).cast nbuf0_7))
      (spec0_8.stage ((cfgT (F := F)).slots t 8)) (hstage0_8 (((cfgT (F := F)).slots t 8).cast nbuf0_8))
      accK (Memref.isWhole_whole _) accV (Memref.isWhole_whole _) := by
  unfold defs₀; rw [Defs.onTc_tc]

/-- The body at a point, on any buffers: from the invariant and the inputs' blocks to the invariant at the next
    point, the outputs advanced. -/
theorem point (c : Dev nD) (t : Fin grid0.N) (O : sProp 𝕄)
    (a4 : Memref sig .tc .vmem S1024x256 .bf16) (h4 : a4.IsWhole) (a5 : Memref sig .tc .vmem S1024x256 .bf16) (h5 : a5.IsWhole)
    (a6 : Memref sig .tc .vmem S1024x256 .bf16) (h6 : a6.IsWhole) (a7 : Memref sig .tc .vmem S1024x128 .bf16) (h7 : a7.IsWhole)
    (a8 : Memref sig .tc .vmem S1024x128 .f32) (h8 : a8.IsWhole) (a9 : Memref sig .tc .vmem S1024x128 .f32) (h9 : a9.IsWhole)
    (a10 : Memref sig .tc .vmem S8192x256 .f32) (h10 : a10.IsWhole) (a11 : Memref sig .tc .vmem S1024x256 .f32) (h11 : a11.IsWhole)
    (a12 : Memref sig .tc .vmem S1024x128 .f32) (h12 : a12.IsWhole)
    (Y6 : Vec F S8192x256 .f32) (Y7 : Vec F S1024x256 .f32) (Y8 : Vec F S1024x128 .f32) :
    iprop(inv m c t.val ∗ O ∗ owns (c : Thread nD τ) a4 fullShare (qB m c t) ∗ owns (c : Thread nD τ) a5 fullShare (kB m c t)
        ∗ owns (c : Thread nD τ) a6 fullShare (vB m c t) ∗ owns (c : Thread nD τ) a7 fullShare (doB m c t)
        ∗ owns (c : Thread nD τ) a8 fullShare (aoB m c t) ∗ owns (c : Thread nD τ) a9 fullShare (lseB m c t)
        ∗ owns (c : Thread nD τ) a10 fullShare Y6 ∗ owns (c : Thread nD τ) a11 fullShare Y7 ∗ owns (c : Thread nD τ) a12 fullShare Y8)
      ⊢ wp frame (wpE (defs₀ (F := F)) Variants.none c none) Set.univ
          (cc0_flash_bwd (grid0.coords t) (Memref.whole main_c) (Memref.isWhole_whole _) (Memref.whole main_c_0) (Memref.isWhole_whole _)
            a4 h4 a5 h5 a6 h6 a7 h7 a8 h8 a9 h9 a10 h10 a11 h11 a12 h12 accK (Memref.isWhole_whole _) accV (Memref.isWhole_whole _))
          fun _ => iprop(inv m c (t.val + 1) ∗ O ∗ owns (c : Thread nD τ) a4 fullShare (qB m c t) ∗ owns (c : Thread nD τ) a5 fullShare (kB m c t)
            ∗ owns (c : Thread nD τ) a6 fullShare (vB m c t) ∗ owns (c : Thread nD τ) a7 fullShare (doB m c t)
            ∗ owns (c : Thread nD τ) a8 fullShare (aoB m c t) ∗ owns (c : Thread nD τ) a9 fullShare (lseB m c t)
            ∗ owns (c : Thread nD τ) a10 fullShare (nextQ m c t Y6)
            ∗ owns (c : Thread nD τ) a11 fullShare (if bt t = 7 then k0_pay6 (dkAt m c (t.val + 1)) else Y7)
            ∗ owns (c : Thread nD τ) a12 fullShare (if bt t = 7 then dvAt m c (t.val + 1) else Y8)) := by
  unfold inv held
  iintro ⟨⟨%a, %b, %hab, HA, HB, Hg, HT0, HT1⟩, Ho, H0, H1, H2, H3, H4, H5, H6, H7, H8⟩
  obtain ⟨eK, eV⟩ := next_acc m c t a b hab
  rw [← eK, ← eV]
  iapply (body c (grid0.coords t) (Memref.whole main_c) (Memref.isWhole_whole _) (Memref.whole main_c_0) (Memref.isWhole_whole _)
      a4 h4 a5 h5 a6 h6 a7 h7 a8 h8 a9 h9 a10 h10 a11 h11 a12 h12 accK (Memref.isWhole_whole _) accV (Memref.isWhole_whole _)
      (tabs (F := F) 0) (tabs (F := F) 1) (qB m c t) (kB m c t) (vB m c t) (doB m c t) (aoB m c t) (lseB m c t) Y6 Y7 Y8 a b
      (kp t) (bt t) (kap_le _) (fun x => (tabs_key (F := F) _ _ (k0_off1_eq _) _ x).symm) (fun x => (tabs_query (F := F) _ _ (k0_off1_eq _) _ x).symm) Set.univ _)
  isplitl [HT0 HT1 H0 H1 H2 H3 H4 H5]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    iexact H5
  isplitl [HA HB H6 H7 H8]
  · isplitl [H6]; · iexact H6
    isplitl [H7]; · iexact H7
    isplitl [H8]; · iexact H8
    isplitl [HA]; · iexact HA
    iexact HB
  iintro ⟨⟨HT0, HT1, H0, H1, H2, H3, H4, H5⟩, H6, H7, H8, HA, HB⟩
  isplitl [HA HB Hg HT0 HT1]
  · iexists _; iexists _
    isplitr
    swap
    · isplitl [HA]; · iexact HA
      isplitl [HB]; · iexact HB
      isplitl [Hg]; · iexact Hg
      isplitl [HT0]; · iexact HT0
      iexact HT1
    · ipureintro; exact fun _ => ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- One buffer found at contents known to be `B`. -/
theorem own_of (c : Dev nD) {s : Shape} {e : EltTy} (a : Memref sig .tc .vmem s e) {Y B : s.Idx → Elt F e} (h : Y = B) :
    (owns (c : Thread nD τ) a fullShare Y : sProp 𝕄) ⊢ owns (c : Thread nD τ) a fullShare B := by rw [h]

/-- One buffer left at contents in a relation. -/
theorem own_ex (c : Dev nD) {s : Shape} {e : EltTy} (a : Memref sig .tc .vmem s e) (R : (s.Idx → Elt F e) → Prop) {B : s.Idx → Elt F e} (h : R B) :
    (owns (c : Thread nD τ) a fullShare B : sProp 𝕄) ⊢ iprop(∃ X, ⌜R X⌝ ∗ owns (c : Thread nD τ) a fullShare X) := by
  iintro H; iexists _; isplitr; swap
  · iexact H
  · ipureintro; exact h

theorem Phi_at (c : Dev nD) (n : Fin ((cfgT (F := F)).N + 1)) : (rdat m c).Φ n = inv m c n.val := by
  unfold rdat; rw [RDat.override_Φ, Dat.toR_Φ]; dsimp only [dat]
theorem Phi_before (c : Dev nD) (t : Fin (cfgT (F := F)).N) : (rdat m c).Φ t.castSucc ⊢ inv m c t.val := by
  rw [Phi_at, Fin.val_castSucc]
theorem Phi_next (c : Dev nD) (t : Fin (cfgT (F := F)).N) : inv m c (t.val + 1) ⊢ (rdat m c).Φ t.succ := by
  rw [Phi_at, Fin.val_succ]
theorem owes_eq (c : Dev nD) (t : Fin (cfgT (F := F)).N) : (rdat m c).owesAt () t.castSucc = (rdat m c).owesAt () t.succ := by
  unfold RDat.owesAt RDat.bound rdat; rw [RDat.override_owed, RDat.override_recorded]; dsimp only [dat, Dat.toR]

set_option maxHeartbeats 1000000 in
/-- The body keeps the data's promise at every point. -/
theorem obligation (c : Dev nD) : (rdat m c).BodyObligation (defs₀ (F := F)) Variants.none () Set.univ := by
  intro t Y hY
  rw [bigSep_W0, bigSep_W0]
  refine triple_restated (point m c t ((rdat m c).owesAt () t.castSucc) _ _ _ _ _ _ _ _ _ _ _ _ _ _ _ _ _ _ (Y 6) (Y 7) (Y 8))
    (congrArg (wp frame (wpE (defs₀ (F := F)) Variants.none c none) Set.univ) (row t).symm) ?_ fun _ => ?_
  · refine BIClass.sep_mono (Phi_before m c t) (BIClass.sep_mono .rfl ?_)
    refine BIClass.sep_mono (own_of c _ (found0 m c t _ (hY 0))) (BIClass.sep_mono (own_of c _ (found1 m c t _ (hY 1))) (BIClass.sep_mono (own_of c _ (found2 m c t _ (hY 2)))
      (BIClass.sep_mono (own_of c _ (found3 m c t _ (hY 3))) (BIClass.sep_mono (own_of c _ (found4 m c t _ (hY 4))) (BIClass.sep_mono (own_of c _ (found5 m c t _ (hY 5))) .rfl)))))
  · refine BIClass.sep_mono (Phi_next m c t) (BIClass.sep_mono (BIBase.Entails.of_eq (owes_eq m c t)) ?_)
    refine BIClass.sep_mono (own_ex c _ _ ?_) (BIClass.sep_mono (own_ex c _ _ ?_) (BIClass.sep_mono (own_ex c _ _ ?_) (BIClass.sep_mono (own_ex c _ _ ?_) (BIClass.sep_mono (own_ex c _ _ ?_)
      (BIClass.sep_mono (own_ex c _ _ ?_) (BIClass.sep_mono (own_ex c _ _ ?_) (BIClass.sep_mono (own_ex c _ _ ?_) (own_ex c _ _ ?_))))))))
    · exact ovr_in m c 0 rfl t _ _ rfl
    · exact ovr_in m c 1 rfl t _ _ rfl
    · exact ovr_in m c 2 rfl t _ _ rfl
    · exact ovr_in m c 3 rfl t _ _ rfl
    · exact ovr_in m c 4 rfl t _ _ rfl
    · exact ovr_in m c 5 rfl t _ _ rfl
    · exact ovr_out m c 6 _ rfl t _ _ rfl
    · exact ovr_out m c 7 _ rfl t _ _ rfl
    · exact ovr_out m c 8 _ rfl t _ _ rfl

end Cert.KernelIdeal.Gen

end
-- ==== Proof.Frame.lean ====
module

public import proofs.«01_k».proof.Proof.Obligation
public import Idealize.ShloMosaic.Lib.StableHlo.RunRead

@[expose] public section

/-!
# The launch and the frame

The host's operations run before the call, the call runs by its data, and the arguments end unchanged.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the host's operations write, in order. -/
def written : List (Ref sig .tc) :=
  [main_c, main_c_0, main_v0, main_v1, main_v2, main_v3, main_v4, main_v5, main_v6, main_v7, main_v8, main_v9, main_cst,
   main_call0_v0, main_call0_v1, main_call0_v2, main_v10,
   main_cst_1, main_v11, main_v12, main_v13, main_v14, main_v15, main_cst_2, main_v16, main_v17, main_v18, main_v19,
   main_v20, main_v21, main_v22, main_v23, main_v24, main_cst_3, main_v25, main_v26, main_v27, main_v28, main_v29,
   main_v30, main_v31, main_c_4, main_call1_v0, main_v32,
   main_v33, main_v34, main_v35, main_v36, main_v37, main_v38, main_v39, main_v40, main_v41]

theorem written_eq : (hostAll (F := F)).flatten.map HloOp.writes = written.map fun w => {Proc.devRef (τ := τ) .tc w} := rfl

theorem V_arg (c : Dev nD) (r : Ref sig .tc) (h : r ∉ written) : V m c r = m ((c : Thread nD τ).loc r) :=
  StableHlo.after_unwritten written written_eq h _

theorem V_key (c : Dev nD) : V m c main_c = tabs (F := F) 0 := by
  refine (StableHlo.after_last_write (i := 0) (written.drop 1) rfl rfl (by decide) _).trans ?_
  exact StableHlo.nullary_result' ..

theorem V_query (c : Dev nD) : V m c main_c_0 = tabs (F := F) 1 := by
  refine (StableHlo.after_last_write (i := 1) (written.drop 2) rfl rfl (by decide) _).trans ?_
  exact StableHlo.nullary_result' ..

theorem pref_eq (c : Dev nD) : ∀ k, V m c ((pcfgs (F := F) 0).pre.ref k) = (adm (F := F) 0).1 k
  | ⟨0, _⟩ => V_key m c
  | ⟨1, _⟩ => V_query m c

/-- The tables, as the region's shares hold them. -/
theorem tables_eq (c : Dev nD) : (Pipeline.ΦT (pcfgs (F := F) 0).pre (adm (F := F) 0).1 c : sProp 𝕄) = held (F := F) c :=
  bigSep_univ_eq_bigSepL [(0 : Fin 2), (1 : Fin 2)] (by decide) (by decide) _

theorem hin (c : Dev nD) : iprop(Pipeline.ΦA spec0 c ∗ Pipeline.ΦT (pcfgs (F := F) 0).pre (adm (F := F) 0).1 c) ⊢ (rdat m c).Φ 0 := by
  rw [Phi_at, tables_eq]
  unfold Pipeline.ΦA inv
  rw [scopedRest0_eq]
  simp only [owns_whole]
  iintro ⟨⟨⟨H0, H1⟩, Hg⟩, Ht⟩
  icases H0 with ⟨%a, H0⟩
  icases H1 with ⟨%b, H1⟩
  iexists a
  iexists b
  isplitr
  · ipureintro; exact fun h => absurd rfl h
  isplitl [H0]
  · iexact H0
  isplitl [H1]
  · iexact H1
  isplitl [Hg]
  · iexact Hg
  iexact Ht

theorem hout (c : Dev nD) : (rdat m c).Φ (Fin.last (cfgT (F := F)).N) ⊢ Pipeline.ΦA spec0 c := by
  rw [Phi_at]
  unfold Pipeline.ΦA inv
  rw [scopedRest0_eq]
  simp only [owns_whole]
  iintro ⟨%a, %b, -, H0, H1, Hg, -⟩
  isplitl [H0 H1]
  · isplitl [H0]
    · iexists a; iexact H0
    iexists b; iexact H1
  iexact Hg

theorem hmain (𝒱₀ : Variants) : Pipeline.HMainP (Ix := Unit) (Name := ℕ) (U := UR sig nD τ) (Lvl := ℕ) (pcfgs (F := F)) 0 (defs₀ (F := F)) 𝒱₀ m (main (F := F)) (V m) :=
  Pipeline.hmainP_prefixes (pcfgs (F := F)) 0 defs₀ 𝒱₀ m main hostAll
    ⟨hostOps0_sub, hostOps0_1_sub, hostOps0_2_sub, hostOps0_3_sub, hostOps0_4_sub⟩
    (by simp only [List.Forall]; repeat' apply And.intro
        all_goals rfl)
    main_chain

theorem share_full (c : Dev nD) (w : Fin (cfgT (F := F)).W) : (rdat m c).share w = fullShare := by
  unfold rdat
  rw [RDat.override_share]
  unfold RDat.share Dat.toR dat
  exact ite_self _

set_option backward.isDefEq.respectTransparency.types false in
/-- The run: every array as the data says, every other buffer as the host left it, every counter at zero. -/
theorem run_main : θ_run defs (onTc (τ := τ) (main (F := F))) (s₀ m ρ)
    (fun r => Pipeline.RDat.FramePost (cfgT (F := F)) (rdat m) (V m) r ∧ r.2.sem = fun _ => 0) :=
  Pipeline.RDat.θ_run_frameP_track (pcfgs (F := F)) adm 0 launch0 defs₀ Variants.none (rdat m) m ρ main
    (hbody := obligation m) (hshare := share_full m) (howed := fun _ _ => rfl) (V m) (hmain m Variants.none)
    (hA := fun _ _ => rfl) (hpf := pref_eq m) (hin := hin m) (hout := hout m) _ (hQ' := fun _ h => h)

theorem rest_arg0 : main_arg0 ∈ Pipeline.restRefs sig spec0 := by decide
theorem rest_arg1 : main_arg1 ∈ Pipeline.restRefs sig spec0 := by decide
theorem rest_arg2 : main_arg2 ∈ Pipeline.restRefs sig spec0 := by decide
theorem rest_arg3 : main_arg3 ∈ Pipeline.restRefs sig spec0 := by decide

/-- The arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hs⟩ => ⟨fun c =>
    ⟨((h c).2 main_arg0 rest_arg0).trans (V_arg m c _ (by decide)), ((h c).2 main_arg1 rest_arg1).trans (V_arg m c _ (by decide)),
     ((h c).2 main_arg2 rest_arg2).trans (V_arg m c _ (by decide)), ((h c).2 main_arg3 rest_arg3).trans (V_arg m c _ (by decide))⟩, hs⟩)
    (run_main m ρ)

end Cert.KernelIdeal.Gen

end
-- ==== Proof.KernelFrame.lean ====
module

public import proofs.«01_k».proof.Proof.Frame
public import proofs.«01_k».proof.Proof.Gen.Kernel.Launch
public import Idealize.ShloMosaic.PureOps.BitExact

@[expose] public section

/-!
# The frame of the kernel as printed

The kernel as printed differs from its idealized form in one word only, which the idealized form reads by its name.
With the name read as that word the two programs are one.
-/

set_option maxRecDepth 16384

noncomputable section

namespace Cert.Kernel.Gen

open Idealize.ShloMosaic Idealize.ShloMosaic.TcCoe Idealize.ShloMosaic.Tactic
open Idealize.SL.Sem

/-- At the words a named constant is its word. -/
local instance : Named Bits := ⟨fun _ _ {φ} b => Scalar.ofBits φ b⟩

/-- The kernel's frame. -/
def Ends : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- The frame of its idealized form, at the words. -/
def EndsNamed : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two are one statement. -/
theorem ends_eq : Ends = EndsNamed := by chain_rfl

/-- The arguments end as they were and every counter is at zero. -/
theorem frame : Ends :=
  Eq.mpr ends_eq (show EndsNamed from fun m g => Cert.KernelIdeal.Gen.frame m g)

end Cert.Kernel.Gen

end
-- ==== Proof.ReferenceFrame.lean ====
module

public import proofs.«01_k».proof.Proof.Gen.ReferenceIdeal.Run
public import Idealize.ShloMosaic.Lib.Quiescent

@[expose] public section

/-!
# The reference's frame

The reference is host code alone: it leaves its arguments as they were, and it declares no semaphore.
-/

noncomputable section

namespace Cert.ReferenceIdeal.Gen

open Idealize.ShloMosaic Idealize.ShloMosaic.TcCoe Idealize.SL.Sem

variable {F : FTy → Type} [FloatOps F] (m : (ℓ : Loc nD τ sig) → Buf (Elt F) ℓ) (g : Dev nD → PrngReg)

/-- The arguments end as they were and every counter is at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (Value.run m g)

end Cert.ReferenceIdeal.Gen

end
-- ==== Proof.Geometry.lean ====
module

public import proofs.«01_k».proof.Proof.Frame
public import Idealize.ShloMosaic.Lib.Pointwise

@[expose] public section

/-!
# Where a point's blocks lie

Element `(r, d)` of a window's block is row `1024·b + r`, column `n·h + d` of its array, for the point's
head `h` and the query or key block `b` that the tables name; the gradient of `q` is held for all rows.
-/

set_option maxRecDepth 16384

noncomputable section

namespace Cert.KernelIdeal.Gen

open Idealize.ShloMosaic Idealize.ShloMosaic.TcCoe Idealize.ShloMosaic.Tactic
open Idealize.ShloMosaic.Pipeline (Dat Cfg Window RDat)

variable {F : FTy → Type} [FloatOps F] [Named F]

/-- The head of a point. -/
abbrev hd (t : Fin grid0.N) : Fin 8 := grid0.coords t 0

/-- The step of a point within its head. -/
abbrev st (t : Fin grid0.N) : Fin 36 := grid0.coords t 1

/-- Row `r` of block `b` of 1024 rows. -/
def rowAt (b : Fin 8) (r : Fin 1024) : Fin 8192 := ⟨1024 * b.val + r.val, by omega⟩
/-- Column `d` of head `h` where a head has 256 columns. -/
def col256 (h : Fin 8) (d : Fin 256) : Fin 2048 := ⟨256 * h.val + d.val, by omega⟩
/-- Column `d` of head `h` where a head has 128 columns. -/
def col128 (h : Fin 8) (d : Fin 128) : Fin 1024 := ⟨128 * h.val + d.val, by omega⟩

theorem index_0 (t : Fin grid0.N) : ((cfgT (F := F)).win 0).index t = ![(bt t).val, (hd t).val] := ix_query (F := F) (grid0.coords t)
theorem index_1 (t : Fin grid0.N) : ((cfgT (F := F)).win 1).index t = ![(kp t).val, (hd t).val] := ix_key (F := F) (grid0.coords t)
theorem index_2 (t : Fin grid0.N) : ((cfgT (F := F)).win 2).index t = ![(kp t).val, (hd t).val] := ix_key (F := F) (grid0.coords t)
theorem index_3 (t : Fin grid0.N) : ((cfgT (F := F)).win 3).index t = ![(bt t).val, (hd t).val] := ix_query (F := F) (grid0.coords t)
theorem index_4 (t : Fin grid0.N) : ((cfgT (F := F)).win 4).index t = ![(bt t).val, (hd t).val] := ix_query (F := F) (grid0.coords t)
theorem index_5 (t : Fin grid0.N) : ((cfgT (F := F)).win 5).index t = ![(bt t).val, (hd t).val] := ix_query (F := F) (grid0.coords t)
theorem index_6 (t : Fin grid0.N) : ((cfgT (F := F)).win 6).index t = ![0, (hd t).val] := ix_all (grid0.coords t)
theorem index_7 (t : Fin grid0.N) : ((cfgT (F := F)).win 7).index t = ![(kp t).val, (hd t).val] := ix_key (F := F) (grid0.coords t)
theorem index_8 (t : Fin grid0.N) : ((cfgT (F := F)).win 8).index t = ![(kp t).val, (hd t).val] := ix_key (F := F) (grid0.coords t)

/-- A block's element, from its index and sizes. -/
theorem emb_of {w : Fin (cfgT (F := F)).W} {t : Fin grid0.N} (y : (((cfgT (F := F)).win w).xblock (grid0.coords t)).Idx)
    (hk : ((cfgT (F := F)).win w).kind = .blocked) (i : ((cfgT (F := F)).win w).shape.Idx)
    (h : ∀ a, ((cfgT (F := F)).win w).index t a * ((cfgT (F := F)).win w).size a + (y a).val = (i a).val) :
    (((cfgT (F := F)).win w).rect t).emb y = i :=
  funext fun a => Fin.ext ((((cfgT (F := F)).win w).rect_emb_val t y a hk).trans (h a))

theorem rect_0 (t : Fin grid0.N) (r : Fin 1024) (d : Fin 256) : (((cfgT (F := F)).win 0).rect t).emb (ix2 r d) = (ix2 (rowAt (bt t) r) (col256 (hd t) d) : S8192x2048.Idx) :=
  emb_of _ rfl _ fun a => by
    rw [index_0]
    match a with
    | ⟨0, _⟩ => show (bt t).val * 1024 + r.val = 1024 * (bt t).val + r.val; omega
    | ⟨1, _⟩ => show (hd t).val * 256 + d.val = 256 * (hd t).val + d.val; omega
theorem rect_1 (t : Fin grid0.N) (r : Fin 1024) (d : Fin 256) : (((cfgT (F := F)).win 1).rect t).emb (ix2 r d) = (ix2 (rowAt (kp t) r) (col256 (hd t) d) : S8192x2048.Idx) :=
  emb_of _ rfl _ fun a => by
    rw [index_1]
    match a with
    | ⟨0, _⟩ => show (kp t).val * 1024 + r.val = 1024 * (kp t).val + r.val; omega
    | ⟨1, _⟩ => show (hd t).val * 256 + d.val = 256 * (hd t).val + d.val; omega
theorem rect_2 (t : Fin grid0.N) (r : Fin 1024) (d : Fin 256) : (((cfgT (F := F)).win 2).rect t).emb (ix2 r d) = (ix2 (rowAt (kp t) r) (col256 (hd t) d) : S8192x2048.Idx) :=
  emb_of _ rfl _ fun a => by
    rw [index_2]
    match a with
    | ⟨0, _⟩ => show (kp t).val * 1024 + r.val = 1024 * (kp t).val + r.val; omega
    | ⟨1, _⟩ => show (hd t).val * 256 + d.val = 256 * (hd t).val + d.val; omega
theorem rect_3 (t : Fin grid0.N) (r : Fin 1024) (d : Fin 128) : (((cfgT (F := F)).win 3).rect t).emb (ix2 r d) = (ix2 (rowAt (bt t) r) (col128 (hd t) d) : S8192x1024.Idx) :=
  emb_of _ rfl _ fun a => by
    rw [index_3]
    match a with
    | ⟨0, _⟩ => show (bt t).val * 1024 + r.val = 1024 * (bt t).val + r.val; omega
    | ⟨1, _⟩ => show (hd t).val * 128 + d.val = 128 * (hd t).val + d.val; omega
theorem rect_4 (t : Fin grid0.N) (r : Fin 1024) (d : Fin 128) : (((cfgT (F := F)).win 4).rect t).emb (ix2 r d) = (ix2 (rowAt (bt t) r) (col128 (hd t) d) : S8192x1024.Idx) :=
  emb_of _ rfl _ fun a => by
    rw [index_4]
    match a with
    | ⟨0, _⟩ => show (bt t).val * 1024 + r.val = 1024 * (bt t).val + r.val; omega
    | ⟨1, _⟩ => show (hd t).val * 128 + d.val = 128 * (hd t).val + d.val; omega
theorem rect_5 (t : Fin grid0.N) (r : Fin 1024) (d : Fin 128) : (((cfgT (F := F)).win 5).rect t).emb (ix2 r d) = (ix2 (rowAt (bt t) r) (col128 (hd t) d) : S8192x1024.Idx) :=
  emb_of _ rfl _ fun a => by
    rw [index_5]
    match a with
    | ⟨0, _⟩ => show (bt t).val * 1024 + r.val = 1024 * (bt t).val + r.val; omega
    | ⟨1, _⟩ => show (hd t).val * 128 + d.val = 128 * (hd t).val + d.val; omega
theorem rect_6 (t : Fin grid0.N) (r : Fin 8192) (d : Fin 256) : (((cfgT (F := F)).win 6).rect t).emb (ix2 r d) = (ix2 r (col256 (hd t) d) : S8192x2048.Idx) :=
  emb_of _ rfl _ fun a => by
    rw [index_6]
    match a with
    | ⟨0, _⟩ => show 0 * 8192 + r.val = r.val; omega
    | ⟨1, _⟩ => show (hd t).val * 256 + d.val = 256 * (hd t).val + d.val; omega
theorem rect_7 (t : Fin grid0.N) (r : Fin 1024) (d : Fin 256) : (((cfgT (F := F)).win 7).rect t).emb (ix2 r d) = (ix2 (rowAt (kp t) r) (col256 (hd t) d) : S8192x2048.Idx) :=
  emb_of _ rfl _ fun a => by
    rw [index_7]
    match a with
    | ⟨0, _⟩ => show (kp t).val * 1024 + r.val = 1024 * (kp t).val + r.val; omega
    | ⟨1, _⟩ => show (hd t).val * 256 + d.val = 256 * (hd t).val + d.val; omega
theorem rect_8 (t : Fin grid0.N) (r : Fin 1024) (d : Fin 128) : (((cfgT (F := F)).win 8).rect t).emb (ix2 r d) = (ix2 (rowAt (kp t) r) (col128 (hd t) d) : S8192x1024.Idx) :=
  emb_of _ rfl _ fun a => by
    rw [index_8]
    match a with
    | ⟨0, _⟩ => show (kp t).val * 1024 + r.val = 1024 * (kp t).val + r.val; omega
    | ⟨1, _⟩ => show (hd t).val * 128 + d.val = 128 * (hd t).val + d.val; omega

variable (m : (ℓ : Loc nD τ sig) → Buf (Elt F) ℓ) (c : Dev nD)

/-! ### What a point reads -/

theorem qB_at (t : Fin grid0.N) (r : Fin 1024) (d : Fin 256) : qB m c t (ix2 r d) = V m c main_v35 (ix2 (rowAt (bt t) r) (col256 (hd t) d) : S8192x2048.Idx) :=
  congrArg (V m c main_v35) (rect_0 (F := F) t r d)
theorem kB_at (t : Fin grid0.N) (r : Fin 1024) (d : Fin 256) : kB m c t (ix2 r d) = V m c main_v36 (ix2 (rowAt (kp t) r) (col256 (hd t) d) : S8192x2048.Idx) :=
  congrArg (V m c main_v36) (rect_1 (F := F) t r d)
theorem vB_at (t : Fin grid0.N) (r : Fin 1024) (d : Fin 256) : vB m c t (ix2 r d) = V m c main_v38 (ix2 (rowAt (kp t) r) (col256 (hd t) d) : S8192x2048.Idx) :=
  congrArg (V m c main_v38) (rect_2 (F := F) t r d)
theorem doB_at (t : Fin grid0.N) (r : Fin 1024) (d : Fin 128) : doB m c t (ix2 r d) = V m c main_v39 (ix2 (rowAt (bt t) r) (col128 (hd t) d) : S8192x1024.Idx) :=
  congrArg (V m c main_v39) (rect_3 (F := F) t r d)
theorem aoB_at (t : Fin grid0.N) (r : Fin 1024) (d : Fin 128) : aoB m c t (ix2 r d) = V m c main_v40 (ix2 (rowAt (bt t) r) (col128 (hd t) d) : S8192x1024.Idx) :=
  congrArg (V m c main_v40) (rect_4 (F := F) t r d)
theorem lseB_at (t : Fin grid0.N) (r : Fin 1024) (d : Fin 128) : lseB m c t (ix2 r d) = V m c main_v41 (ix2 (rowAt (bt t) r) (col128 (hd t) d) : S8192x1024.Idx) :=
  congrArg (V m c main_v41) (rect_5 (F := F) t r d)

/-! ### When a block is written back -/

/-- The grid's point of head `h` and step `p`. -/
def pt (h : Fin 8) (p : Fin 36) : Fin grid0.N := ⟨36 * h.val + p.val, by rw [N_0]; omega⟩

theorem hd_val (t : Fin grid0.N) : (hd t).val = t.val / 36 := head_of t
theorem step_val (t : Fin grid0.N) : (st t).val = t.val % 36 := step_of t

theorem hd_pt (h : Fin 8) (p : Fin 36) : hd (pt h p) = h := Fin.ext ((hd_val _).trans (by show (36 * h.val + p.val) / 36 = h.val; omega))
theorem step_pt (h : Fin 8) (p : Fin 36) : st (pt h p) = p := Fin.ext ((step_val _).trans (by show (36 * h.val + p.val) % 36 = p.val; omega))

/-- A block is written back at the last point or where the next point's index differs. -/
theorem flush_iff (w : Fin (cfgT (F := F)).W) (ho : ((cfgT (F := F)).win w).isOut = true) (t : Fin grid0.N) :
    ((cfgT (F := F)).win w).flush t = true ↔ t.val + 1 = grid0.N ∨ ∃ h : t.val + 1 < grid0.N, ((cfgT (F := F)).win w).index ⟨t.val + 1, h⟩ ≠ ((cfgT (F := F)).win w).index t := by
  unfold Window.flush
  rw [ho, Bool.true_and, Bool.or_eq_true, decide_eq_true_iff, decide_eq_true_iff]

/-- The gradient of `q` is written back at the last point of a head. -/
theorem flush_6 (t : Fin grid0.N) : ((cfgT (F := F)).win 6).flush t = true ↔ t.val % 36 = 35 := by
  rw [flush_iff 6 rfl]
  have hN : grid0.N = 288 := N_0
  have ht : t.val < 288 := Nat.lt_of_lt_of_eq t.isLt N_0
  constructor
  · rintro (h | ⟨h, hne⟩)
    · omega
    · by_contra hc
      refine hne ?_
      rw [index_6, index_6]
      have e : (hd ⟨t.val + 1, h⟩).val = (hd t).val := by rw [hd_val, hd_val]; show (t.val + 1) / 36 = t.val / 36; omega
      rw [e]
  · intro h
    by_cases hl : t.val + 1 = 288
    · exact .inl (by omega)
    · refine .inr ⟨by omega, fun e => ?_⟩
      rw [index_6, index_6] at e
      have e1 : (hd ⟨t.val + 1, by omega⟩).val = (hd t).val := congrFun e 1
      rw [hd_val, hd_val] at e1
      have : (t.val + 1) / 36 = t.val / 36 := e1
      omega

/-- Within a head a key block changes only after the last query block. -/
theorem kap_next : ∀ p : Fin 36, ∀ h : p.val + 1 < 36, bet p ≠ 7 → kap ⟨p.val + 1, h⟩ = kap p := by decide +kernel
theorem kap_next_ne : ∀ p : Fin 36, ∀ h : p.val + 1 < 36, bet p = 7 → kap ⟨p.val + 1, h⟩ ≠ kap p := by decide +kernel
theorem bet_last : bet 35 = 7 := by decide +kernel

/-- A point whose window index is the key block and the head writes back exactly at the last query block. -/
theorem flush_key (w : Fin (cfgT (F := F)).W) (ho : ((cfgT (F := F)).win w).isOut = true)
    (hi : ∀ t t' : Fin grid0.N, ((cfgT (F := F)).win w).index t = ((cfgT (F := F)).win w).index t' ↔ kp t = kp t' ∧ hd t = hd t') (t : Fin grid0.N) :
    ((cfgT (F := F)).win w).flush t = true ↔ bt t = 7 := by
  rw [flush_iff w ho]
  have hN : grid0.N = 288 := N_0
  have ht : t.val < 288 := Nat.lt_of_lt_of_eq t.isLt N_0
  have hs := step_val t
  constructor
  · rintro (h | ⟨h, hne⟩)
    · have : st t = (35 : Fin 36) := Fin.ext (hs.trans (by show t.val % 36 = 35; omega))
      show bet (st t) = 7
      rw [this]; exact bet_last
    · by_contra hc
      refine hne ((hi _ _).2 ?_)
      have hlt : t.val % 36 + 1 < 36 := by
        by_contra hge
        have : st t = (35 : Fin 36) := Fin.ext (hs.trans (by show t.val % 36 = 35; omega))
        exact hc (by show bet (st t) = 7; rw [this]; exact bet_last)
      have hp : (st t).val + 1 < 36 := by rw [hs]; exact hlt
      have e : st ⟨t.val + 1, h⟩ = ⟨(st t).val + 1, hp⟩ := Fin.ext (by
        rw [step_val]
        show (t.val + 1) % 36 = (st t).val + 1
        rw [hs]; omega)
      refine ⟨?_, Fin.ext ?_⟩
      · show kap (st ⟨t.val + 1, h⟩) = kap (st t)
        rw [e]; exact kap_next _ hp hc
      · rw [hd_val, hd_val]; show (t.val + 1) / 36 = t.val / 36; omega
  · intro hb
    by_cases hl : t.val + 1 = 288
    · exact .inl (by omega)
    · refine .inr ⟨by omega, fun e => ?_⟩
      obtain ⟨e0, e1⟩ := (hi _ _).1 e
      have e1' := congrArg Fin.val e1
      rw [hd_val, hd_val] at e1'
      have e1'' : (t.val + 1) / 36 = t.val / 36 := e1'
      have hp : (st t).val + 1 < 36 := by rw [hs]; omega
      have e2 : st ⟨t.val + 1, by omega⟩ = ⟨(st t).val + 1, hp⟩ := Fin.ext (by
        rw [step_val]
        show (t.val + 1) % 36 = (st t).val + 1
        rw [hs]; omega)
      exact kap_next_ne (st t) hp hb ((congrArg kap e2).symm.trans e0)

/-- Two vectors of a block and a head are equal only if both are. -/
theorem pair_iff (a b a' b' : Fin 8) : (![a.val, b.val] : Fin 2 → ℕ) = ![a'.val, b'.val] ↔ a = a' ∧ b = b' :=
  ⟨fun h => ⟨Fin.ext (congrFun h 0), Fin.ext (congrFun h 1)⟩, fun ⟨h, h'⟩ => by rw [h, h']⟩

theorem flush_7 (t : Fin grid0.N) : ((cfgT (F := F)).win 7).flush t = true ↔ bt t = 7 :=
  flush_key 7 rfl (fun t t' => by rw [index_7, index_7]; exact pair_iff _ _ _ _) t
theorem flush_8 (t : Fin grid0.N) : ((cfgT (F := F)).win 8).flush t = true ↔ bt t = 7 :=
  flush_key 8 rfl (fun t t' => by rw [index_8, index_8]; exact pair_iff _ _ _ _) t

/-- Every key block has a last query block. -/
theorem last_of : ∀ b : Fin 8, ∃ p : Fin 36, kap p = b ∧ bet p = 7 := by decide +kernel

end Cert.KernelIdeal.Gen
end
-- ==== Proof.Tiles.lean ====
module

public import proofs.«01_k».proof.Proof.Steps
public import Idealize.ShloMosaic.Lib.Pointwise
public import Idealize.ShloMosaic.Lib.WordCmp

@[expose] public section

/-!
# The tiles of one grid point over the real numbers

At the ideal instance, where the blocks hold real numbers, each product a grid point forms is a finite
sum of real numbers: the probabilities, the gradients of the scores, and what is added to the gradients
of `q`, `k` and `v`. The numbers are named by the row and column of the whole head's matrices.
-/

set_option maxRecDepth 16384

noncomputable section

namespace Cert.KernelIdeal.Gen

open Idealize.ShloMosaic Idealize.ShloMosaic.TcCoe Idealize.ShloMosaic.Tactic
open Idealize.ShloMosaic.VecWindow

/-- The matrices of one head as the kernel reads them: the scaled `q`, `k`, `v`, the cotangent, the saved output, the saved log-sum-exp to base two. -/
structure Mats where
  q : ℕ → ℕ → ℝ
  k : ℕ → ℕ → ℝ
  v : ℕ → ℕ → ℝ
  g : ℕ → ℕ → ℝ
  o : ℕ → ℕ → ℝ
  l : ℕ → ℝ

namespace Mats

variable (M : Mats)

/-- The score of query `i` and key `j`. -/
def s (i j : ℕ) : ℝ := ∑ d : Fin 256, M.q i d.val * M.k j d.val

/-- The probability of query `i` and key `j`, zero after the query. -/
def p (i j : ℕ) : ℝ := if j ≤ i then Real.rpow 2 (M.s i j - M.l i) else 0

/-- The gradient of the probability of query `i` and key `j`. -/
def dp (i j : ℕ) : ℝ := ∑ d : Fin 128, M.g i d.val * M.v j d.val

/-- The row sum of the cotangent and the output. -/
def dl (i : ℕ) : ℝ := ∑ d : Fin 128, M.g i d.val * M.o i d.val

/-- The gradient of the score of query `i` and key `j`. -/
def ds (i j : ℕ) : ℝ := M.p i j * (M.dp i j - M.dl i)

theorem p_eq_zero {i j : ℕ} (h : i < j) : M.p i j = 0 := if_neg (by omega)

theorem ds_eq_zero {i j : ℕ} (h : i < j) : M.ds i j = 0 := by rw [ds, p_eq_zero M h, zero_mul]

end Mats

/-- The blocks of query block `β` and key block `κ` hold the head's matrices. -/
structure Holds (M : Mats) (κ β : ℕ) (x4 x5 x6 : Vec Ideal S1024x256 .bf16) (x7 : Vec Ideal S1024x128 .bf16) (x8 x9 : Vec Ideal S1024x128 .f32) : Prop where
  q : ∀ y, x4 y = ((M.q (1024 * β + (y 0).val) (y 1).val : ℝ) : EReal)
  k : ∀ y, x5 y = ((M.k (1024 * κ + (y 0).val) (y 1).val : ℝ) : EReal)
  v : ∀ y, (y 1).val < 128 → x6 y = ((M.v (1024 * κ + (y 0).val) (y 1).val : ℝ) : EReal)
  g : ∀ y, x7 y = ((M.g (1024 * β + (y 0).val) (y 1).val : ℝ) : EReal)
  o : ∀ y, x8 y = ((M.o (1024 * β + (y 0).val) (y 1).val : ℝ) : EReal)
  l : ∀ y, x9 y = ((M.l (1024 * β + (y 0).val) : ℝ) : EReal)

/-! ### Scalars -/

/-- A finite sum of real numbers is the real number of the sum. -/
theorem coe_sum {n : ℕ} (f : Fin n → ℝ) : ∑ x, ((f x : ℝ) : EReal) = ((∑ x, f x : ℝ) : EReal) := by
  induction n with
  | zero => simp
  | succ n ih => rw [Fin.sum_univ_castSucc, Fin.sum_univ_castSucc, ih, EReal.coe_add]

/-- A signed comparison of two small words is the comparison of the numbers. -/
theorem sge_iff (i o j : ℕ) (hi : i < 1024) (ho : o < 1024) (hj : j < 1024) :
    IntOp.cmpi CmpIPredicate.sge (IntOp.addi (BitVec.ofNat 32 i) (BitVec.ofNat 32 o)) (BitVec.ofNat 32 j) = if j ≤ o + i then 1#1 else 0#1 := by
  rw [WordCmp.addi_ofNat, WordCmp.cmpi_sge_ofNat (by omega) (by omega), Nat.add_comm i o]
  by_cases h : j ≤ o + i
  · rw [if_pos h, decide_eq_true h]; rfl
  · rw [if_neg h, decide_eq_false h]; rfl

/-- `2` to a difference of real numbers. -/
theorem exp2_coe (a b : ℝ) :
    FloatOps.exp2 (F := Ideal) (φ := .f32) (((a : ℝ) : EReal) - ((b : ℝ) : EReal)) = ((Real.rpow 2 (a - b) : ℝ) : EReal) := by
  rw [← EReal.coe_sub]
  exact Ideal.exp2_coe (a - b)

/-- The masked exponential of a score: `2` to it where the mask lets through, else zero. -/
theorem exp2_masked (c : Prop) [Decidable c] (a b : ℝ) :
    FloatOps.exp2 (F := Ideal) (φ := .f32) (Scalar.select (if c then 1#1 else 0#1) ((a : ℝ) : EReal) (Ideal.ofBits .f32 0xFF800000#32) - ((b : ℝ) : EReal))
      = ((if c then Real.rpow 2 (a - b) else 0 : ℝ) : EReal) := by
  by_cases h : c
  · rw [if_pos h, if_pos h]
    exact exp2_coe a b
  · rw [if_neg h, if_neg h]
    have e : Scalar.select 0#1 ((a : ℝ) : EReal) (Ideal.ofBits .f32 0xFF800000#32) = (⊥ : EReal) := by
      simp [Ideal.ofBits, Ideal.ieee]
      rfl
    rw [e, EReal.bot_sub]
    exact Ideal.exp2_bot

variable (M : Mats)

/-- A tile's masked probability. -/
theorem p_of (I J i o j : ℕ) (hi : i < 1024) (ho : o < 1024) (hj : j < 1024) (h : j ≤ o + i ↔ J ≤ I) :
    FloatOps.exp2 (F := Ideal) (φ := .f32) (Scalar.select (IntOp.cmpi CmpIPredicate.sge (IntOp.addi (BitVec.ofNat 32 i) (BitVec.ofNat 32 o)) (BitVec.ofNat 32 j))
        (∑ x : Fin 256, ((M.q I x.val : ℝ) : EReal) * ((M.k J x.val : ℝ) : EReal)) (Ideal.ofBits .f32 0xFF800000#32) - ((M.l I : ℝ) : EReal))
      = ((M.p I J : ℝ) : EReal) := by
  simp only [sge_iff i o j hi ho hj, ← EReal.coe_mul, coe_sum, h]
  exact exp2_masked _ _ _

/-- A tile's probability where no mask is needed. -/
theorem p_of_le (I J : ℕ) (h : J ≤ I) :
    FloatOps.exp2 (F := Ideal) (φ := .f32) ((∑ x : Fin 256, ((M.q I x.val : ℝ) : EReal) * ((M.k J x.val : ℝ) : EReal)) - ((M.l I : ℝ) : EReal))
      = ((M.p I J : ℝ) : EReal) := by
  simp only [← EReal.coe_mul, coe_sum, Mats.p, if_pos h]
  exact exp2_coe _ _

/-- A tile's gradient of a score. -/
theorem ds_of (I J : ℕ) :
    ((M.p I J : ℝ) : EReal) * ((∑ x : Fin 128, ((M.g I x.val : ℝ) : EReal) * ((M.v J x.val : ℝ) : EReal)) - ∑ x : Fin 128, ((M.g I x.val : ℝ) : EReal) * ((M.o I x.val : ℝ) : EReal))
      = ((M.ds I J : ℝ) : EReal) := by
  simp only [← EReal.coe_mul, coe_sum, ← EReal.coe_sub]
  rfl

/-- A product of two real matrices at an element, over the first `n` numbers. -/
theorem dot_of (n : ℕ) (f g : ℕ → ℝ) :
    ∑ x : Fin n, ((f x.val : ℝ) : EReal) * ((g x.val : ℝ) : EReal) = ((∑ x ∈ Finset.range n, f x * g x : ℝ) : EReal) := by
  simp only [← EReal.coe_mul, coe_sum]
  rw [Finset.sum_range]

section Windows

variable {M : Mats} {κ β : ℕ} {x4 x5 x6 : Vec Ideal S1024x256 .bf16} {x7 : Vec Ideal S1024x128 .bf16} {x8 x9 : Vec Ideal S1024x128 .f32}
variable (H : Holds M κ β x4 x5 x6 x7 x8 x9)
include H

/-- A window of the block of `q`. -/
theorem Holds.qw (a : ℕ) (size : Fin 2 → ℕ) (inb : ∀ c, (![a, 0] : Fin 2 → ℕ) c + (size : Fin 2 → ℕ) c ≤ S1024x256.size c) (y : (Rect.unit (s := S1024x256) ![a, 0] size inb).shape.Idx) :
    window x4 ![a, 0] size inb y = ((M.q (1024 * β + (a + (y 0).val)) (y 1).val : ℝ) : EReal) := by
  have h := H.q ((Rect.unit (s := S1024x256) ![a, 0] size inb).emb y)
  have e0 : (((Rect.unit (s := S1024x256) ![a, 0] size inb).emb y) 0).val = a + 1 * (y 0).val := rfl
  have e1 : (((Rect.unit (s := S1024x256) ![a, 0] size inb).emb y) 1).val = 0 + 1 * (y 1).val := rfl
  rw [e0, e1, one_mul, one_mul, zero_add] at h
  exact h

/-- A window of the block of `k`. -/
theorem Holds.kw (a : ℕ) (size : Fin 2 → ℕ) (inb : ∀ c, (![a, 0] : Fin 2 → ℕ) c + (size : Fin 2 → ℕ) c ≤ S1024x256.size c) (y : (Rect.unit (s := S1024x256) ![a, 0] size inb).shape.Idx) :
    window x5 ![a, 0] size inb y = ((M.k (1024 * κ + (a + (y 0).val)) (y 1).val : ℝ) : EReal) := by
  have h := H.k ((Rect.unit (s := S1024x256) ![a, 0] size inb).emb y)
  have e0 : (((Rect.unit (s := S1024x256) ![a, 0] size inb).emb y) 0).val = a + 1 * (y 0).val := rfl
  have e1 : (((Rect.unit (s := S1024x256) ![a, 0] size inb).emb y) 1).val = 0 + 1 * (y 1).val := rfl
  rw [e0, e1, one_mul, one_mul, zero_add] at h
  exact h

/-- A window of the block of `v`. -/
theorem Holds.vw (a n : ℕ) (inb : ∀ c, (![a, 0] : Fin 2 → ℕ) c + (![n, 128] : Fin 2 → ℕ) c ≤ S1024x256.size c) (y : (Rect.unit (s := S1024x256) ![a, 0] ![n, 128] inb).shape.Idx) :
    window x6 ![a, 0] ![n, 128] inb y = ((M.v (1024 * κ + (a + (y 0).val)) (y 1).val : ℝ) : EReal) := by
  have h := H.v ((Rect.unit (s := S1024x256) ![a, 0] ![n, 128] inb).emb y) (by show 0 + 1 * (y 1).val < 128; have : (y 1).val < 128 := (y 1).isLt; omega)
  have e0 : (((Rect.unit (s := S1024x256) ![a, 0] ![n, 128] inb).emb y) 0).val = a + 1 * (y 0).val := rfl
  have e1 : (((Rect.unit (s := S1024x256) ![a, 0] ![n, 128] inb).emb y) 1).val = 0 + 1 * (y 1).val := rfl
  rw [e0, e1, one_mul, one_mul, zero_add] at h
  exact h

/-- A window of the block of `g`. -/
theorem Holds.gw (a : ℕ) (size : Fin 2 → ℕ) (inb : ∀ c, (![a, 0] : Fin 2 → ℕ) c + (size : Fin 2 → ℕ) c ≤ S1024x128.size c) (y : (Rect.unit (s := S1024x128) ![a, 0] size inb).shape.Idx) :
    window x7 ![a, 0] size inb y = ((M.g (1024 * β + (a + (y 0).val)) (y 1).val : ℝ) : EReal) := by
  have h := H.g ((Rect.unit (s := S1024x128) ![a, 0] size inb).emb y)
  have e0 : (((Rect.unit (s := S1024x128) ![a, 0] size inb).emb y) 0).val = a + 1 * (y 0).val := rfl
  have e1 : (((Rect.unit (s := S1024x128) ![a, 0] size inb).emb y) 1).val = 0 + 1 * (y 1).val := rfl
  rw [e0, e1, one_mul, one_mul, zero_add] at h
  exact h

/-- A window of the block of `o`. -/
theorem Holds.ow (a : ℕ) (size : Fin 2 → ℕ) (inb : ∀ c, (![a, 0] : Fin 2 → ℕ) c + (size : Fin 2 → ℕ) c ≤ S1024x128.size c) (y : (Rect.unit (s := S1024x128) ![a, 0] size inb).shape.Idx) :
    window x8 ![a, 0] size inb y = ((M.o (1024 * β + (a + (y 0).val)) (y 1).val : ℝ) : EReal) := by
  have h := H.o ((Rect.unit (s := S1024x128) ![a, 0] size inb).emb y)
  have e0 : (((Rect.unit (s := S1024x128) ![a, 0] size inb).emb y) 0).val = a + 1 * (y 0).val := rfl
  have e1 : (((Rect.unit (s := S1024x128) ![a, 0] size inb).emb y) 1).val = 0 + 1 * (y 1).val := rfl
  rw [e0, e1, one_mul, one_mul, zero_add] at h
  exact h

/-- A window of the block of `l`. -/
theorem Holds.lw (a : ℕ) (size : Fin 2 → ℕ) (inb : ∀ c, (![a, 0] : Fin 2 → ℕ) c + (size : Fin 2 → ℕ) c ≤ S1024x128.size c) (y : (Rect.unit (s := S1024x128) ![a, 0] size inb).shape.Idx) :
    window x9 ![a, 0] size inb y = ((M.l (1024 * β + (a + (y 0).val)) : ℝ) : EReal) := by
  have h := H.l ((Rect.unit (s := S1024x128) ![a, 0] size inb).emb y)
  have e0 : (((Rect.unit (s := S1024x128) ![a, 0] size inb).emb y) 0).val = a + 1 * (y 0).val := rfl
  rw [e0, one_mul] at h
  exact h

end Windows

section Diag

variable {M : Mats} {β : ℕ} {x4 x5 x6 : Vec Ideal S1024x256 .bf16} {x7 : Vec Ideal S1024x128 .bf16} {x8 x9 : Vec Ideal S1024x128 .f32}
variable (H : Holds M β β x4 x5 x6 x7 x8 x9)
include H

/-- The probabilities of rows 0–255 of a diagonal point. -/
theorem diag0_p (i : Fin 256) (j : Fin 256) : k0_pay9 (F := Ideal) (window x5 ![0, 0] S256x256.size inb_S1024x256_S256x256_0_0) (window x4 ![0, 0] S256x256.size inb_S1024x256_S256x256_0_0) (window x9 ![0, 0] S256x1.size inb_S1024x128_S256x1_0_0) (ix2 i j) = ((M.p (1024 * β + i.val) (1024 * β + j.val) : ℝ) : EReal) := by
  pointwise [k0_pay9, k0_pay7, k0_pay8, k0_pay10]
  simp only [H.qw, H.kw, H.lw, ix2_0, ix2_1, zero_add]
  exact p_of M (1024 * β + i.val) (1024 * β + j.val) i.val 0 j.val (by omega) (by omega) (by omega) (by omega)

/-- The gradients of the scores of rows 0–255 of a diagonal point. -/
theorem diag0_ds (i : Fin 256) (j : Fin 256) : k0_pay12 (F := Ideal) (window x5 ![0, 0] S256x256.size inb_S1024x256_S256x256_0_0) (window x6 ![0, 0] S256x128.size inb_S1024x256_S256x128_0_0) (window x4 ![0, 0] S256x256.size inb_S1024x256_S256x256_0_0) (window x9 ![0, 0] S256x1.size inb_S1024x128_S256x1_0_0) (window x7 ![0, 0] S256x128.size inb_S1024x128_S256x128_0_0) (window x8 ![0, 0] S256x128.size inb_S1024x128_S256x128_0_0) (ix2 i j) = ((M.ds (1024 * β + i.val) (1024 * β + j.val) : ℝ) : EReal) := by
  pointwise [k0_pay12, k0_pay7, k0_pay8, k0_pay10]
  rw [diag0_p H]
  simp only [H.gw, H.vw, H.ow, ix2_0, ix2_1, zero_add]
  exact ds_of M _ _

/-- Rows 0–255 of the gradient of `q` after a diagonal point. -/
theorem diag0_Q (old : Vec Ideal S256x256 .f32) (i d : Fin 256) :
    dgQ0 x4 x5 x6 x7 x8 x9 old (ix2 i d) = old (ix2 i d) + ((∑ j ∈ Finset.range 256, M.ds (1024 * β + i.val) (1024 * β + j) * M.k (1024 * β + j) d.val : ℝ) : EReal) := by
  pointwise [dgQ0, k0_pay11, k0_pay13, k0_pay14, k0_pay15, k0_pay16, k0_pay7, k0_pay8, k0_pay10]
  simp only [diag0_ds H, H.kw, ix2_0, ix2_1, zero_add]
  exact congrArg _ (dot_of 256 (fun j => M.ds (1024 * β + i.val) (1024 * β + j)) (fun j => M.k (1024 * β + j) d.val))

/-- What rows 0–255 of a diagonal point add to the gradient of `k`. -/
theorem diag0_K (old : Vec Ideal S256x256 .f32) (j : Fin 256) (d : Fin 256) :
    dgK0 x4 x5 x6 x7 x8 x9 old (ix2 j d) = old (ix2 j d) + ((∑ i ∈ Finset.range 256, M.ds (1024 * β + i) (1024 * β + j.val) * M.q (1024 * β + i) d.val : ℝ) : EReal) := by
  pointwise [dgK0, k0_pay11, k0_pay13, k0_pay14, k0_pay15, k0_pay16, k0_pay7, k0_pay8, k0_pay10]
  simp only [diag0_ds H, H.qw, ix2_0, ix2_1, zero_add]
  exact congrArg _ (dot_of 256 (fun i => M.ds (1024 * β + i) (1024 * β + j.val)) (fun i => M.q (1024 * β + i) d.val))

/-- What rows 0–255 of a diagonal point add to the gradient of `v`. -/
theorem diag0_V (old : Vec Ideal S256x128 .f32) (j : Fin 256) (d : Fin 128) :
    dgV0 x4 x5 x7 x9 old (ix2 j d) = old (ix2 j d) + ((∑ i ∈ Finset.range 256, M.p (1024 * β + i) (1024 * β + j.val) * M.g (1024 * β + i) d.val : ℝ) : EReal) := by
  pointwise [dgV0, k0_pay11, k0_pay13, k0_pay14, k0_pay15, k0_pay16, k0_pay7, k0_pay8, k0_pay10]
  simp only [diag0_p H, H.gw, ix2_0, ix2_1, zero_add]
  exact congrArg _ (dot_of 256 (fun i => M.p (1024 * β + i) (1024 * β + j.val)) (fun i => M.g (1024 * β + i) d.val))

/-- The probabilities of rows 256–511 of a diagonal point. -/
theorem diag1_p (i : Fin 256) (j : Fin 512) : k0_pay20 (F := Ideal) (window x5 ![0, 0] S512x256.size inb_S1024x256_S512x256_0_0) (window x4 ![256, 0] S256x256.size inb_S1024x256_S256x256_256_0) (window x9 ![256, 0] S256x1.size inb_S1024x128_S256x1_256_0) (ix2 i j) = ((M.p (1024 * β + (256 + i.val)) (1024 * β + j.val) : ℝ) : EReal) := by
  pointwise [k0_pay20, k0_pay17, k0_pay18, k0_pay19, k0_pay21]
  simp only [H.qw, H.kw, H.lw, ix2_0, ix2_1, zero_add]
  exact p_of M (1024 * β + (256 + i.val)) (1024 * β + j.val) i.val 256 j.val (by omega) (by omega) (by omega) (by omega)

/-- The gradients of the scores of rows 256–511 of a diagonal point. -/
theorem diag1_ds (i : Fin 256) (j : Fin 512) : k0_pay22 (F := Ideal) (k0_pay18 (window x6 ![0, 0] S512x128.size inb_S1024x256_S512x128_0_0)) (k0_pay20 (F := Ideal) (window x5 ![0, 0] S512x256.size inb_S1024x256_S512x256_0_0) (window x4 ![256, 0] S256x256.size inb_S1024x256_S256x256_256_0) (window x9 ![256, 0] S256x1.size inb_S1024x128_S256x1_256_0)) (window x7 ![256, 0] S256x128.size inb_S1024x128_S256x128_256_0) (window x8 ![256, 0] S256x128.size inb_S1024x128_S256x128_256_0) (ix2 i j) = ((M.ds (1024 * β + (256 + i.val)) (1024 * β + j.val) : ℝ) : EReal) := by
  pointwise [k0_pay22, k0_pay17, k0_pay18, k0_pay19, k0_pay21]
  rw [diag1_p H]
  simp only [H.gw, H.vw, H.ow, ix2_0, ix2_1, zero_add]
  exact ds_of M _ _

/-- Rows 256–511 of the gradient of `q` after a diagonal point. -/
theorem diag1_Q (old : Vec Ideal S256x256 .f32) (i d : Fin 256) :
    dgQ1 x4 x5 x6 x7 x8 x9 old (ix2 i d) = old (ix2 i d) + ((∑ j ∈ Finset.range 512, M.ds (1024 * β + (256 + i.val)) (1024 * β + j) * M.k (1024 * β + j) d.val : ℝ) : EReal) := by
  pointwise [dgQ1, k0_pay23, k0_pay24, k0_pay25, k0_pay17, k0_pay19]
  simp only [diag1_ds H, H.kw, ix2_0, ix2_1, zero_add]
  exact congrArg _ (dot_of 512 (fun j => M.ds (1024 * β + (256 + i.val)) (1024 * β + j)) (fun j => M.k (1024 * β + j) d.val))

/-- What rows 256–511 of a diagonal point add to the gradient of `k`. -/
theorem diag1_K (old : Vec Ideal S512x256 .f32) (j : Fin 512) (d : Fin 256) :
    dgK1 x4 x5 x6 x7 x8 x9 old (ix2 j d) = old (ix2 j d) + ((∑ i ∈ Finset.range 256, M.ds (1024 * β + (256 + i)) (1024 * β + j.val) * M.q (1024 * β + (256 + i)) d.val : ℝ) : EReal) := by
  pointwise [dgK1, k0_pay23, k0_pay24, k0_pay25, k0_pay17, k0_pay19]
  simp only [diag1_ds H, H.qw, ix2_0, ix2_1, zero_add]
  exact congrArg _ (dot_of 256 (fun i => M.ds (1024 * β + (256 + i)) (1024 * β + j.val)) (fun i => M.q (1024 * β + (256 + i)) d.val))

/-- What rows 256–511 of a diagonal point add to the gradient of `v`. -/
theorem diag1_V (old : Vec Ideal S512x128 .f32) (j : Fin 512) (d : Fin 128) :
    dgV1 x4 x5 x7 x9 old (ix2 j d) = old (ix2 j d) + ((∑ i ∈ Finset.range 256, M.p (1024 * β + (256 + i)) (1024 * β + j.val) * M.g (1024 * β + (256 + i)) d.val : ℝ) : EReal) := by
  pointwise [dgV1, k0_pay23, k0_pay24, k0_pay25, k0_pay17, k0_pay18, k0_pay19, k0_pay21]
  simp only [diag1_p H, H.gw, ix2_0, ix2_1, zero_add]
  exact congrArg _ (dot_of 256 (fun i => M.p (1024 * β + (256 + i)) (1024 * β + j.val)) (fun i => M.g (1024 * β + (256 + i)) d.val))

/-- The probabilities of rows 512–767 of a diagonal point. -/
theorem diag2_p (i : Fin 256) (j : Fin 768) : k0_pay28 (F := Ideal) (window x5 ![0, 0] S768x256.size inb_S1024x256_S768x256_0_0) (window x4 ![512, 0] S256x256.size inb_S1024x256_S256x256_512_0) (window x9 ![512, 0] S256x1.size inb_S1024x128_S256x1_512_0) (ix2 i j) = ((M.p (1024 * β + (512 + i.val)) (1024 * β + j.val) : ℝ) : EReal) := by
  pointwise [k0_pay28, k0_pay26, k0_pay27, k0_pay29]
  simp only [H.qw, H.kw, H.lw, ix2_0, ix2_1, zero_add]
  exact p_of M (1024 * β + (512 + i.val)) (1024 * β + j.val) i.val 512 j.val (by omega) (by omega) (by omega) (by omega)

/-- The gradients of the scores of rows 512–767 of a diagonal point. -/
theorem diag2_ds (i : Fin 256) (j : Fin 768) : k0_pay31 (F := Ideal) (window x5 ![0, 0] S768x256.size inb_S1024x256_S768x256_0_0) (window x6 ![0, 0] S768x128.size inb_S1024x256_S768x128_0_0) (window x4 ![512, 0] S256x256.size inb_S1024x256_S256x256_512_0) (window x9 ![512, 0] S256x1.size inb_S1024x128_S256x1_512_0) (window x7 ![512, 0] S256x128.size inb_S1024x128_S256x128_512_0) (window x8 ![512, 0] S256x128.size inb_S1024x128_S256x128_512_0) (ix2 i j) = ((M.ds (1024 * β + (512 + i.val)) (1024 * β + j.val) : ℝ) : EReal) := by
  pointwise [k0_pay31, k0_pay26, k0_pay27, k0_pay29]
  rw [diag2_p H]
  simp only [H.gw, H.vw, H.ow, ix2_0, ix2_1, zero_add]
  exact ds_of M _ _

/-- Rows 512–767 of the gradient of `q` after a diagonal point. -/
theorem diag2_Q (old : Vec Ideal S256x256 .f32) (i d : Fin 256) :
    dgQ2 x4 x5 x6 x7 x8 x9 old (ix2 i d) = old (ix2 i d) + ((∑ j ∈ Finset.range 768, M.ds (1024 * β + (512 + i.val)) (1024 * β + j) * M.k (1024 * β + j) d.val : ℝ) : EReal) := by
  pointwise [dgQ2, k0_pay30, k0_pay32, k0_pay33, k0_pay34, k0_pay35, k0_pay26, k0_pay27, k0_pay29]
  simp only [diag2_ds H, H.kw, ix2_0, ix2_1, zero_add]
  exact congrArg _ (dot_of 768 (fun j => M.ds (1024 * β + (512 + i.val)) (1024 * β + j)) (fun j => M.k (1024 * β + j) d.val))

/-- What rows 512–767 of a diagonal point add to the gradient of `k`. -/
theorem diag2_K (old : Vec Ideal S768x256 .f32) (j : Fin 768) (d : Fin 256) :
    dgK2 x4 x5 x6 x7 x8 x9 old (ix2 j d) = old (ix2 j d) + ((∑ i ∈ Finset.range 256, M.ds (1024 * β + (512 + i)) (1024 * β + j.val) * M.q (1024 * β + (512 + i)) d.val : ℝ) : EReal) := by
  pointwise [dgK2, k0_pay30, k0_pay32, k0_pay33, k0_pay34, k0_pay35, k0_pay26, k0_pay27, k0_pay29]
  simp only [diag2_ds H, H.qw, ix2_0, ix2_1, zero_add]
  exact congrArg _ (dot_of 256 (fun i => M.ds (1024 * β + (512 + i)) (1024 * β + j.val)) (fun i => M.q (1024 * β + (512 + i)) d.val))

/-- What rows 512–767 of a diagonal point add to the gradient of `v`. -/
theorem diag2_V (old : Vec Ideal S768x128 .f32) (j : Fin 768) (d : Fin 128) :
    dgV2 x4 x5 x7 x9 old (ix2 j d) = old (ix2 j d) + ((∑ i ∈ Finset.range 256, M.p (1024 * β + (512 + i)) (1024 * β + j.val) * M.g (1024 * β + (512 + i)) d.val : ℝ) : EReal) := by
  pointwise [dgV2, k0_pay30, k0_pay32, k0_pay33, k0_pay34, k0_pay35, k0_pay26, k0_pay27, k0_pay29]
  simp only [diag2_p H, H.gw, ix2_0, ix2_1, zero_add]
  exact congrArg _ (dot_of 256 (fun i => M.p (1024 * β + (512 + i)) (1024 * β + j.val)) (fun i => M.g (1024 * β + (512 + i)) d.val))

/-- The probabilities of rows 768–1023 of a diagonal point. -/
theorem diag3_p (i : Fin 256) (j : Fin 1024) : k0_pay39 (F := Ideal) (window x5 ![0, 0] S1024x256.size inb_S1024x256_S1024x256_0_0) (window x4 ![768, 0] S256x256.size inb_S1024x256_S256x256_768_0) (window x9 ![768, 0] S256x1.size inb_S1024x128_S256x1_768_0) (ix2 i j) = ((M.p (1024 * β + (768 + i.val)) (1024 * β + j.val) : ℝ) : EReal) := by
  pointwise [k0_pay39, k0_pay36, k0_pay37, k0_pay38, k0_pay40]
  simp only [H.qw, H.kw, H.lw, ix2_0, ix2_1, zero_add]
  exact p_of M (1024 * β + (768 + i.val)) (1024 * β + j.val) i.val 768 j.val (by omega) (by omega) (by omega) (by omega)

/-- The gradients of the scores of rows 768–1023 of a diagonal point. -/
theorem diag3_ds (i : Fin 256) (j : Fin 1024) : k0_pay41 (F := Ideal) (k0_pay37 (window x6 ![0, 0] S1024x128.size inb_S1024x256_S1024x128_0_0)) (k0_pay39 (F := Ideal) (window x5 ![0, 0] S1024x256.size inb_S1024x256_S1024x256_0_0) (window x4 ![768, 0] S256x256.size inb_S1024x256_S256x256_768_0) (window x9 ![768, 0] S256x1.size inb_S1024x128_S256x1_768_0)) (window x7 ![768, 0] S256x128.size inb_S1024x128_S256x128_768_0) (window x8 ![768, 0] S256x128.size inb_S1024x128_S256x128_768_0) (ix2 i j) = ((M.ds (1024 * β + (768 + i.val)) (1024 * β + j.val) : ℝ) : EReal) := by
  pointwise [k0_pay41, k0_pay36, k0_pay37, k0_pay38, k0_pay40]
  rw [diag3_p H]
  simp only [H.gw, H.vw, H.ow, ix2_0, ix2_1, zero_add]
  exact ds_of M _ _

/-- Rows 768–1023 of the gradient of `q` after a diagonal point. -/
theorem diag3_Q (old : Vec Ideal S256x256 .f32) (i d : Fin 256) :
    dgQ3 x4 x5 x6 x7 x8 x9 old (ix2 i d) = old (ix2 i d) + ((∑ j ∈ Finset.range 1024, M.ds (1024 * β + (768 + i.val)) (1024 * β + j) * M.k (1024 * β + j) d.val : ℝ) : EReal) := by
  pointwise [dgQ3, k0_pay42, k0_pay43, k0_pay44, k0_pay36, k0_pay38]
  simp only [diag3_ds H, H.kw, ix2_0, ix2_1, zero_add]
  exact congrArg _ (dot_of 1024 (fun j => M.ds (1024 * β + (768 + i.val)) (1024 * β + j)) (fun j => M.k (1024 * β + j) d.val))

/-- What rows 768–1023 of a diagonal point add to the gradient of `k`. -/
theorem diag3_K (old : Vec Ideal S1024x256 .f32) (j : Fin 1024) (d : Fin 256) :
    dgK3 x4 x5 x6 x7 x8 x9 old (ix2 j d) = old (ix2 j d) + ((∑ i ∈ Finset.range 256, M.ds (1024 * β + (768 + i)) (1024 * β + j.val) * M.q (1024 * β + (768 + i)) d.val : ℝ) : EReal) := by
  pointwise [dgK3, k0_pay42, k0_pay43, k0_pay44, k0_pay36, k0_pay38]
  simp only [diag3_ds H, H.qw, ix2_0, ix2_1, zero_add]
  exact congrArg _ (dot_of 256 (fun i => M.ds (1024 * β + (768 + i)) (1024 * β + j.val)) (fun i => M.q (1024 * β + (768 + i)) d.val))

/-- What rows 768–1023 of a diagonal point add to the gradient of `v`. -/
theorem diag3_V (old : Vec Ideal S1024x128 .f32) (j : Fin 1024) (d : Fin 128) :
    dgV3 x4 x5 x7 x9 old (ix2 j d) = old (ix2 j d) + ((∑ i ∈ Finset.range 256, M.p (1024 * β + (768 + i)) (1024 * β + j.val) * M.g (1024 * β + (768 + i)) d.val : ℝ) : EReal) := by
  pointwise [dgV3, k0_pay42, k0_pay43, k0_pay44, k0_pay36, k0_pay37, k0_pay38, k0_pay40]
  simp only [diag3_p H, H.gw, ix2_0, ix2_1, zero_add]
  exact congrArg _ (dot_of 256 (fun i => M.p (1024 * β + (768 + i)) (1024 * β + j.val)) (fun i => M.g (1024 * β + (768 + i)) d.val))

end Diag

section Off

variable {M : Mats} {κ β : ℕ} {x4 x5 x6 : Vec Ideal S1024x256 .bf16} {x7 : Vec Ideal S1024x128 .bf16} {x8 x9 : Vec Ideal S1024x128 .f32}
variable (H : Holds M κ β x4 x5 x6 x7 x8 x9) (hlt : κ < β)
include H hlt

/-- The probabilities of rows 0–511 of a point below the diagonal. -/
theorem off0_p (i : Fin 512) (j : Fin 1024) : k0_pay47 (F := Ideal) (window x5 ![0, 0] S1024x256.size inb_S1024x256_S1024x256_0_0) (window x4 ![0, 0] S512x256.size inb_S1024x256_S512x256_0_0) (window x9 ![0, 0] S512x1.size inb_S1024x128_S512x1_0_0) (ix2 i j) = ((M.p (1024 * β + i.val) (1024 * κ + j.val) : ℝ) : EReal) := by
  pointwise [k0_pay47, k0_pay45, k0_pay46, k0_pay48]
  simp only [H.qw, H.kw, H.lw, ix2_0, ix2_1, zero_add]
  exact p_of_le M (1024 * β + i.val) (1024 * κ + j.val) (by omega)

/-- The gradients of the scores of rows 0–511 of a point below the diagonal. -/
theorem off0_ds (i : Fin 512) (j : Fin 1024) : k0_pay50 (F := Ideal) (window x5 ![0, 0] S1024x256.size inb_S1024x256_S1024x256_0_0) (window x6 ![0, 0] S1024x128.size inb_S1024x256_S1024x128_0_0) (window x4 ![0, 0] S512x256.size inb_S1024x256_S512x256_0_0) (window x9 ![0, 0] S512x1.size inb_S1024x128_S512x1_0_0) (window x7 ![0, 0] S512x128.size inb_S1024x128_S512x128_0_0) (window x8 ![0, 0] S512x128.size inb_S1024x128_S512x128_0_0) (ix2 i j) = ((M.ds (1024 * β + i.val) (1024 * κ + j.val) : ℝ) : EReal) := by
  pointwise [k0_pay50, k0_pay45, k0_pay46, k0_pay48]
  rw [off0_p H hlt]
  simp only [H.gw, H.vw, H.ow, ix2_0, ix2_1, zero_add]
  exact ds_of M _ _

/-- Rows 0–511 of the gradient of `q` after a point below the diagonal. -/
theorem off0_Q (old : Vec Ideal S512x256 .f32) (i : Fin 512) (d : Fin 256) :
    ofQ0 x4 x5 x6 x7 x8 x9 old (ix2 i d) = old (ix2 i d) + ((∑ j ∈ Finset.range 1024, M.ds (1024 * β + i.val) (1024 * κ + j) * M.k (1024 * κ + j) d.val : ℝ) : EReal) := by
  pointwise [ofQ0, k0_pay52, k0_pay45, k0_pay46, k0_pay48]
  simp only [off0_ds H hlt, H.kw, ix2_0, ix2_1, zero_add]
  exact congrArg _ (dot_of 1024 (fun j => M.ds (1024 * β + i.val) (1024 * κ + j)) (fun j => M.k (1024 * κ + j) d.val))

/-- What rows 0–511 of a point below the diagonal add to the gradient of `k`. -/
theorem off0_K (j : Fin 1024) (d : Fin 256) :
    ofK0 x4 x5 x6 x7 x8 x9 (ix2 j d) = ((∑ i ∈ Finset.range 512, M.ds (1024 * β + i) (1024 * κ + j.val) * M.q (1024 * β + i) d.val : ℝ) : EReal) := by
  pointwise [ofK0, k0_pay51, k0_pay45, k0_pay46, k0_pay48]
  simp only [off0_ds H hlt, H.qw, ix2_0, ix2_1, zero_add]
  exact dot_of 512 (fun i => M.ds (1024 * β + i) (1024 * κ + j.val)) (fun i => M.q (1024 * β + i) d.val)

/-- What rows 0–511 of a point below the diagonal add to the gradient of `v`. -/
theorem off0_V (j : Fin 1024) (d : Fin 128) :
    ofV0 x4 x5 x7 x9 (ix2 j d) = ((∑ i ∈ Finset.range 512, M.p (1024 * β + i) (1024 * κ + j.val) * M.g (1024 * β + i) d.val : ℝ) : EReal) := by
  pointwise [ofV0, k0_pay49, k0_pay45, k0_pay46, k0_pay48]
  simp only [off0_p H hlt, H.gw, ix2_0, ix2_1, zero_add]
  exact dot_of 512 (fun i => M.p (1024 * β + i) (1024 * κ + j.val)) (fun i => M.g (1024 * β + i) d.val)

/-- The probabilities of rows 512–1023 of a point below the diagonal. -/
theorem off1_p (i : Fin 512) (j : Fin 1024) : k0_pay55 (F := Ideal) (window x5 ![0, 0] S1024x256.size inb_S1024x256_S1024x256_0_0) (window x4 ![512, 0] S512x256.size inb_S1024x256_S512x256_512_0) (window x9 ![512, 0] S512x1.size inb_S1024x128_S512x1_512_0) (ix2 i j) = ((M.p (1024 * β + (512 + i.val)) (1024 * κ + j.val) : ℝ) : EReal) := by
  pointwise [k0_pay55, k0_pay53, k0_pay54, k0_pay56]
  simp only [H.qw, H.kw, H.lw, ix2_0, ix2_1, zero_add]
  exact p_of_le M (1024 * β + (512 + i.val)) (1024 * κ + j.val) (by omega)

/-- The gradients of the scores of rows 512–1023 of a point below the diagonal. -/
theorem off1_ds (i : Fin 512) (j : Fin 1024) : k0_pay58 (F := Ideal) (window x5 ![0, 0] S1024x256.size inb_S1024x256_S1024x256_0_0) (window x6 ![0, 0] S1024x128.size inb_S1024x256_S1024x128_0_0) (window x4 ![512, 0] S512x256.size inb_S1024x256_S512x256_512_0) (window x9 ![512, 0] S512x1.size inb_S1024x128_S512x1_512_0) (window x7 ![512, 0] S512x128.size inb_S1024x128_S512x128_512_0) (window x8 ![512, 0] S512x128.size inb_S1024x128_S512x128_512_0) (ix2 i j) = ((M.ds (1024 * β + (512 + i.val)) (1024 * κ + j.val) : ℝ) : EReal) := by
  pointwise [k0_pay58, k0_pay53, k0_pay54, k0_pay56]
  rw [off1_p H hlt]
  simp only [H.gw, H.vw, H.ow, ix2_0, ix2_1, zero_add]
  exact ds_of M _ _

/-- Rows 512–1023 of the gradient of `q` after a point below the diagonal. -/
theorem off1_Q (old : Vec Ideal S512x256 .f32) (i : Fin 512) (d : Fin 256) :
    ofQ1 x4 x5 x6 x7 x8 x9 old (ix2 i d) = old (ix2 i d) + ((∑ j ∈ Finset.range 1024, M.ds (1024 * β + (512 + i.val)) (1024 * κ + j) * M.k (1024 * κ + j) d.val : ℝ) : EReal) := by
  pointwise [ofQ1, k0_pay60, k0_pay53, k0_pay54, k0_pay56]
  simp only [off1_ds H hlt, H.kw, ix2_0, ix2_1, zero_add]
  exact congrArg _ (dot_of 1024 (fun j => M.ds (1024 * β + (512 + i.val)) (1024 * κ + j)) (fun j => M.k (1024 * κ + j) d.val))

/-- What rows 512–1023 of a point below the diagonal add to the gradient of `k`. -/
theorem off1_K (j : Fin 1024) (d : Fin 256) :
    ofK1 x4 x5 x6 x7 x8 x9 (ix2 j d) = ((∑ i ∈ Finset.range 512, M.ds (1024 * β + (512 + i)) (1024 * κ + j.val) * M.q (1024 * β + (512 + i)) d.val : ℝ) : EReal) := by
  pointwise [ofK1, k0_pay59, k0_pay53, k0_pay54, k0_pay56]
  simp only [off1_ds H hlt, H.qw, ix2_0, ix2_1, zero_add]
  exact dot_of 512 (fun i => M.ds (1024 * β + (512 + i)) (1024 * κ + j.val)) (fun i => M.q (1024 * β + (512 + i)) d.val)

/-- What rows 512–1023 of a point below the diagonal add to the gradient of `v`. -/
theorem off1_V (j : Fin 1024) (d : Fin 128) :
    ofV1 x4 x5 x7 x9 (ix2 j d) = ((∑ i ∈ Finset.range 512, M.p (1024 * β + (512 + i)) (1024 * κ + j.val) * M.g (1024 * β + (512 + i)) d.val : ℝ) : EReal) := by
  pointwise [ofV1, k0_pay57, k0_pay53, k0_pay54, k0_pay56]
  simp only [off1_p H hlt, H.gw, ix2_0, ix2_1, zero_add]
  exact dot_of 512 (fun i => M.p (1024 * β + (512 + i)) (1024 * κ + j.val)) (fun i => M.g (1024 * β + (512 + i)) d.val)

end Off

end Cert.KernelIdeal.Gen
end
-- ==== Proof.StepValues.lean ====
module

public import proofs.«01_k».proof.Proof.Tiles

@[expose] public section

/-!
# One grid point over the real numbers

A grid point of key block `κ` and query block `β` takes the partial sums over the keys before `1024·κ`
to those over the keys before `1024·(κ+1)` in the rows of the gradient of `q`, and the partial sums over
the queries before `1024·β` to those before `1024·(β+1)` in the accumulators of the gradients of `k` and `v`.
-/

set_option maxRecDepth 16384

noncomputable section

namespace Cert.KernelIdeal.Gen

open Idealize.ShloMosaic Idealize.ShloMosaic.TcCoe Idealize.ShloMosaic.Tactic
open Idealize.ShloMosaic.VecWindow

/-! ### Windows of rows -/

section Rows

variable {α : Type} {R C : ℕ}

/-- A window of whole rows at an element. -/
theorem window_rows (X : (⟨2, ![R, C]⟩ : Shape).Idx → α) (b n : ℕ) (inb) (i : Fin n) (d : Fin C) (h : b + i.val < R) :
    window X ![b, 0] ![n, C] inb (ix2 i d) = X (ix2 ⟨b + i.val, h⟩ d) := by
  refine congrArg X (funext fun a => Fin.ext ?_)
  match a with
  | 0 => show b + 1 * i.val = b + i.val; omega
  | 1 => show 0 + 1 * d.val = d.val; omega

/-- Inside the rows put, the payload. -/
theorem put_rows_in (X : (⟨2, ![R, C]⟩ : Shape).Idx → α) (b n : ℕ) (w : (⟨2, ![n, C]⟩ : Shape).Idx → α) (r : Fin R) (d : Fin C)
    (h : b ≤ r.val ∧ r.val < b + n) :
    put (s := ⟨2, ![R, C]⟩) X ![b, 0] ![n, C] w (ix2 r d) = w (ix2 (⟨r.val - b, by omega⟩ : Fin n) d) := by
  have hh : ∀ a : Fin 2, (![b, 0] : Fin 2 → ℕ) a ≤ ((ix2 r d) a).val ∧ ((ix2 r d) a).val < (![b, 0] : Fin 2 → ℕ) a + (![n, C] : Fin 2 → ℕ) a := by
    intro a
    match a with
    | 0 => exact h
    | 1 => exact ⟨Nat.zero_le _, by show d.val < 0 + C; have := d.isLt; omega⟩
  refine (dif_pos hh).trans (congrArg w (funext fun a => Fin.ext ?_))
  match a with
  | 0 => rfl
  | 1 => rfl

/-- Outside the rows put, what was there. -/
theorem put_rows_out (X : (⟨2, ![R, C]⟩ : Shape).Idx → α) (b n : ℕ) (w : (⟨2, ![n, C]⟩ : Shape).Idx → α) (r : Fin R) (d : Fin C)
    (h : ¬ (b ≤ r.val ∧ r.val < b + n)) :
    put (s := ⟨2, ![R, C]⟩) X ![b, 0] ![n, C] w (ix2 r d) = X (ix2 r d) :=
  dif_neg fun hh => h (hh 0)

end Rows

/-- Rows rewritten by adding a real matrix to them. -/
theorem put_add {R C : ℕ} (X : (⟨2, ![R, C]⟩ : Shape).Idx → EReal) (b n : ℕ) (inb)
    (new : ((⟨2, ![n, C]⟩ : Shape).Idx → EReal) → (⟨2, ![n, C]⟩ : Shape).Idx → EReal) (t : ℕ → ℕ → ℝ)
    (hnew : ∀ old (i : Fin n) (d : Fin C), new old (ix2 i d) = old (ix2 i d) + ((t i.val d.val : ℝ) : EReal)) (r : Fin R) (d : Fin C) :
    put (s := ⟨2, ![R, C]⟩) X ![b, 0] ![n, C] (new (window X ![b, 0] ![n, C] inb)) (ix2 r d)
      = X (ix2 r d) + ((if b ≤ r.val ∧ r.val < b + n then t (r.val - b) d.val else 0 : ℝ) : EReal) := by
  by_cases h : b ≤ r.val ∧ r.val < b + n
  · have e := put_rows_in X b n (new (window X ![b, 0] ![n, C] inb)) r d h
    have hb : b + (r.val - b) < R := by have := r.isLt; omega
    rw [e, hnew, if_pos h]
    have e2 := window_rows X b n inb (⟨r.val - b, by omega⟩ : Fin n) d hb
    rw [e2]
    have e3 : (⟨b + (r.val - b), hb⟩ : Fin R) = r := Fin.ext (by show b + (r.val - b) = r.val; omega)
    exact congrArg (fun q => X (ix2 q d) + _) e3
  · rw [put_rows_out X b n _ r d h, if_neg h, EReal.coe_zero, add_zero]

/-- A sum over a range is unchanged by numbers where the summand is zero. -/
theorem sum_range_of_zero (f : ℕ → ℝ) (a b : ℕ) (hab : a ≤ b) (h : ∀ j, a ≤ j → j < b → f j = 0) :
    ∑ j ∈ Finset.range a, f j = ∑ j ∈ Finset.range b, f j := by
  refine Finset.sum_subset (fun x hx => ?_) fun j hj hn => h j ?_ (Finset.mem_range.1 hj)
  · exact Finset.mem_range.2 (Nat.lt_of_lt_of_le (Finset.mem_range.1 hx) hab)
  · exact Nat.le_of_not_lt fun hlt => hn (Finset.mem_range.2 hlt)

namespace Mats

variable (M : Mats)

/-- The gradient of `q` over the keys before `n`. -/
def dq (i n d : ℕ) : ℝ := ∑ j ∈ Finset.range n, M.ds i j * M.k j d

/-- The gradient of `k`, before the scale, over the queries before `n`. -/
def dk (j n d : ℕ) : ℝ := ∑ i ∈ Finset.range n, M.ds i j * M.q i d

/-- The gradient of `v` over the queries before `n`. -/
def dv (j n d : ℕ) : ℝ := ∑ i ∈ Finset.range n, M.p i j * M.g i d

theorem dq_add (i a b d : ℕ) : M.dq i (a + b) d = M.dq i a d + ∑ j ∈ Finset.range b, M.ds i (a + j) * M.k (a + j) d :=
  Finset.sum_range_add (fun j => M.ds i j * M.k j d) a b

theorem dk_add (j a b d : ℕ) : M.dk j (a + b) d = M.dk j a d + ∑ i ∈ Finset.range b, M.ds (a + i) j * M.q (a + i) d :=
  Finset.sum_range_add (fun i => M.ds i j * M.q i d) a b

theorem dv_add (j a b d : ℕ) : M.dv j (a + b) d = M.dv j a d + ∑ i ∈ Finset.range b, M.p (a + i) j * M.g (a + i) d :=
  Finset.sum_range_add (fun i => M.p i j * M.g i d) a b

/-- Keys after the query add nothing. -/
theorem dq_of_le (i a b d : ℕ) (hab : a ≤ b) (h : i < a) : M.dq i a d = M.dq i b d :=
  sum_range_of_zero _ a b hab fun j hj _ => by rw [ds_eq_zero M (by omega), zero_mul]

/-- Queries before the key add nothing. -/
theorem dk_zero (j n d : ℕ) (h : n ≤ j) : M.dk j n d = 0 :=
  Finset.sum_eq_zero fun i hi => by rw [ds_eq_zero M (by have := Finset.mem_range.1 hi; omega), zero_mul]

theorem dv_zero (j n d : ℕ) (h : n ≤ j) : M.dv j n d = 0 :=
  Finset.sum_eq_zero fun i hi => by rw [p_eq_zero M (by have := Finset.mem_range.1 hi; omega), zero_mul]

end Mats

section Step

variable {M : Mats} {κ β : Fin 8} {x4 x5 x6 : Vec Ideal S1024x256 .bf16} {x7 : Vec Ideal S1024x128 .bf16} {x8 x9 : Vec Ideal S1024x128 .f32}

/-! ### Diagonal points -/

/-- The gradient of `q` after a diagonal point, at an element. -/
theorem diagQ_at (H : Holds M β.val β.val x4 x5 x6 x7 x8 x9) (X : Vec Ideal S8192x256 .f32) (r : Fin 8192) (d : Fin 256) :
    diagQ x4 x5 x6 x7 x8 x9 β X (ix2 r d) = X (ix2 r d)
      + ((if 1024 * β.val + 0 ≤ r.val ∧ r.val < 1024 * β.val + 0 + 256 then ∑ j ∈ Finset.range 256, M.ds (1024 * β.val + (r.val - (1024 * β.val + 0))) (1024 * β.val + j) * M.k (1024 * β.val + j) d.val else 0 : ℝ) : EReal)
      + ((if 1024 * β.val + 256 ≤ r.val ∧ r.val < 1024 * β.val + 256 + 256 then ∑ j ∈ Finset.range 512, M.ds (1024 * β.val + (256 + (r.val - (1024 * β.val + 256)))) (1024 * β.val + j) * M.k (1024 * β.val + j) d.val else 0 : ℝ) : EReal)
      + ((if 1024 * β.val + 512 ≤ r.val ∧ r.val < 1024 * β.val + 512 + 256 then ∑ j ∈ Finset.range 768, M.ds (1024 * β.val + (512 + (r.val - (1024 * β.val + 512)))) (1024 * β.val + j) * M.k (1024 * β.val + j) d.val else 0 : ℝ) : EReal)
      + ((if 1024 * β.val + 768 ≤ r.val ∧ r.val < 1024 * β.val + 768 + 256 then ∑ j ∈ Finset.range 1024, M.ds (1024 * β.val + (768 + (r.val - (1024 * β.val + 768)))) (1024 * β.val + j) * M.k (1024 * β.val + j) d.val else 0 : ℝ) : EReal) := by
  refine (put_add _ (1024 * β.val + 768) 256 (rowOff_inb β 768 256 (by omega)) (dgQ3 x4 x5 x6 x7 x8 x9)
    (fun i d => ∑ j ∈ Finset.range 1024, M.ds (1024 * β.val + (768 + i)) (1024 * β.val + j) * M.k (1024 * β.val + j) d) (diag3_Q H) r d).trans (congrArg (· + _) ?_)
  refine (put_add _ (1024 * β.val + 512) 256 (rowOff_inb β 512 256 (by omega)) (dgQ2 x4 x5 x6 x7 x8 x9)
    (fun i d => ∑ j ∈ Finset.range 768, M.ds (1024 * β.val + (512 + i)) (1024 * β.val + j) * M.k (1024 * β.val + j) d) (diag2_Q H) r d).trans (congrArg (· + _) ?_)
  refine (put_add _ (1024 * β.val + 256) 256 (rowOff_inb β 256 256 (by omega)) (dgQ1 x4 x5 x6 x7 x8 x9)
    (fun i d => ∑ j ∈ Finset.range 512, M.ds (1024 * β.val + (256 + i)) (1024 * β.val + j) * M.k (1024 * β.val + j) d) (diag1_Q H) r d).trans (congrArg (· + _) ?_)
  exact put_add _ (1024 * β.val + 0) 256 (rowOff_inb β 0 256 (by omega)) (dgQ0 x4 x5 x6 x7 x8 x9)
    (fun i d => ∑ j ∈ Finset.range 256, M.ds (1024 * β.val + i) (1024 * β.val + j) * M.k (1024 * β.val + j) d) (diag0_Q H) r d

/-- A diagonal point completes the rows of the gradient of `q`. -/
theorem diagQ_in (H : Holds M β.val β.val x4 x5 x6 x7 x8 x9) (X : Vec Ideal S8192x256 .f32) (r : Fin 8192) (d : Fin 256)
    (h : 1024 * β.val ≤ r.val ∧ r.val < 1024 * β.val + 1024) (hX : X (ix2 r d) = ((M.dq r.val (1024 * β.val) d.val : ℝ) : EReal)) :
    diagQ x4 x5 x6 x7 x8 x9 β X (ix2 r d) = ((M.dq r.val (1024 * β.val + 1024) d.val : ℝ) : EReal) := by
  have key : ∀ n, r.val < 1024 * β.val + n → n ≤ 1024 →
      M.dq r.val (1024 * β.val) d.val + ∑ j ∈ Finset.range n, M.ds r.val (1024 * β.val + j) * M.k (1024 * β.val + j) d.val = M.dq r.val (1024 * β.val + 1024) d.val :=
    fun n hn hl => (M.dq_add _ _ _ _).symm.trans (M.dq_of_le _ _ _ _ (by omega) hn)
  rw [diagQ_at H, hX, ← EReal.coe_add, ← EReal.coe_add, ← EReal.coe_add, ← EReal.coe_add]
  refine congrArg _ ?_
  by_cases h0 : r.val < 1024 * β.val + 256
  · rw [if_pos (by omega), if_neg (by omega), if_neg (by omega), if_neg (by omega), add_zero, add_zero, add_zero,
      show 1024 * β.val + (r.val - (1024 * β.val + 0)) = r.val by omega]
    exact key 256 h0 (by omega)
  by_cases h1 : r.val < 1024 * β.val + 512
  · rw [if_neg (by omega), if_pos (by omega), if_neg (by omega), if_neg (by omega), add_zero, add_zero, add_zero,
      show 1024 * β.val + (256 + (r.val - (1024 * β.val + 256))) = r.val by omega]
    exact key 512 h1 (by omega)
  by_cases h2 : r.val < 1024 * β.val + 768
  · rw [if_neg (by omega), if_neg (by omega), if_pos (by omega), if_neg (by omega), add_zero, add_zero, add_zero,
      show 1024 * β.val + (512 + (r.val - (1024 * β.val + 512))) = r.val by omega]
    exact key 768 h2 (by omega)
  · rw [if_neg (by omega), if_neg (by omega), if_neg (by omega), if_pos (by omega), add_zero, add_zero, add_zero,
      show 1024 * β.val + (768 + (r.val - (1024 * β.val + 768))) = r.val by omega]
    exact key 1024 (by omega) (by omega)

/-- A diagonal point leaves the other rows of the gradient of `q`. -/
theorem diagQ_out (H : Holds M β.val β.val x4 x5 x6 x7 x8 x9) (X : Vec Ideal S8192x256 .f32) (r : Fin 8192) (d : Fin 256)
    (h : ¬ (1024 * β.val ≤ r.val ∧ r.val < 1024 * β.val + 1024)) : diagQ x4 x5 x6 x7 x8 x9 β X (ix2 r d) = X (ix2 r d) := by
  rw [diagQ_at H, if_neg (by omega), if_neg (by omega), if_neg (by omega), if_neg (by omega), EReal.coe_zero, add_zero, add_zero, add_zero, add_zero]

/-- A group of rows adds its queries to a key's sum, whether or not the group reaches the key. -/
theorem group_sum (f : ℕ → ℝ) (o n j : ℕ) (hj : n ≤ j → ∀ i, i < 256 → f (o + i) = 0) :
    (if 0 ≤ j ∧ j < 0 + n then ∑ i ∈ Finset.range 256, f (o + i) else 0) = ∑ i ∈ Finset.range 256, f (o + i) := by
  by_cases h : j < n
  · rw [if_pos (by omega)]
  · rw [if_neg (by omega), Finset.sum_eq_zero fun i hi => hj (by omega) i (Finset.mem_range.1 hi)]

/-- Four groups of 256 make 1024. -/
theorem four_groups (f : ℕ → ℝ) :
    ∑ i ∈ Finset.range 256, f (0 + i) + ∑ i ∈ Finset.range 256, f (256 + i) + ∑ i ∈ Finset.range 256, f (512 + i) + ∑ i ∈ Finset.range 256, f (768 + i)
      = ∑ i ∈ Finset.range 1024, f i := by
  have e1 := Finset.sum_range_add f 768 256
  have e2 := Finset.sum_range_add f 512 256
  have e3 := Finset.sum_range_add f 256 256
  simp only [zero_add]
  rw [show (1024 : ℕ) = 768 + 256 from rfl, e1, show (768 : ℕ) = 512 + 256 from rfl, e2, show (512 : ℕ) = 256 + 256 from rfl, e3]

/-- Two groups of 512 make 1024. -/
theorem two_groups (f : ℕ → ℝ) : ∑ i ∈ Finset.range 512, f i + ∑ i ∈ Finset.range 512, f (512 + i) = ∑ i ∈ Finset.range 1024, f i :=
  (Finset.sum_range_add f 512 512).symm

/-- The accumulator of the gradient of `k` after a diagonal point. -/
theorem diagK_at (H : Holds M β.val β.val x4 x5 x6 x7 x8 x9) (j : Fin 1024) (d : Fin 256) :
    diagK x4 x5 x6 x7 x8 x9 (ix2 j d) = ((M.dk (1024 * β.val + j.val) (1024 * β.val + 1024) d.val : ℝ) : EReal) := by
  have hz : k0_pay1 (F := Ideal) (ix2 j d) = ((0 : ℝ) : EReal) := by pointwise [k0_pay1]; rfl
  refine (diag3_K H _ j d).trans ?_
  refine (congrArg (· + _) ((put_add _ 0 768 inb_S1024x256_S768x256_0_0 (dgK2 x4 x5 x6 x7 x8 x9)
    (fun j d => ∑ i ∈ Finset.range 256, M.ds (1024 * β.val + (512 + i)) (1024 * β.val + j) * M.q (1024 * β.val + (512 + i)) d) (diag2_K H) j d).trans (congrArg (· + _)
    ((put_add _ 0 512 inb_S1024x256_S512x256_0_0 (dgK1 x4 x5 x6 x7 x8 x9)
    (fun j d => ∑ i ∈ Finset.range 256, M.ds (1024 * β.val + (256 + i)) (1024 * β.val + j) * M.q (1024 * β.val + (256 + i)) d) (diag1_K H) j d).trans (congrArg (· + _)
    (put_add _ 0 256 inb_S1024x256_S256x256_0_0 (dgK0 x4 x5 x6 x7 x8 x9)
    (fun j d => ∑ i ∈ Finset.range 256, M.ds (1024 * β.val + i) (1024 * β.val + j) * M.q (1024 * β.val + i) d) (diag0_K H) j d)))))).trans ?_
  beta_reduce
  rw [hz, ← EReal.coe_add, ← EReal.coe_add, ← EReal.coe_add, ← EReal.coe_add]
  refine congrArg _ ?_
  rw [Nat.sub_zero, M.dk_add, M.dk_zero _ _ _ (by omega), zero_add, zero_add, ← four_groups fun i => M.ds (1024 * β.val + i) (1024 * β.val + j.val) * M.q (1024 * β.val + i) d.val]
  have hf : ∀ o n, o + 256 ≤ n → n ≤ j.val → ∀ i, i < 256 → M.ds (1024 * β.val + (o + i)) (1024 * β.val + j.val) * M.q (1024 * β.val + (o + i)) d.val = 0 :=
    fun o n ho hn i hi => by rw [M.ds_eq_zero (by omega), zero_mul]
  have g0 := group_sum (fun i => M.ds (1024 * β.val + i) (1024 * β.val + j.val) * M.q (1024 * β.val + i) d.val) 0 256 j.val (hf 0 256 (by omega))
  have g1 := group_sum (fun i => M.ds (1024 * β.val + i) (1024 * β.val + j.val) * M.q (1024 * β.val + i) d.val) 256 512 j.val (hf 256 512 (by omega))
  have g2 := group_sum (fun i => M.ds (1024 * β.val + i) (1024 * β.val + j.val) * M.q (1024 * β.val + i) d.val) 512 768 j.val (hf 512 768 (by omega))
  simp only [zero_add] at g0 g1 g2 ⊢
  rw [g0, g1, g2]

/-- The accumulator of the gradient of `v` after a diagonal point. -/
theorem diagV_at (H : Holds M β.val β.val x4 x5 x6 x7 x8 x9) (j : Fin 1024) (d : Fin 128) :
    diagV x4 x5 x7 x9 (ix2 j d) = ((M.dv (1024 * β.val + j.val) (1024 * β.val + 1024) d.val : ℝ) : EReal) := by
  have hz : k0_pay2 (F := Ideal) (ix2 j d) = ((0 : ℝ) : EReal) := by pointwise [k0_pay2]; rfl
  refine (diag3_V H _ j d).trans ?_
  refine (congrArg (· + _) ((put_add _ 0 768 inb_S1024x128_S768x128_0_0 (dgV2 x4 x5 x7 x9)
    (fun j d => ∑ i ∈ Finset.range 256, M.p (1024 * β.val + (512 + i)) (1024 * β.val + j) * M.g (1024 * β.val + (512 + i)) d) (diag2_V H) j d).trans (congrArg (· + _)
    ((put_add _ 0 512 inb_S1024x128_S512x128_0_0 (dgV1 x4 x5 x7 x9)
    (fun j d => ∑ i ∈ Finset.range 256, M.p (1024 * β.val + (256 + i)) (1024 * β.val + j) * M.g (1024 * β.val + (256 + i)) d) (diag1_V H) j d).trans (congrArg (· + _)
    (put_add _ 0 256 inb_S1024x128_S256x128_0_0 (dgV0 x4 x5 x7 x9)
    (fun j d => ∑ i ∈ Finset.range 256, M.p (1024 * β.val + i) (1024 * β.val + j) * M.g (1024 * β.val + i) d) (diag0_V H) j d)))))).trans ?_
  beta_reduce
  rw [hz, ← EReal.coe_add, ← EReal.coe_add, ← EReal.coe_add, ← EReal.coe_add]
  refine congrArg _ ?_
  rw [Nat.sub_zero, M.dv_add, M.dv_zero _ _ _ (by omega), zero_add, zero_add, ← four_groups fun i => M.p (1024 * β.val + i) (1024 * β.val + j.val) * M.g (1024 * β.val + i) d.val]
  have hf : ∀ o n, o + 256 ≤ n → n ≤ j.val → ∀ i, i < 256 → M.p (1024 * β.val + (o + i)) (1024 * β.val + j.val) * M.g (1024 * β.val + (o + i)) d.val = 0 :=
    fun o n ho hn i hi => by rw [M.p_eq_zero (by omega), zero_mul]
  have g0 := group_sum (fun i => M.p (1024 * β.val + i) (1024 * β.val + j.val) * M.g (1024 * β.val + i) d.val) 0 256 j.val (hf 0 256 (by omega))
  have g1 := group_sum (fun i => M.p (1024 * β.val + i) (1024 * β.val + j.val) * M.g (1024 * β.val + i) d.val) 256 512 j.val (hf 256 512 (by omega))
  have g2 := group_sum (fun i => M.p (1024 * β.val + i) (1024 * β.val + j.val) * M.g (1024 * β.val + i) d.val) 512 768 j.val (hf 512 768 (by omega))
  simp only [zero_add] at g0 g1 g2 ⊢
  rw [g0, g1, g2]

/-! ### Points below the diagonal -/

/-- The gradient of `q` after a point below the diagonal, at an element. -/
theorem offQ_at (H : Holds M κ.val β.val x4 x5 x6 x7 x8 x9) (hlt : κ.val < β.val) (X : Vec Ideal S8192x256 .f32) (r : Fin 8192) (d : Fin 256) :
    offQ x4 x5 x6 x7 x8 x9 β X (ix2 r d) = X (ix2 r d)
      + ((if 1024 * β.val + 0 ≤ r.val ∧ r.val < 1024 * β.val + 0 + 512 then ∑ j ∈ Finset.range 1024, M.ds (1024 * β.val + (r.val - (1024 * β.val + 0))) (1024 * κ.val + j) * M.k (1024 * κ.val + j) d.val else 0 : ℝ) : EReal)
      + ((if 1024 * β.val + 512 ≤ r.val ∧ r.val < 1024 * β.val + 512 + 512 then ∑ j ∈ Finset.range 1024, M.ds (1024 * β.val + (512 + (r.val - (1024 * β.val + 512)))) (1024 * κ.val + j) * M.k (1024 * κ.val + j) d.val else 0 : ℝ) : EReal) := by
  refine (put_add _ (1024 * β.val + 512) 512 (rowOff_inb β 512 512 (by omega)) (ofQ1 x4 x5 x6 x7 x8 x9)
    (fun i d => ∑ j ∈ Finset.range 1024, M.ds (1024 * β.val + (512 + i)) (1024 * κ.val + j) * M.k (1024 * κ.val + j) d) (off1_Q H hlt) r d).trans (congrArg (· + _) ?_)
  exact put_add _ (1024 * β.val + 0) 512 (rowOff_inb β 0 512 (by omega)) (ofQ0 x4 x5 x6 x7 x8 x9)
    (fun i d => ∑ j ∈ Finset.range 1024, M.ds (1024 * β.val + i) (1024 * κ.val + j) * M.k (1024 * κ.val + j) d) (off0_Q H hlt) r d

/-- A point below the diagonal adds its keys to the rows of the gradient of `q`. -/
theorem offQ_in (H : Holds M κ.val β.val x4 x5 x6 x7 x8 x9) (hlt : κ.val < β.val) (X : Vec Ideal S8192x256 .f32) (r : Fin 8192) (d : Fin 256)
    (h : 1024 * β.val ≤ r.val ∧ r.val < 1024 * β.val + 1024) (hX : X (ix2 r d) = ((M.dq r.val (1024 * κ.val) d.val : ℝ) : EReal)) :
    offQ x4 x5 x6 x7 x8 x9 β X (ix2 r d) = ((M.dq r.val (1024 * κ.val + 1024) d.val : ℝ) : EReal) := by
  rw [offQ_at H hlt, hX, ← EReal.coe_add, ← EReal.coe_add]
  refine congrArg _ ?_
  by_cases h0 : r.val < 1024 * β.val + 512
  · rw [if_pos (by omega), if_neg (by omega), add_zero, show 1024 * β.val + (r.val - (1024 * β.val + 0)) = r.val by omega]
    exact (M.dq_add _ _ _ _).symm
  · rw [if_neg (by omega), if_pos (by omega), add_zero, show 1024 * β.val + (512 + (r.val - (1024 * β.val + 512))) = r.val by omega]
    exact (M.dq_add _ _ _ _).symm

/-- A point below the diagonal leaves the other rows of the gradient of `q`. -/
theorem offQ_out (H : Holds M κ.val β.val x4 x5 x6 x7 x8 x9) (hlt : κ.val < β.val) (X : Vec Ideal S8192x256 .f32) (r : Fin 8192) (d : Fin 256)
    (h : ¬ (1024 * β.val ≤ r.val ∧ r.val < 1024 * β.val + 1024)) : offQ x4 x5 x6 x7 x8 x9 β X (ix2 r d) = X (ix2 r d) := by
  rw [offQ_at H hlt, if_neg (by omega), if_neg (by omega), EReal.coe_zero, add_zero, add_zero]

/-- The accumulator of the gradient of `k` after a point below the diagonal. -/
theorem offK_at (H : Holds M κ.val β.val x4 x5 x6 x7 x8 x9) (hlt : κ.val < β.val) (Y : Vec Ideal S1024x256 .f32) (j : Fin 1024) (d : Fin 256)
    (hY : Y (ix2 j d) = ((M.dk (1024 * κ.val + j.val) (1024 * β.val) d.val : ℝ) : EReal)) :
    offK x4 x5 x6 x7 x8 x9 Y (ix2 j d) = ((M.dk (1024 * κ.val + j.val) (1024 * β.val + 1024) d.val : ℝ) : EReal) := by
  pointwise [offK, k0_pay4]
  rw [hY, off0_K H hlt, off1_K H hlt, ← EReal.coe_add, ← EReal.coe_add, M.dk_add]
  exact congrArg _ (congrArg _ (two_groups fun i => M.ds (1024 * β.val + i) (1024 * κ.val + j.val) * M.q (1024 * β.val + i) d.val))

/-- The accumulator of the gradient of `v` after a point below the diagonal. -/
theorem offV_at (H : Holds M κ.val β.val x4 x5 x6 x7 x8 x9) (hlt : κ.val < β.val) (Y : Vec Ideal S1024x128 .f32) (j : Fin 1024) (d : Fin 128)
    (hY : Y (ix2 j d) = ((M.dv (1024 * κ.val + j.val) (1024 * β.val) d.val : ℝ) : EReal)) :
    offV x4 x5 x7 x9 Y (ix2 j d) = ((M.dv (1024 * κ.val + j.val) (1024 * β.val + 1024) d.val : ℝ) : EReal) := by
  pointwise [offV, k0_pay5]
  rw [hY, off0_V H hlt, off1_V H hlt, ← EReal.coe_add, ← EReal.coe_add, M.dv_add]
  exact congrArg _ (congrArg _ (two_groups fun i => M.p (1024 * β.val + i) (1024 * κ.val + j.val) * M.g (1024 * β.val + i) d.val))

/-! ### Any point -/

/-- The rows cleared at a first key block. -/
theorem clearQ_in (X : Vec Ideal S8192x256 .f32) (r : Fin 8192) (d : Fin 256) (h : 1024 * β.val ≤ r.val ∧ r.val < 1024 * β.val + 1024)
    (hX : κ.val ≠ 0 → X (ix2 r d) = ((M.dq r.val (1024 * κ.val) d.val : ℝ) : EReal)) :
    clearQ (F := Ideal) κ β X (ix2 r d) = ((M.dq r.val (1024 * κ.val) d.val : ℝ) : EReal) := by
  by_cases hk : κ = 0
  · have e : clearQ (F := Ideal) κ β X (ix2 r d) = k0_pay3 (F := Ideal) (ix2 _ d) :=
      (congrFun (if_pos hk) _).trans (put_rows_in X (1024 * β.val + 0) 1024 (k0_pay3 (F := Ideal)) r d (by omega))
    rw [e]
    subst hk
    pointwise [k0_pay3]
    rfl
  · exact (congrFun (if_neg hk) _).trans (hX fun h => hk (Fin.ext h))

/-- The other rows are not cleared. -/
theorem clearQ_out (X : Vec Ideal S8192x256 .f32) (r : Fin 8192) (d : Fin 256) (h : ¬ (1024 * β.val ≤ r.val ∧ r.val < 1024 * β.val + 1024)) :
    clearQ (F := Ideal) κ β X (ix2 r d) = X (ix2 r d) := by
  by_cases hk : κ = 0
  · exact (congrFun (if_pos hk) _).trans (put_rows_out X (1024 * β.val + 0) 1024 (k0_pay3 (F := Ideal)) r d (by omega))
  · exact congrFun (if_neg hk) _

variable (H : Holds M κ.val β.val x4 x5 x6 x7 x8 x9) (hle : κ ≤ β)
include H hle

/-- A point takes its rows of the gradient of `q` to the sums over one more block of keys. -/
theorem stepQ_in (X : Vec Ideal S8192x256 .f32) (r : Fin 8192) (d : Fin 256) (h : 1024 * β.val ≤ r.val ∧ r.val < 1024 * β.val + 1024)
    (hX : κ.val ≠ 0 → X (ix2 r d) = ((M.dq r.val (1024 * κ.val) d.val : ℝ) : EReal)) :
    stepQ x4 x5 x6 x7 x8 x9 κ β X (ix2 r d) = ((M.dq r.val (1024 * κ.val + 1024) d.val : ℝ) : EReal) := by
  by_cases hk : κ = β
  · refine (congrFun (if_pos hk) _).trans ?_
    subst hk
    exact diagQ_in H _ r d h (clearQ_in X r d h hX)
  · exact (congrFun (if_neg hk) _).trans (offQ_in H (lt_of_le_of_ne hle fun h => hk (Fin.ext h)) _ r d h (clearQ_in X r d h hX))

/-- A point leaves the other rows of the gradient of `q`. -/
theorem stepQ_out (X : Vec Ideal S8192x256 .f32) (r : Fin 8192) (d : Fin 256) (h : ¬ (1024 * β.val ≤ r.val ∧ r.val < 1024 * β.val + 1024)) :
    stepQ x4 x5 x6 x7 x8 x9 κ β X (ix2 r d) = X (ix2 r d) := by
  by_cases hk : κ = β
  · refine (congrFun (if_pos hk) _).trans ?_
    subst hk
    exact (diagQ_out H _ r d h).trans (clearQ_out X r d h)
  · exact (congrFun (if_neg hk) _).trans ((offQ_out H (lt_of_le_of_ne hle fun h => hk (Fin.ext h)) _ r d h).trans (clearQ_out X r d h))

/-- A point takes the accumulator of the gradient of `k` to the sums over one more block of queries. -/
theorem stepK_at (Y : Vec Ideal S1024x256 .f32) (j : Fin 1024) (d : Fin 256)
    (hY : κ ≠ β → Y (ix2 j d) = ((M.dk (1024 * κ.val + j.val) (1024 * β.val) d.val : ℝ) : EReal)) :
    stepK x4 x5 x6 x7 x8 x9 κ β Y (ix2 j d) = ((M.dk (1024 * κ.val + j.val) (1024 * β.val + 1024) d.val : ℝ) : EReal) := by
  by_cases hk : κ = β
  · refine (congrFun (if_pos hk) _).trans ?_
    subst hk
    exact diagK_at H j d
  · exact (congrFun (if_neg hk) _).trans (offK_at H (lt_of_le_of_ne hle fun h => hk (Fin.ext h)) Y j d (hY hk))

/-- A point takes the accumulator of the gradient of `v` to the sums over one more block of queries. -/
theorem stepV_at (Y : Vec Ideal S1024x128 .f32) (j : Fin 1024) (d : Fin 128)
    (hY : κ ≠ β → Y (ix2 j d) = ((M.dv (1024 * κ.val + j.val) (1024 * β.val) d.val : ℝ) : EReal)) :
    stepV x4 x5 x7 x9 κ β Y (ix2 j d) = ((M.dv (1024 * κ.val + j.val) (1024 * β.val + 1024) d.val : ℝ) : EReal) := by
  by_cases hk : κ = β
  · refine (congrFun (if_pos hk) _).trans ?_
    subst hk
    exact diagV_at H j d
  · exact (congrFun (if_neg hk) _).trans (offV_at H (lt_of_le_of_ne hle fun h => hk (Fin.ext h)) Y j d (hY hk))

end Step

end Cert.KernelIdeal.Gen
end
-- ==== Proof.Arrays.lean ====
module

public import proofs.«01_k».proof.Proof.Geometry
public import proofs.«01_k».proof.Proof.StepValues
public import Idealize.ShloMosaic.Lib.Pipeline.ArrRel

@[expose] public section

/-!
# The arrays after the call

When every point's blocks hold real numbers, the three results are the sums over all keys and over all
queries: by induction on the points for the rows of the gradient of `q` and for the two accumulators, and
then element by element of the arrays the blocks are written back to.
-/

set_option maxRecDepth 16384

noncomputable section

namespace Cert.KernelIdeal.Gen

open Idealize.ShloMosaic Idealize.ShloMosaic.TcCoe Idealize.ShloMosaic.Tactic
open Idealize.ShloMosaic.Pipeline (Dat Cfg Window RDat)

/-! ### The order of the steps -/

/-- How many steps before `n` have query block `b`. -/
def cnt (b : Fin 8) (n : ℕ) : ℕ := ((List.finRange 36).filter fun p => p.val < n ∧ bet p = b).length

theorem cnt_self : ∀ p : Fin 36, cnt (bet p) p.val = (kap p).val ∧ cnt (bet p) (p.val + 1) = (kap p).val + 1 := by decide +kernel
theorem cnt_other : ∀ p : Fin 36, ∀ b, b ≠ bet p → cnt b (p.val + 1) = cnt b p.val := by decide +kernel
theorem cnt_end : ∀ b : Fin 8, cnt b 36 = b.val + 1 := by decide +kernel
theorem cnt_start : ∀ b : Fin 8, cnt b 0 = 0 := by decide +kernel
theorem kap_zero : ∀ p : Fin 36, (kap p).val ≠ 0 → p.val ≠ 0 := by decide +kernel
theorem bet_prev : ∀ p : Fin 36, kap p ≠ bet p → p.val ≠ 0 ∧ ∀ h : p.val - 1 < 36, kap ⟨p.val - 1, h⟩ = kap p ∧ (bet ⟨p.val - 1, h⟩).val + 1 = (bet p).val := by decide +kernel

/-- The point before. -/
def prev (t : Fin grid0.N) : Fin grid0.N := ⟨t.val - 1, Nat.lt_of_le_of_lt (Nat.sub_le _ _) t.isLt⟩

theorem st_prev (t : Fin grid0.N) (h : (st t).val ≠ 0) : (st (prev t)).val = (st t).val - 1 := by
  rw [step_val, step_val] at *
  show (t.val - 1) % 36 = _
  omega
theorem hd_prev (t : Fin grid0.N) (h : (st t).val ≠ 0) : hd (prev t) = hd t := by
  rw [step_val] at h
  refine Fin.ext ?_
  rw [hd_val, hd_val]
  show (t.val - 1) / 36 = _
  omega
theorem pos_of_st (t : Fin grid0.N) (h : (st t).val ≠ 0) : t.val ≠ 0 := fun e => h (by rw [step_val, e])

section Value

variable (m : (ℓ : Loc nD τ sig) → Buf (Elt Ideal) ℓ) (c : Dev nD) (M : Fin 8 → Mats)

/-- Every point's blocks hold its head's real numbers. -/
def Reals : Prop := ∀ t : Fin grid0.N, Holds (M (hd t)) (kp t).val (bt t).val (qB m c t) (kB m c t) (vB m c t) (doB m c t) (aoB m c t) (lseB m c t)

variable {m c M} (H : Reals m c M)
include H

/-! ### The accumulators -/

/-- After a point the accumulator of the gradient of `k` holds the sums over the queries up to the point's block. -/
theorem dk_at : ∀ (n : ℕ) (t : Fin grid0.N), t.val = n → ∀ j d,
    dkAt m c (t.val + 1) (ix2 j d) = (((M (hd t)).dk (1024 * (kp t).val + j.val) (1024 * (bt t).val + 1024) d.val : ℝ) : EReal)
  | n, t, hn, j, d => by
    rw [dkAt_succ]
    refine stepK_at (H t) (kap_le _) _ j d fun hne => ?_
    obtain ⟨h0, h1⟩ := bet_prev (st t) hne
    have hp := st_prev t h0
    obtain ⟨e1, e2⟩ := h1 (by omega)
    have e : st (prev t) = ⟨(st t).val - 1, by omega⟩ := Fin.ext hp
    have hpos := pos_of_st t h0
    have ih := dk_at (n - 1) (prev t) (by show t.val - 1 = n - 1; omega) j d
    have hv : (prev t).val + 1 = t.val := by show t.val - 1 + 1 = t.val; omega
    rw [hv, hd_prev t h0] at ih
    have k1 : kp (prev t) = kp t := (congrArg kap e).trans e1
    have k2 : (bt (prev t)).val + 1 = (bt t).val := (congrArg (fun p => (bet p).val + 1) e).trans e2
    rw [k1] at ih
    rw [ih, ← k2, Nat.mul_add, Nat.mul_one]
  termination_by n t hn => n
  decreasing_by omega

/-- After a point the accumulator of the gradient of `v` holds the sums over the queries up to the point's block. -/
theorem dv_at : ∀ (n : ℕ) (t : Fin grid0.N), t.val = n → ∀ j d,
    dvAt m c (t.val + 1) (ix2 j d) = (((M (hd t)).dv (1024 * (kp t).val + j.val) (1024 * (bt t).val + 1024) d.val : ℝ) : EReal)
  | n, t, hn, j, d => by
    rw [dvAt_succ]
    refine stepV_at (H t) (kap_le _) _ j d fun hne => ?_
    obtain ⟨h0, h1⟩ := bet_prev (st t) hne
    have hp := st_prev t h0
    obtain ⟨e1, e2⟩ := h1 (by omega)
    have e : st (prev t) = ⟨(st t).val - 1, by omega⟩ := Fin.ext hp
    have hpos := pos_of_st t h0
    have ih := dv_at (n - 1) (prev t) (by show t.val - 1 = n - 1; omega) j d
    have hv : (prev t).val + 1 = t.val := by show t.val - 1 + 1 = t.val; omega
    rw [hv, hd_prev t h0] at ih
    have k1 : kp (prev t) = kp t := (congrArg kap e).trans e1
    have k2 : (bt (prev t)).val + 1 = (bt t).val := (congrArg (fun p => (bet p).val + 1) e).trans e2
    rw [k1] at ih
    rw [ih, ← k2, Nat.mul_add, Nat.mul_one]
  termination_by n t hn => n
  decreasing_by omega

/-! ### The gradient of `q` -/

/-- After a point the rows of a query block that has been visited hold the sums over the keys of its visits. -/
theorem dq_at : ∀ (n : ℕ) (t : Fin grid0.N), t.val = n → ∀ X : Vec Ideal S8192x256 .f32, (rdat m c).Leaves 6 t X → ∀ (b : Fin 8) (r : Fin 1024) (d : Fin 256),
    cnt b ((st t).val + 1) ≠ 0 → X (ix2 (rowAt b r) d) = (((M (hd t)).dq (rowAt b r).val (1024 * cnt b ((st t).val + 1)) d.val : ℝ) : EReal)
  | n, t, hn, X, hX, b, r, d, hc => by
    obtain ⟨Y, hY, hXY⟩ := hX
    have hXY' : X = nextQ m c t Y := by
      unfold rdat at hXY
      rw [RDat.override_after_of_eq_some _ (R := fun t Y X => X = nextQ m c t Y) rfl] at hXY
      exact hXY
    have ih : (st t).val ≠ 0 → cnt b (st t).val ≠ 0 → Y (ix2 (rowAt b r) d) = (((M (hd t)).dq (rowAt b r).val (1024 * cnt b (st t).val) d.val : ℝ) : EReal) := by
      intro h0 hc'
      have hpos := pos_of_st t h0
      have hp := st_prev t h0
      rcases ((rdat m c).finds_of_pos (w := 6) (t := t) rfl hpos Y).1 hY with hfl | hL
      · have h35 := (flush_6 (F := Ideal) (prev t)).1 hfl
        rw [← step_val, hp] at h35
        omega
      · have := dq_at (n - 1) (prev t) (by show t.val - 1 = n - 1; omega) Y hL b r d
        have hv : (st (prev t)).val + 1 = (st t).val := by omega
        rw [hv, hd_prev t h0] at this
        exact this hc'
    rw [hXY']
    have hr : (rowAt b r).val = 1024 * b.val + r.val := rfl
    by_cases hb : b = bt t
    · subst hb
      obtain ⟨c1, c2⟩ := cnt_self (st t)
      have c2' : cnt (bt t) ((st t).val + 1) = (kp t).val + 1 := c2
      have c1' : cnt (bt t) (st t).val = (kp t).val := c1
      rw [c2', Nat.mul_add, Nat.mul_one]
      refine stepQ_in (H t) (kap_le _) Y (rowAt (bt t) r) d (by omega) fun hk => ?_
      have := ih (kap_zero _ hk) (by rw [c1']; exact hk)
      rw [c1'] at this
      exact this
    · have hco : cnt b ((st t).val + 1) = cnt b (st t).val := cnt_other (st t) b hb
      rw [hco] at hc ⊢
      have hb' : b.val ≠ (bt t).val := fun e => hb (Fin.ext e)
      refine (stepQ_out (H t) (kap_le _) Y (rowAt b r) d (by omega)).trans ?_
      refine ih (fun h0 => hc ?_) hc
      rw [h0]; exact cnt_start b
  termination_by n t hn => n
  decreasing_by omega

/-- At a head's last point every row holds the sum over all keys. -/
theorem dq_end (t : Fin grid0.N) (ht : t.val % 36 = 35) (X : Vec Ideal S8192x256 .f32) (hX : (rdat m c).Leaves 6 t X) (i : Fin 8192) (d : Fin 256) :
    X (ix2 i d) = (((M (hd t)).dq i.val 8192 d.val : ℝ) : EReal) := by
  have hs : (st t).val + 1 = 36 := by rw [step_val]; omega
  have hi : i = rowAt ⟨i.val / 1024, by omega⟩ ⟨i.val % 1024, by omega⟩ := Fin.ext (by show i.val = 1024 * (i.val / 1024) + i.val % 1024; omega)
  have e := dq_at H _ t rfl X hX ⟨i.val / 1024, by omega⟩ ⟨i.val % 1024, by omega⟩ d (by rw [hs, cnt_end]; omega)
  rw [hs, cnt_end, ← hi] at e
  exact e.trans (congrArg (fun x : ℝ => (x : EReal))
    ((M (hd t)).dq_of_le i.val (1024 * (i.val / 1024 + 1)) 8192 d.val (by omega) (by omega)))

/-! ### What is written back -/

/-- The key gradient's block at a key block's last point. -/
theorem dk_end (t : Fin grid0.N) (hb : bt t = 7) (X : Vec Ideal S1024x256 .f32) (hX : (rdat m c).Leaves 7 t X) (j : Fin 1024) (d : Fin 256) :
    X (ix2 j d) = (((M (hd t)).dk (rowAt (kp t) j).val 8192 d.val * Real.log 2 : ℝ) : EReal) := by
  obtain ⟨Y, hY, hXY⟩ := hX
  unfold rdat at hXY
  rw [RDat.override_after_of_eq_some _ (R := fun t Y X => X = if bt t = 7 then k0_pay6 (dkAt m c (t.val + 1)) else Y) rfl] at hXY
  have hXY' : X = if bt t = 7 then k0_pay6 (dkAt m c (t.val + 1)) else Y := hXY
  rw [hXY', if_pos hb]
  pointwise [k0_pay6]
  have e := dk_at H _ t rfl j d
  rw [hb] at e
  rw [e]
  rw [IdealRules.named_const.ideal_named_scalar κ "ln2" (φ := .f32) 0x3F317218#32 ((Real.log 2 : ℝ) : EReal) rfl, ← EReal.coe_mul]
  rfl

/-- The value gradient's block at a key block's last point. -/
theorem dv_end (t : Fin grid0.N) (hb : bt t = 7) (X : Vec Ideal S1024x128 .f32) (hX : (rdat m c).Leaves 8 t X) (j : Fin 1024) (d : Fin 128) :
    X (ix2 j d) = (((M (hd t)).dv (rowAt (kp t) j).val 8192 d.val : ℝ) : EReal) := by
  obtain ⟨Y, hY, hXY⟩ := hX
  unfold rdat at hXY
  rw [RDat.override_after_of_eq_some _ (R := fun t Y X => X = if bt t = 7 then dvAt m c (t.val + 1) else Y) rfl] at hXY
  have hXY' : X = if bt t = 7 then dvAt m c (t.val + 1) else Y := hXY
  rw [hXY', if_pos hb]
  have e := dv_at H _ t rfl j d
  rw [hb] at e
  exact e

end Value

/-! ### The three arrays -/

/-- Element of a 2048-column array: head and column. -/
def hd256 (x : Fin 2048) : Fin 8 := ⟨x.val / 256, by omega⟩
def hd128 (x : Fin 1024) : Fin 8 := ⟨x.val / 128, by omega⟩

/-- The gradient of `q`: sums over all keys. -/
def resQ (M : Fin 8 → Mats) : S8192x2048.Idx → EReal := fun i => (((M (hd256 (i 1))).dq (i 0).val 8192 ((i 1).val % 256) : ℝ) : EReal)
/-- The gradient of `k`: sums over all queries. -/
def resK (M : Fin 8 → Mats) : S8192x2048.Idx → EReal := fun i => (((M (hd256 (i 1))).dk (i 0).val 8192 ((i 1).val % 256) * Real.log 2 : ℝ) : EReal)
/-- The gradient of `v`: sums over all queries. -/
def resV (M : Fin 8 → Mats) : S8192x1024.Idx → EReal := fun i => (((M (hd128 (i 1))).dv (i 0).val 8192 ((i 1).val % 128) : ℝ) : EReal)

theorem hd_col256 (h : Fin 8) (d : Fin 256) : hd256 (col256 h d) = h := Fin.ext (by show (256 * h.val + d.val) / 256 = h.val; omega)
theorem mod_col256 (h : Fin 8) (d : Fin 256) : (col256 h d).val % 256 = d.val := by show (256 * h.val + d.val) % 256 = d.val; omega
theorem hd_col128 (h : Fin 8) (d : Fin 128) : hd128 (col128 h d) = h := Fin.ext (by show (128 * h.val + d.val) / 128 = h.val; omega)
theorem mod_col128 (h : Fin 8) (d : Fin 128) : (col128 h d).val % 128 = d.val := by show (128 * h.val + d.val) % 128 = d.val; omega

theorem resQ_at (M : Fin 8 → Mats) (r : Fin 8192) (h : Fin 8) (d : Fin 256) : resQ M (ix2 r (col256 h d)) = (((M h).dq r.val 8192 d.val : ℝ) : EReal) := by
  show (((M (hd256 (col256 h d))).dq r.val 8192 ((col256 h d).val % 256) : ℝ) : EReal) = _
  rw [hd_col256, mod_col256]
theorem resK_at (M : Fin 8 → Mats) (r : Fin 8192) (h : Fin 8) (d : Fin 256) : resK M (ix2 r (col256 h d)) = (((M h).dk r.val 8192 d.val * Real.log 2 : ℝ) : EReal) := by
  show (((M (hd256 (col256 h d))).dk r.val 8192 ((col256 h d).val % 256) * Real.log 2 : ℝ) : EReal) = _
  rw [hd_col256, mod_col256]
theorem resV_at (M : Fin 8 → Mats) (r : Fin 8192) (h : Fin 8) (d : Fin 128) : resV M (ix2 r (col128 h d)) = (((M h).dv r.val 8192 d.val : ℝ) : EReal) := by
  show (((M (hd128 (col128 h d))).dv r.val 8192 ((col128 h d).val % 128) : ℝ) : EReal) = _
  rw [hd_col128, mod_col128]

/-- A window's array after the run, when every block written back holds the array `R` there and the blocks cover it. -/
theorem arr_eq {m : (ℓ : Loc nD τ sig) → Buf (Elt Ideal) ℓ} {c : Dev nD} (w : Fin (cfgT (F := Ideal)).W)
    (G R : Buf (Elt Ideal) (((cfgT (F := Ideal)).win w).arr.view.loc (c.tc : Thread nD τ)))
    (hG : (rdat m c).ArrAt w (cfgT (F := Ideal)).N G)
    (hR : ∀ t, ((cfgT (F := Ideal)).win w).flush t = true → ∀ X, (rdat m c).Leaves w t X → ∀ y : (((cfgT (F := Ideal)).win w).xblock (grid0.coords t)).Idx,
      _root_.cast (congrArg (Elt Ideal) (((cfgT (F := Ideal)).win w).blk t).view.elt_eq.symm) (((cfgT (F := Ideal)).win w).cut (grid0.coords t) X y) = R ((((cfgT (F := Ideal)).win w).blk t).view.emb y))
    (hcover : ∀ i : (((cfgT (F := Ideal)).win w).arr.view.loc (c.tc : Thread nD τ)).2.ty.Idx,
      ∃ t, ((cfgT (F := Ideal)).win w).flush t = true ∧ i ∈ (((cfgT (F := Ideal)).win w).blk t).view.set) : G = R := by
  obtain ⟨X, hX, hA⟩ := hG.exists_exact
  let after : (w' : Fin (cfgT (F := Ideal)).W) → Fin (cfgT (F := Ideal)).N → ((cfgT (F := Ideal)).win w').block.Idx → Elt Ideal ((cfgT (F := Ideal)).win w').elt :=
    fun w' t => if h : w' = w then h ▸ X t else Classical.choice ⟨(dat m c).after w' t⟩
  have ha : ∀ u, after w u = X u := fun u => dif_pos rfl
  have e := hA after fun u _ _ => ha u
  rw [e]
  funext i
  refine Dat.arrAt_forall_of_cover (dat := (rdat m c).withAfter after) w (fun i v => v = R i) (fun t ht y => ?_) hcover i
  rw [← hR t ht (X t) (hX t t.isLt ht) y, ← ha t]
  rfl

/-- The array of the gradient of `q`. -/
theorem arr_6 {m : (ℓ : Loc nD τ sig) → Buf (Elt Ideal) ℓ} {c : Dev nD} {M : Fin 8 → Mats} (H : Reals m c M)
    (G : Buf (Elt Ideal) (((cfgT (F := Ideal)).win 6).arr.view.loc (c.tc : Thread nD τ))) (hG : (rdat m c).ArrAt 6 (cfgT (F := Ideal)).N G) : G = resQ M := by
  refine arr_eq 6 G (resQ M) hG (fun t ht X hX y => ?_) fun i => ?_
  · have e : (((cfgT (F := Ideal)).win 6).blk t).view.emb y = (ix2 (y (0 : Fin 2)) (col256 (hd t) (y (1 : Fin 2))) : S8192x2048.Idx) :=
      (congrArg _ (eq_ix2 (y : S8192x256.Idx))).trans (rect_6 (F := Ideal) t _ _)
    rw [e]
    refine Eq.trans ?_ (resQ_at M _ _ _).symm
    refine Eq.trans ?_ (dq_end H t ((flush_6 t).1 ht) X hX _ _)
    exact congrArg X (eq_ix2 (y : S8192x256.Idx))
  · obtain ⟨i0, h, d, hi⟩ : ∃ (i0 : Fin 8192) (h : Fin 8) (d : Fin 256), i = (ix2 i0 (col256 h d) : S8192x2048.Idx) := by
      let x : S8192x2048.Idx := i
      have h1 : (x 1).val < 2048 := (x 1).isLt
      refine ⟨x 0, ⟨(x 1).val / 256, by omega⟩, ⟨(x 1).val % 256, by omega⟩, (eq_ix2 x).trans (congrArg (ix2 (x 0)) (Fin.ext ?_))⟩
      show (x 1).val = 256 * ((x 1).val / 256) + (x 1).val % 256
      omega
    have e : (((cfgT (F := Ideal)).win 6).blk (pt h 35)).view.emb (ix2 i0 d : S8192x256.Idx) = i := by
      refine (rect_6 (F := Ideal) (pt h 35) i0 d).trans ?_
      rw [hd_pt]; exact hi.symm
    exact ⟨pt h 35, (flush_6 _).2 (by show (36 * h.val + 35) % 36 = 35; omega), e ▸ View.emb_mem_set _ _⟩

/-- The array of the gradient of `k`. -/
theorem arr_7 {m : (ℓ : Loc nD τ sig) → Buf (Elt Ideal) ℓ} {c : Dev nD} {M : Fin 8 → Mats} (H : Reals m c M)
    (G : Buf (Elt Ideal) (((cfgT (F := Ideal)).win 7).arr.view.loc (c.tc : Thread nD τ))) (hG : (rdat m c).ArrAt 7 (cfgT (F := Ideal)).N G) : G = resK M := by
  refine arr_eq 7 G (resK M) hG (fun t ht X hX y => ?_) fun i => ?_
  · have e : (((cfgT (F := Ideal)).win 7).blk t).view.emb y = (ix2 (rowAt (kp t) (y (0 : Fin 2))) (col256 (hd t) (y (1 : Fin 2))) : S8192x2048.Idx) :=
      (congrArg _ (eq_ix2 (y : S1024x256.Idx))).trans (rect_7 (F := Ideal) t _ _)
    rw [e]
    refine Eq.trans ?_ (resK_at M _ _ _).symm
    refine Eq.trans ?_ (dk_end H t ((flush_7 t).1 ht) X hX _ _)
    exact congrArg X (eq_ix2 (y : S1024x256.Idx))
  · obtain ⟨i0, h, d, hi⟩ : ∃ (i0 : Fin 8192) (h : Fin 8) (d : Fin 256), i = (ix2 i0 (col256 h d) : S8192x2048.Idx) := by
      let x : S8192x2048.Idx := i
      have h1 : (x 1).val < 2048 := (x 1).isLt
      refine ⟨x 0, ⟨(x 1).val / 256, by omega⟩, ⟨(x 1).val % 256, by omega⟩, (eq_ix2 x).trans (congrArg (ix2 (x 0)) (Fin.ext ?_))⟩
      show (x 1).val = 256 * ((x 1).val / 256) + (x 1).val % 256
      omega
    obtain ⟨p, hk, hb⟩ := last_of ⟨i0.val / 1024, by omega⟩
    have hkp : kp (pt h p) = ⟨i0.val / 1024, by omega⟩ := (congrArg kap (step_pt h p)).trans hk
    have hbt : bt (pt h p) = 7 := (congrArg bet (step_pt h p)).trans hb
    have e : (((cfgT (F := Ideal)).win 7).blk (pt h p)).view.emb (ix2 ⟨i0.val % 1024, by omega⟩ d : S1024x256.Idx) = i := by
      refine (rect_7 (F := Ideal) (pt h p) _ d).trans ?_
      rw [hd_pt, hkp, show rowAt ⟨i0.val / 1024, by omega⟩ ⟨i0.val % 1024, by omega⟩ = i0 from Fin.ext (by show 1024 * (i0.val / 1024) + i0.val % 1024 = i0.val; omega)]
      exact hi.symm
    exact ⟨pt h p, (flush_7 _).2 hbt, e ▸ View.emb_mem_set _ _⟩

/-- The array of the gradient of `v`. -/
theorem arr_8 {m : (ℓ : Loc nD τ sig) → Buf (Elt Ideal) ℓ} {c : Dev nD} {M : Fin 8 → Mats} (H : Reals m c M)
    (G : Buf (Elt Ideal) (((cfgT (F := Ideal)).win 8).arr.view.loc (c.tc : Thread nD τ))) (hG : (rdat m c).ArrAt 8 (cfgT (F := Ideal)).N G) : G = resV M := by
  refine arr_eq 8 G (resV M) hG (fun t ht X hX y => ?_) fun i => ?_
  · have e : (((cfgT (F := Ideal)).win 8).blk t).view.emb y = (ix2 (rowAt (kp t) (y (0 : Fin 2))) (col128 (hd t) (y (1 : Fin 2))) : S8192x1024.Idx) :=
      (congrArg _ (eq_ix2 (y : S1024x128.Idx))).trans (rect_8 (F := Ideal) t _ _)
    rw [e]
    refine Eq.trans ?_ (resV_at M _ _ _).symm
    refine Eq.trans ?_ (dv_end H t ((flush_8 t).1 ht) X hX _ _)
    exact congrArg X (eq_ix2 (y : S1024x128.Idx))
  · obtain ⟨i0, h, d, hi⟩ : ∃ (i0 : Fin 8192) (h : Fin 8) (d : Fin 128), i = (ix2 i0 (col128 h d) : S8192x1024.Idx) := by
      let x : S8192x1024.Idx := i
      have h1 : (x 1).val < 1024 := (x 1).isLt
      refine ⟨x 0, ⟨(x 1).val / 128, by omega⟩, ⟨(x 1).val % 128, by omega⟩, (eq_ix2 x).trans (congrArg (ix2 (x 0)) (Fin.ext ?_))⟩
      show (x 1).val = 128 * ((x 1).val / 128) + (x 1).val % 128
      omega
    obtain ⟨p, hk, hb⟩ := last_of ⟨i0.val / 1024, by omega⟩
    have hkp : kp (pt h p) = ⟨i0.val / 1024, by omega⟩ := (congrArg kap (step_pt h p)).trans hk
    have hbt : bt (pt h p) = 7 := (congrArg bet (step_pt h p)).trans hb
    have e : (((cfgT (F := Ideal)).win 8).blk (pt h p)).view.emb (ix2 ⟨i0.val % 1024, by omega⟩ d : S1024x128.Idx) = i := by
      refine (rect_8 (F := Ideal) (pt h p) _ d).trans ?_
      rw [hd_pt, hkp, show rowAt ⟨i0.val / 1024, by omega⟩ ⟨i0.val % 1024, by omega⟩ = i0 from Fin.ext (by show 1024 * (i0.val / 1024) + i0.val % 1024 = i0.val; omega)]
      exact hi.symm
    exact ⟨pt h p, (flush_8 _).2 hbt, e ▸ View.emb_mem_set _ _⟩

/-- The run, when on every device the points' blocks hold real numbers: the three results and the arguments. -/
theorem run_value (m : (ℓ : Loc nD τ sig) → Buf (Elt Ideal) ℓ) (ρ : Dev nD → PrngReg) (M : Dev nD → Fin 8 → Mats) (H : ∀ c, Reals m c (M c)) :
    θ_run defs (onTc (τ := τ) (main (F := Ideal))) ⟨m, fun _ => 0, ρ⟩ (fun r => ∀ c : Dev nD,
      r.2.mem ((c.tc : Thread nD τ).loc main_v42_0) = resQ (M c)
      ∧ r.2.mem ((c.tc : Thread nD τ).loc main_v42_1) = resK (M c)
      ∧ r.2.mem ((c.tc : Thread nD τ).loc main_v42_2) = resV (M c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ ⟨h, _⟩ c =>
    ⟨arr_6 (H c) _ ((h c).1 6), arr_7 (H c) _ ((h c).1 7), arr_8 (H c) _ ((h c).1 8),
     ((h c).2 main_arg0 rest_arg0).trans (V_arg m c _ (by decide)), ((h c).2 main_arg1 rest_arg1).trans (V_arg m c _ (by decide)),
     ((h c).2 main_arg2 rest_arg2).trans (V_arg m c _ (by decide)), ((h c).2 main_arg3 rest_arg3).trans (V_arg m c _ (by decide))⟩)
    (run_main m ρ)

end Cert.KernelIdeal.Gen
end
-- ==== Proof.Softmax.lean ====
module

public import proofs.«01_k».proof.Proof.StepValues

@[expose] public section

/-!
# The attention of one head over the real numbers

The probabilities, their row sums, the output and the logarithm of the row sum of one head of causal
attention; the exponentials may be taken relative to any number per row. What the kernel multiplies out
of these, and what the derivative's plain formula multiplies out of them, are the same sums.
-/

set_option maxRecDepth 16384

noncomputable section

namespace Cert.KernelIdeal.Gen

open Idealize.ShloMosaic

/-- One head: queries, keys, values, the output's cotangent, and the number each row's exponentials are relative to. -/
structure Head where
  q : ℕ → ℕ → ℝ
  k : ℕ → ℕ → ℝ
  v : ℕ → ℕ → ℝ
  g : ℕ → ℕ → ℝ
  mx : ℕ → ℝ

namespace Head

variable (A : Head)

/-- A score. -/
def sc (i j : ℕ) : ℝ := ∑ d : Fin 256, A.q i d.val * A.k j d.val
/-- An exponential, zero after the causal limit. -/
def e (i j : ℕ) : ℝ := if j ≤ i then Real.exp (A.sc i j - A.mx i) else 0
/-- A row's sum of exponentials. -/
def z (i : ℕ) : ℝ := ∑ j : Fin 8192, A.e i j.val
/-- A probability. -/
def P (i j : ℕ) : ℝ := A.e i j / A.z i
/-- The output. -/
def O (i d : ℕ) : ℝ := ∑ j : Fin 8192, A.v j.val d * A.P i j.val
/-- The logarithm of the row sum, to base 2. -/
def lse (i : ℕ) : ℝ := (A.mx i + Real.log (A.z i)) / Real.log 2
/-- The cotangent of a probability. -/
def dp (i j : ℕ) : ℝ := ∑ d : Fin 128, A.g i d.val * A.v j d.val
/-- The cotangent of a score, as the derivative of the quotient and of the exponential give it. -/
def ds (i j : ℕ) : ℝ := if j ≤ i then (A.dp i j / A.z i + -∑ j' : Fin 8192, A.dp i j'.val * (1 / (A.z i * A.z i)) * A.e i j'.val) * A.e i j else 0
/-- The gradients. -/
def gq (i d : ℕ) : ℝ := ∑ j : Fin 8192, A.ds i j.val * A.k j.val d
def gk (j d : ℕ) : ℝ := ∑ i : Fin 8192, A.ds i.val j * A.q i.val d
def gv (j d : ℕ) : ℝ := ∑ i : Fin 8192, A.g i.val d * A.P i.val j

/-- What the kernel is handed: queries over `log 2`, the output and the base 2 logarithm of the row sum. -/
def mats : Mats where
  q i d := A.q i d / Real.log 2
  k := A.k
  v := A.v
  g := A.g
  o := A.O
  l := A.lse

theorem e_nonneg (i j : ℕ) : 0 ≤ A.e i j := by
  unfold e; split
  · exact (Real.exp_pos _).le
  · exact le_rfl

theorem z_pos {i : ℕ} (hi : i < 8192) : 0 < A.z i := by
  refine Finset.sum_pos' (fun j _ => A.e_nonneg i j.val) ⟨⟨i, hi⟩, Finset.mem_univ _, ?_⟩
  unfold e; rw [if_pos le_rfl]; exact Real.exp_pos _

theorem log_two_ne : Real.log 2 ≠ 0 := (Real.log_pos (by norm_num)).ne'

theorem s_eq (i j : ℕ) : A.mats.s i j = A.sc i j / Real.log 2 := by
  unfold Mats.s sc mats
  rw [Finset.sum_div]
  exact Finset.sum_congr rfl fun d _ => by ring

/-- The power of two the kernel takes is the probability. -/
theorem p_eq {i : ℕ} (hi : i < 8192) (j : ℕ) : A.mats.p i j = A.P i j := by
  unfold Mats.p P e
  by_cases h : j ≤ i
  · rw [if_pos h, if_pos h, s_eq]
    show Real.rpow 2 (A.sc i j / Real.log 2 - A.lse i) = _
    have hz := A.z_pos hi
    rw [Real.rpow_eq_pow, Real.rpow_def_of_pos (by norm_num), lse,
      show Real.log 2 * (A.sc i j / Real.log 2 - (A.mx i + Real.log (A.z i)) / Real.log 2) = A.sc i j - A.mx i - Real.log (A.z i) by
        field_simp [log_two_ne]; ring, Real.exp_sub, Real.exp_log hz]
  · rw [if_neg h, if_neg h, zero_div]

theorem dp_eq (i j : ℕ) : A.mats.dp i j = A.dp i j := rfl

/-- The row number the kernel subtracts: the output times its cotangent is the probabilities times theirs. -/
theorem dl_eq (i : ℕ) : A.mats.dl i = ∑ j : Fin 8192, A.P i j.val * A.dp i j.val := by
  show ∑ d : Fin 128, A.g i d.val * A.O i d.val = _
  simp only [O, dp, Finset.mul_sum]
  rw [Finset.sum_comm]
  exact Finset.sum_congr rfl fun j _ => Finset.sum_congr rfl fun d _ => by ring

/-- The two forms of the cotangent of a score. -/
theorem ds_eq {i : ℕ} (hi : i < 8192) (j : ℕ) : A.mats.ds i j = A.ds i j := by
  unfold Mats.ds
  rw [A.p_eq hi, dp_eq, dl_eq]
  unfold ds
  by_cases h : j ≤ i
  · rw [if_pos h]
    have hz := (A.z_pos hi).ne'
    have e1 : ∑ j' : Fin 8192, A.dp i j'.val * (1 / (A.z i * A.z i)) * A.e i j'.val = (∑ j' : Fin 8192, A.P i j'.val * A.dp i j'.val) / A.z i := by
      rw [Finset.sum_div]
      exact Finset.sum_congr rfl fun j' _ => by unfold P; field_simp
    rw [e1]
    unfold P
    field_simp
    ring
  · rw [if_neg h]
    unfold P e
    rw [if_neg h]; ring

theorem dq_eq {i : ℕ} (hi : i < 8192) (d : ℕ) : A.mats.dq i 8192 d = A.gq i d := by
  unfold Mats.dq gq
  rw [Finset.sum_range]
  exact Finset.sum_congr rfl fun j _ => by rw [A.ds_eq hi]; rfl

theorem dk_eq (j d : ℕ) : A.mats.dk j 8192 d * Real.log 2 = A.gk j d := by
  unfold Mats.dk gk
  rw [Finset.sum_range, Finset.sum_mul]
  refine Finset.sum_congr rfl fun i _ => ?_
  rw [A.ds_eq i.isLt]
  show A.ds i.val j * (A.q i.val d / Real.log 2) * Real.log 2 = _
  field_simp [log_two_ne]

theorem dv_eq (j d : ℕ) : A.mats.dv j 8192 d = A.gv j d := by
  unfold Mats.dv gv
  rw [Finset.sum_range]
  refine Finset.sum_congr rfl fun i _ => ?_
  rw [A.p_eq i.isLt, mul_comm]; rfl

end Head

/-! ### The greatest entry of a masked row -/

/-- The greatest of numbers, some of them `−∞` and at least one real, is real. -/
theorem fold_max_real {n : ℕ} (f : Fin n → EReal) (ht : ∀ j, f j ≠ ⊤) (i : Fin n) (hi : f i ≠ ⊥) : ∃ r : ℝ, (Finset.univ : Finset (Fin n)).fold max ⊥ f = (r : EReal) := by
  have h1 : (Finset.univ : Finset (Fin n)).fold max ⊥ f ≠ ⊤ := by
    have : ∀ s : Finset (Fin n), s.fold max ⊥ f ≠ ⊤ := by
      intro s
      induction s using Finset.induction_on with
      | empty => simp
      | insert a s ha ih =>
        rw [Finset.fold_insert ha]
        rcases max_choice (f a) (s.fold max ⊥ f) with h | h <;> rw [h]
        · exact ht a
        · exact ih
    exact this _
  have h2 : (Finset.univ : Finset (Fin n)).fold max ⊥ f ≠ ⊥ := by
    intro h
    have : f i ≤ (Finset.univ : Finset (Fin n)).fold max ⊥ f := Finset.le_fold_max _ |>.2 (.inr ⟨i, Finset.mem_univ _, le_rfl⟩)
    rw [h] at this
    exact hi (le_bot_iff.1 this)
  exact ⟨_, (EReal.coe_toReal h1 h2).symm⟩

/-- A row's number: the greatest of its scores up to the causal limit. -/
theorem exists_mx (s : ℕ → ℕ → ℝ) : ∃ mx : ℕ → ℝ, ∀ i : Fin 8192,
    (Finset.univ : Finset (Fin 8192)).fold max ⊥ (fun j : Fin 8192 => if j.val ≤ i.val then ((s i.val j.val : ℝ) : EReal) else ⊥) = ((mx i.val : ℝ) : EReal) := by
  have h : ∀ i : Fin 8192, ∃ r : ℝ, (Finset.univ : Finset (Fin 8192)).fold max ⊥ (fun j : Fin 8192 => if j.val ≤ i.val then ((s i.val j.val : ℝ) : EReal) else ⊥) = (r : EReal) :=
    fun i => fold_max_real _ (fun j => by split; exacts [EReal.coe_ne_top _, bot_ne_top]) i (by rw [if_pos le_rfl]; exact EReal.coe_ne_bot _)
  choose f hf using h
  exact ⟨fun i => if h : i < 8192 then f ⟨i, h⟩ else 0, fun i => by rw [hf]; show _ = ((dite (i.val < 8192) _ _ : ℝ) : EReal); rw [dif_pos i.isLt]⟩

end Cert.KernelIdeal.Gen
end
-- ==== Proof.HostValues.lean ====
module

public import proofs.«01_k».proof.Proof.Arrays
public import proofs.«01_k».proof.Proof.Softmax
public import Idealize.ShloMosaic.Lib.StableHlo.ReadAt

@[expose] public section

/-!
# What the host hands to the call

The host's line in three stretches: the masked scores; the row maxima, exponentials and row sums; the output
and the logarithm of the row sums. Where the arguments hold real numbers, so does everything the call reads.
-/

set_option maxRecDepth 16384

noncomputable section

namespace Cert.KernelIdeal.Gen

open Idealize.ShloMosaic Idealize.ShloMosaic.TcCoe Idealize.ShloMosaic.Tactic

/-- The arguments' elements are the heads' real numbers; a row's number is the greatest of its scores. -/
structure Args (x0 x1 : S8192x2048.Idx → EReal) (x2 x3 : S8192x1024.Idx → EReal) (A : Fin 8 → Head) : Prop where
  q : ∀ r h d, x0 (ix2 r (col256 h d)) = (((A h).q r.val d.val : ℝ) : EReal)
  k : ∀ r h d, x1 (ix2 r (col256 h d)) = (((A h).k r.val d.val : ℝ) : EReal)
  v : ∀ r h d, x2 (ix2 r (col128 h d)) = (((A h).v r.val d.val : ℝ) : EReal)
  g : ∀ r h d, x3 (ix2 r (col128 h d)) = (((A h).g r.val d.val : ℝ) : EReal)
  mx : ∀ h (i : Fin 8192), (Finset.univ : Finset (Fin 8192)).fold max ⊥ (fun j : Fin 8192 => if j.val ≤ i.val then (((A h).sc i.val j.val : ℝ) : EReal) else ⊥) = (((A h).mx i.val : ℝ) : EReal)

/-! ### Scalars -/

theorem mk_col256 (h : Fin 8) (d : Fin 256) (p) : (⟨h.val * 256 + d.val, p⟩ : Fin 2048) = col256 h d := Fin.ext (by show h.val * 256 + d.val = 256 * h.val + d.val; omega)
theorem mk_col128 (h : Fin 8) (d : Fin 128) (p) : (⟨h.val * 128 + d.val, p⟩ : Fin 1024) = col128 h d := Fin.ext (by show h.val * 128 + d.val = 128 * h.val + d.val; omega)

theorem ofBits_bot : Ideal.ofBits .f32 0xFF800000#32 = (⊥ : EReal) := by simp [Ideal.ofBits, Ideal.ieee]
theorem ofBits_two : Ideal.ofBits .f32 0x40000000#32 = ((2 : ℝ) : EReal) := by simp [Ideal.ofBits, Ideal.ieee]; rw [← EReal.coe_mul]; norm_num
theorem log_two : Ideal.log (Ideal.ofBits .f32 0x40000000#32) = ((Real.log 2 : ℝ) : EReal) := by
  rw [ofBits_two, Ideal.log_coe, if_neg (by norm_num)]
theorem div_real (a b : ℝ) (h : b ≠ 0) : Ideal.div ((a : ℝ) : EReal) ((b : ℝ) : EReal) = ((a / b : ℝ) : EReal) := by
  rw [Ideal.div_coe h, ← EReal.coe_mul, mul_one_div]

/-- A mask of two positions chooses by their order. -/
theorem select_mask (i j : Fin 8192) (a b : EReal) :
    Scalar.select (IntOp.cmpi CmpIPredicate.sge (BitVec.ofNat 32 i.val) (BitVec.ofNat 32 j.val)) a b = if j.val ≤ i.val then a else b := by
  rw [WordCmp.cmpi_sge_ofNat (by omega) (by omega)]
  by_cases h : j.val ≤ i.val
  · rw [if_pos h, decide_eq_true h]; rfl
  · rw [if_neg h, decide_eq_false h]; rfl

/-- An exponential relative to a row's number. -/
theorem exp_mask (A : Head) (i j : ℕ) :
    Ideal.exp ((if j ≤ i then ((A.sc i j : ℝ) : EReal) else ⊥) - ((A.mx i : ℝ) : EReal)) = ((A.e i j : ℝ) : EReal) := by
  unfold Head.e
  by_cases h : j ≤ i
  · rw [if_pos h, if_pos h, ← EReal.coe_sub, Ideal.exp_coe]
  · rw [if_neg h, if_neg h, EReal.bot_sub]; rfl

/-! ### The three stretches -/

/-- A line of operations is its first `n`, then the others. -/
theorem after_split (ops : List (HloOp τ sig (Elt Ideal))) (n : ℕ) (W) : StableHlo.after ops W = StableHlo.after (ops.drop n) (StableHlo.upto ops W n) := by
  unfold StableHlo.upto
  induction n generalizing ops W with
  | zero => rfl
  | succ n ih =>
    cases ops with
    | nil => rfl
    | cons op l => exact ih l _

abbrev seg0 : List (HloOp τ sig (Elt Ideal)) := hostAll.flatten
abbrev seg1 : List (HloOp τ sig (Elt Ideal)) := seg0.drop 17
abbrev seg2 : List (HloOp τ sig (Elt Ideal)) := seg1.drop 9

variable {W : (b : DevRef τ sig) → b.ty.Contents (Elt Ideal)} {A : Fin 8 → Head}

/-- The first stretch leaves the masked scores. -/
theorem read_v10 (H : Args (W main_arg0) (W main_arg1) (W main_arg2) (W main_arg3) A) (h : Fin 8) (i j : Fin 8192) :
    StableHlo.upto seg0 W 17 main_v10 (ix3 h i j : S8x8192x8192.Idx) = if j.val ≤ i.val then (((A h).sc i.val j.val : ℝ) : EReal) else ⊥ := by
  after_reads_at
  rw [select_mask]
  simp only [mk_col256]
  refine ite_congr rfl (fun _ => ?_) fun _ => ?_
  · unfold Head.sc
    rw [← coe_sum]
    exact Finset.sum_congr rfl fun d _ => by rw [EReal.coe_mul]; exact congrArg₂ (· * ·) (H.q i h d) (H.k j h d)
  · exact ofBits_bot

theorem read_v2 (h : Fin 8) (i : Fin 8192) (d : Fin 128) : StableHlo.upto seg0 W 17 main_v2 (ix3 i h d : S8192x8x128.Idx) = W main_arg2 (ix2 i (col128 h d) : S8192x1024.Idx) := by
  after_reads_at
  simp only [mk_col128]

section Second

variable (H10 : ∀ (h : Fin 8) (i j : Fin 8192), W main_v10 (ix3 h i j : S8x8192x8192.Idx) = if j.val ≤ i.val then (((A h).sc i.val j.val : ℝ) : EReal) else ⊥)
  (Hm : ∀ h (i : Fin 8192), (Finset.univ : Finset (Fin 8192)).fold max ⊥ (fun j : Fin 8192 => if j.val ≤ i.val then (((A h).sc i.val j.val : ℝ) : EReal) else ⊥) = (((A h).mx i.val : ℝ) : EReal))
include H10 Hm

theorem fold_v10 (h : Fin 8) (i : Fin 8192) :
    Finset.fold max (Ideal.ofBits FTy.f32 4286578688#32) (fun x : Fin 8192 => (W main_v10 (ix3 h i x : S8x8192x8192.Idx) : EReal)) Finset.univ = (((A h).mx i.val : ℝ) : EReal) := by
  rw [ofBits_bot, ← Hm h i]
  congr 1
  funext j
  exact H10 h i j

/-- The second stretch leaves a row's greatest score, -/
theorem read_v12 (h : Fin 8) (i : Fin 8192) : StableHlo.upto seg1 W 9 main_v12 (ix3 h i 0 : S8x8192x1.Idx) = (((A h).mx i.val : ℝ) : EReal) := by
  after_reads_at
  exact fold_v10 H10 Hm h i
/-- the exponentials, -/
theorem read_v15 (h : Fin 8) (i j : Fin 8192) : StableHlo.upto seg1 W 9 main_v15 (ix3 h i j : S8x8192x8192.Idx) = (((A h).e i.val j.val : ℝ) : EReal) := by
  after_reads_at
  refine Eq.trans ?_ (exp_mask (A h) i.val j.val)
  exact congrArg Ideal.exp (congrArg₂ (· - ·) (H10 h i j) (fold_v10 H10 Hm h i))
/-- and their sum. -/
theorem read_v17 (h : Fin 8) (i : Fin 8192) : StableHlo.upto seg1 W 9 main_v17 (ix3 h i 0 : S8x8192x1.Idx) = (((A h).z i.val : ℝ) : EReal) := by
  after_reads_at
  unfold Head.z
  rw [← coe_sum]
  refine Finset.sum_congr rfl fun j _ => ?_
  refine Eq.trans ?_ (exp_mask (A h) i.val j.val)
  exact congrArg Ideal.exp (congrArg₂ (· - ·) (H10 h i j) (fold_v10 H10 Hm h i))

end Second

theorem keep_v2 : StableHlo.upto seg1 W 9 main_v2 = W main_v2 := by after_reads_simp

section Third

/-- The third stretch leaves the base 2 logarithm of the row sum in every column of its head, -/
theorem read_v41 (H12 : ∀ h i, W main_v12 (ix3 h i 0 : S8x8192x1.Idx) = (((A h).mx i.val : ℝ) : EReal)) (H17 : ∀ h i, W main_v17 (ix3 h i 0 : S8x8192x1.Idx) = (((A h).z i.val : ℝ) : EReal))
    (h : Fin 8) (i : Fin 8192) (d : Fin 128) : StableHlo.after seg2 W main_v41 (ix2 i (col128 h d) : S8192x1024.Idx) = (((A h).lse i.val : ℝ) : EReal) := by
  after_reads_at
  have e : ∀ p, (⟨(col128 h d).val / 128, p⟩ : Fin 8) = h := fun p => hd_col128 h d
  simp only [e]
  rw [log_two]
  refine Eq.trans (congrArg (Ideal.div · _) (congrArg₂ (· + ·) (H12 h i) (congrArg Ideal.log (H17 h i)))) ?_
  have hz := (A h).z_pos i.isLt
  rw [Ideal.log_coe, if_neg (not_le.2 hz), ← EReal.coe_add]
  exact div_real _ _ Head.log_two_ne

/-- and the output. -/
theorem read_v40 (H2 : ∀ h i d, W main_v2 (ix3 i h d : S8192x8x128.Idx) = (((A h).v i.val d.val : ℝ) : EReal))
    (H15 : ∀ h i j, W main_v15 (ix3 h i j : S8x8192x8192.Idx) = (((A h).e i.val j.val : ℝ) : EReal)) (H17 : ∀ h i, W main_v17 (ix3 h i 0 : S8x8192x1.Idx) = (((A h).z i.val : ℝ) : EReal))
    (h : Fin 8) (i : Fin 8192) (d : Fin 128) : StableHlo.after seg2 W main_v40 (ix2 i (col128 h d) : S8192x1024.Idx) = (((A h).O i.val d.val : ℝ) : EReal) := by
  after_reads_at
  have e : ∀ p, (⟨(col128 h d).val / 128, p⟩ : Fin 8) = h := fun p => hd_col128 h d
  have e' : ∀ p, (⟨(col128 h d).val % 128, p⟩ : Fin 128) = d := fun p => Fin.ext (mod_col128 h d)
  simp only [e, e']
  unfold Head.O
  rw [← coe_sum]
  refine Finset.sum_congr rfl fun j _ => ?_
  refine (congrArg₂ (fun a b : EReal => a * b) (H2 h j d) (congrArg₂ Ideal.div (H15 h i j) (H17 h i))).trans ?_
  rw [div_real _ _ ((A h).z_pos i.isLt).ne', EReal.coe_mul]
  rfl

end Third

/-! ### What the call reads -/

section Reads

variable {m : (ℓ : Loc nD τ sig) → Buf (Elt Ideal) ℓ} {c : Dev nD}
variable (H : Args (m ((c.tc : Thread nD τ).loc main_arg0)) (m ((c.tc : Thread nD τ).loc main_arg1)) (m ((c.tc : Thread nD τ).loc main_arg2)) (m ((c.tc : Thread nD τ).loc main_arg3)) A)
include H

theorem V_v35 (h : Fin 8) (i : Fin 8192) (d : Fin 256) : V m c main_v35 (ix2 i (col256 h d) : S8192x2048.Idx) = (((A h).mats.q i.val d.val : ℝ) : EReal) := by
  unfold V hostAll
  after_reads_at
  rw [log_two]
  exact (congrArg (Ideal.div · _) (H.q i h d)).trans (div_real _ _ Head.log_two_ne)
theorem V_v36 (h : Fin 8) (i : Fin 8192) (d : Fin 256) : V m c main_v36 (ix2 i (col256 h d) : S8192x2048.Idx) = (((A h).mats.k i.val d.val : ℝ) : EReal) := by
  unfold V hostAll
  after_reads_at
  exact H.k i h d
theorem V_v38 (h : Fin 8) (i : Fin 8192) (d : Fin 256) (hd : d.val < 128) : V m c main_v38 (ix2 i (col256 h d) : S8192x2048.Idx) = (((A h).mats.v i.val d.val : ℝ) : EReal) := by
  unfold V hostAll
  after_reads_at
  have e1 : (col256 h d).val / 256 = h.val := congrArg Fin.val (hd_col256 h d)
  have e2 := mod_col256 h d
  rw [dif_pos ⟨by omega, by omega⟩]
  simp only [e1, e2]
  exact (congrArg (fun x => m (c, Proc.tc.devRef main_arg2) (ix2 i x : S8192x1024.Idx)) (mk_col128 h ⟨d.val, hd⟩ _)).trans (H.v i h ⟨d.val, hd⟩)
theorem V_v39 (h : Fin 8) (i : Fin 8192) (d : Fin 128) : V m c main_v39 (ix2 i (col128 h d) : S8192x1024.Idx) = (((A h).mats.g i.val d.val : ℝ) : EReal) := by
  unfold V hostAll
  after_reads_at
  exact H.g i h d

theorem V_v40 (h : Fin 8) (i : Fin 8192) (d : Fin 128) : V m c main_v40 (ix2 i (col128 h d) : S8192x1024.Idx) = (((A h).mats.o i.val d.val : ℝ) : EReal) := by
  unfold V
  rw [after_split seg0 17, after_split seg1 9]
  have H10 := read_v10 (W := fun b => m (c, b)) H
  refine read_v40 (fun h i d => ?_) (read_v15 H10 H.mx) (read_v17 H10 H.mx) h i d
  exact (congrFun keep_v2 _).trans ((read_v2 h i d).trans (H.v i h d))
theorem V_v41 (h : Fin 8) (i : Fin 8192) (d : Fin 128) : V m c main_v41 (ix2 i (col128 h d) : S8192x1024.Idx) = (((A h).mats.l i.val : ℝ) : EReal) := by
  unfold V
  rw [after_split seg0 17, after_split seg1 9]
  have H10 := read_v10 (W := fun b => m (c, b)) H
  exact read_v41 (read_v12 H10 H.mx) (read_v17 H10 H.mx) h i d

/-- Every point's blocks hold its head's real numbers. -/
theorem reals : Reals m c fun h => (A h).mats := fun t =>
  { q := fun y => by rw [eq_ix2 y]; exact (qB_at m c t _ _).trans (V_v35 H _ _ _)
    k := fun y => by rw [eq_ix2 y]; exact (kB_at m c t _ _).trans (V_v36 H _ _ _)
    v := fun y hy => by rw [eq_ix2 y]; exact (vB_at m c t _ _).trans (V_v38 H _ _ _ hy)
    g := fun y => by rw [eq_ix2 y]; exact (doB_at m c t _ _).trans (V_v39 H _ _ _)
    o := fun y => by rw [eq_ix2 y]; exact (aoB_at m c t _ _).trans (V_v40 H _ _ _)
    l := fun y => by rw [eq_ix2 y]; exact (lseB_at m c t _ _).trans (V_v41 H _ _ _) }

end Reads

end Cert.KernelIdeal.Gen
end
-- ==== Proof.Finite.lean ====
module

public import proofs.«01_k».proof.Proof.Gen.Pre_finite
public import proofs.«01_k».proof.Proof.HostValues
public import Idealize.ShloMosaic.Lib.ReduceAll
public import Idealize.ShloMosaic.Lib.KernelVsHost

@[expose] public section

/-!
# Finite arguments are real numbers

The precondition says of each argument that all absolute values lie under `+∞`; then every element is a real
number, and the heads' real numbers are read off the arguments.
-/

set_option maxRecDepth 16384

noncomputable section

namespace Cert.KernelIdeal.Gen

open Idealize.ShloMosaic Idealize.ShloMosaic.TcCoe Idealize.ShloMosaic.Tactic

/-- A value whose absolute value lies under `+∞` is a real number. -/
theorem real_of_lt (x : Ideal .f32) (h : FloatOps.cmpf .olt (FloatOps.hostAbsf x) (FloatOps.ofBits (F := Ideal) .f32 0x7F800000#32) = 1#1) :
    (x : EReal) = (((x : EReal).toReal : ℝ) : EReal) := by
  rw [← Ideal.xori_weird_eq_hostAbsf_olt_inf] at h
  have hx : ¬ ((x : EReal) = ⊤ ∨ (x : EReal) = ⊥) := by
    intro hx
    have h' : IntOp.xori (BitVec.ofBool (decide ((x : EReal) = ⊤ ∨ (x : EReal) = ⊥))) 1#1 = 1#1 := h
    rw [decide_eq_true hx] at h'
    exact absurd h' (by decide)
  push Not at hx
  exact (EReal.coe_toReal hx.1 hx.2).symm

instance : Subsingleton Cert.Pre_finite.S_.Idx := ⟨fun _ _ => funext fun k => k.elim0⟩

/-- The precondition, element by element. -/
theorem reals_of_pre {x0 x1 : S8192x2048.Idx → EReal} {x2 x3 : S8192x1024.Idx → EReal}
    (h : Cert.Pre_finite.fn (F := Ideal) x0 x1 x2 x3 = fun _ => 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) := by
  have h := congrFun h (fun k => k.elim0)
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

/-- Arguments that satisfy the precondition hold the real numbers of eight heads. -/
theorem exists_args {x0 x1 : S8192x2048.Idx → EReal} {x2 x3 : S8192x1024.Idx → EReal}
    (h : Cert.Pre_finite.fn (F := Ideal) x0 x1 x2 x3 = fun _ => 1#1) : ∃ A : Fin 8 → Head, Args x0 x1 x2 x3 A := by
  obtain ⟨h0, h1, h2, h3⟩ := reals_of_pre h
  let wide (x : S8192x2048.Idx → EReal) (a : Fin 8) (i d : ℕ) : ℝ :=
    if hi : i < 8192 then if hd : d < 256 then (x (ix2 ⟨i, hi⟩ (col256 a ⟨d, hd⟩))).toReal else 0 else 0
  let narrow (x : S8192x1024.Idx → EReal) (a : Fin 8) (i d : ℕ) : ℝ :=
    if hi : i < 8192 then if hd : d < 128 then (x (ix2 ⟨i, hi⟩ (col128 a ⟨d, hd⟩))).toReal else 0 else 0
  have hw : ∀ x : S8192x2048.Idx → EReal, (∀ i, x i = ((x i).toReal : EReal)) → ∀ r a d, x (ix2 r (col256 a d)) = ((wide x a r.val d.val : ℝ) : EReal) := by
    intro x hx r a d
    rw [show wide x a r.val d.val = (x (ix2 r (col256 a d))).toReal from (dif_pos r.isLt).trans (dif_pos d.isLt)]
    exact hx _
  have hn : ∀ x : S8192x1024.Idx → EReal, (∀ i, x i = ((x i).toReal : EReal)) → ∀ r a d, x (ix2 r (col128 a d)) = ((narrow x a r.val d.val : ℝ) : EReal) := by
    intro x hx r a d
    rw [show narrow x a r.val d.val = (x (ix2 r (col128 a d))).toReal from (dif_pos r.isLt).trans (dif_pos d.isLt)]
    exact hx _
  choose mx hmx using fun a : Fin 8 => exists_mx fun i j => ∑ d : Fin 256, wide x0 a i d.val * wide x1 a j d.val
  exact ⟨fun a => ⟨wide x0 a, wide x1 a, narrow x2 a, narrow x3 a, mx a⟩, hw x0 h0, hw x1 h1, hn x2 h2, hn x3 h3, fun a i => hmx a i⟩

end Cert.KernelIdeal.Gen
end
-- ==== Proof.ReferenceValue.lean ====
module

public import proofs.«01_k».proof.Proof.HostValues
public import proofs.«01_k».proof.Proof.Gen.ReferenceIdeal.Read

@[expose] public section

/-!
# The reference over the real numbers

Where the arguments hold real numbers, each stage of the derivative's formula holds the head's real numbers:
the exponentials, their sum, the probabilities, the cotangents of probabilities and scores, the three gradients.
-/

set_option maxRecDepth 16384

noncomputable section

namespace Cert.ReferenceIdeal.Read

open Idealize.ShloMosaic Idealize.ShloMosaic.TcCoe Idealize.ShloMosaic.Tactic
open Cert.KernelIdeal.Gen (Head Args col256 col128 mk_col256 mk_col128 hd_col256 mod_col256 hd_col128 mod_col128 coe_sum select_mask exp_mask ofBits_bot div_real)

theorem zero_of (i) : val_main_cst_10 (F := Ideal) i = (0 : EReal) := by
  unfold val_main_cst_10; simp [constant, Ideal.ofBits, Ideal.ieee]
theorem zero_of' (i) : val_main_cst_11 (F := Ideal) i = (0 : EReal) := by
  unfold val_main_cst_11; simp [constant, Ideal.ofBits, Ideal.ieee]
theorem zero_of'' (i) : val_main_call1_cst (F := Ideal) i = (0 : EReal) := by
  unfold val_main_call1_cst; simp [constant, Ideal.ofBits, Ideal.ieee]
theorem one_of (i) : val_main_cst_9 (F := Ideal) i = ((1 : ℝ) : EReal) := by
  unfold val_main_cst_9; simp [constant, Ideal.ofBits, Ideal.ieee]; rw [← EReal.coe_mul]; norm_num

variable {x0 x1 : (⟨S8192x2048, .f32⟩ : BufTy).Contents (Elt Ideal)} {x2 x3 : (⟨S8192x1024, .f32⟩ : BufTy).Contents (Elt Ideal)} {A : Fin 8 → Head}
variable (H : Args x0 x1 x2 x3 A)
include H

/-- The masked scores. -/
theorem at_v10 (h : Fin 8) (i j : Fin 8192) : val_main_v10_0 (F := Ideal) x0 x1 (ix3 h i j) = if j.val ≤ i.val then (((A h).sc i.val j.val : ℝ) : EReal) else ⊥ := by
  pointwise [val_main_v10_0, val_main_v10_1, val_main_v9, val_main_v8, val_main_v7, val_main_v6, val_main_v5, val_main_v4, val_main_v3, val_main_v1, val_main_v0, val_main_call0_v2, val_main_call0_v0, val_main_cst]
  rw [select_mask]
  simp only [mk_col256]
  refine ite_congr rfl (fun _ => ?_) fun _ => ofBits_bot
  unfold Head.sc
  rw [← coe_sum]
  exact Finset.sum_congr rfl fun d _ => by rw [H.q, H.k, EReal.coe_mul]

/-- A row's greatest score. -/
theorem at_v11 (h : Fin 8) (i : Fin 8192) : val_main_v11 (F := Ideal) x0 x1 (ix2 h i) = (((A h).mx i.val : ℝ) : EReal) := by
  pointwise [val_main_v11, val_main_cst_0]
  rw [ofBits_bot, ← H.mx h i]
  congr 1
  funext j
  exact at_v10 H h i j

/-- The number a row's exponentials are relative to. -/
theorem at_v18 (h : Fin 8) (i : Fin 8192) : val_main_v18 (F := Ideal) x0 x1 (ix2 h i) = (((A h).mx i.val : ℝ) : EReal) := by
  rw [val_main_v18_apply, at_v11 H]
  have e : val_main_v17 (F := Ideal) (ix2 h i) = (⊥ : EReal) := by
    pointwise [val_main_v17, val_main_cst_2]
    exact ofBits_bot
  rw [e]
  exact max_eq_right bot_le

theorem at_v28 (h : Fin 8) (i : Fin 8192) : val_main_v28 (F := Ideal) x0 x1 (ix3 h i 0) = (((A h).mx i.val : ℝ) : EReal) := by
  pointwise [val_main_v28]
  exact at_v18 H h i

theorem at_v29 (h : Fin 8) (i j : Fin 8192) : val_main_v29 (F := Ideal) x0 x1 (ix3 h i j) = (((A h).mx i.val : ℝ) : EReal) := by
  pointwise [val_main_v29]
  exact at_v28 H h i

/-- The exponentials. -/
theorem at_v31 (h : Fin 8) (i j : Fin 8192) : val_main_v31 (F := Ideal) x0 x1 (ix3 h i j) = (((A h).e i.val j.val : ℝ) : EReal) := by
  have e := exp_mask (A h) i.val j.val
  rw [← at_v10 H h i j, ← at_v29 H h i j] at e
  rw [val_main_v31_apply, val_main_v30_apply]
  exact e

/-- Their sums. -/
theorem at_v32 (h : Fin 8) (i : Fin 8192) : val_main_v32 (F := Ideal) x0 x1 (ix2 h i) = (((A h).z i.val : ℝ) : EReal) := by
  pointwise [val_main_v32, val_main_cst_8]
  unfold Head.z
  rw [← coe_sum]
  exact Finset.sum_congr rfl fun j _ => at_v31 H h i j

/-- The probabilities. -/
theorem at_v35 (h : Fin 8) (i j : Fin 8192) : val_main_v35 (F := Ideal) x0 x1 (ix3 h i j) = (((A h).P i.val j.val : ℝ) : EReal) := by
  pointwise [val_main_v35, val_main_v34, val_main_v33]
  rw [at_v31 H, at_v32 H, div_real _ _ ((A h).z_pos i.isLt).ne']
  rfl

/-- The cotangents of the probabilities. -/
theorem at_v44 (h : Fin 8) (i j : Fin 8192) : val_main_v44 (F := Ideal) x2 x3 (ix3 h i j) = (((A h).dp i.val j.val : ℝ) : EReal) := by
  pointwise [val_main_v44, val_main_v43, val_main_v42, val_main_v2]
  simp only [mk_col128]
  unfold Head.dp
  rw [← coe_sum]
  exact Finset.sum_congr rfl fun d _ => by rw [H.g, H.v, EReal.coe_mul]

/-- The gradient of the values. -/
theorem at_v64 (h : Fin 8) (j : Fin 8192) (d : Fin 128) : val_main_v64 (F := Ideal) x0 x1 x3 (ix2 j (col128 h d)) = (((A h).gv j.val d.val : ℝ) : EReal) := by
  pointwise [val_main_v64, val_main_v46, val_main_v45, val_main_v43, val_main_v42]
  have e : ∀ p, (⟨(col128 h d).val / 128, p⟩ : Fin 8) = h := fun p => hd_col128 h d
  simp only [e]
  unfold Head.gv
  rw [← coe_sum]
  exact Finset.sum_congr rfl fun i _ => by rw [H.g, at_v35 H, EReal.coe_mul]

/-- The row sum that the quotient's derivative subtracts. -/
theorem at_v50 (h : Fin 8) (i : Fin 8192) : val_main_v50 (F := Ideal) x0 x1 x2 x3 (ix2 h i)
    = ((∑ j : Fin 8192, (A h).dp i.val j.val * (1 / ((A h).z i.val * (A h).z i.val)) * (A h).e i.val j.val : ℝ) : EReal) := by
  pointwise [val_main_v50, val_main_v49, val_main_v48, val_main_v47, val_main_v38, val_main_v37, val_main_v36, val_main_v33]
  rw [zero_of, zero_add, ← coe_sum]
  refine Finset.sum_congr rfl fun j _ => ?_
  have hz := ((A h).z_pos i.isLt).ne'
  rw [at_v44 H, at_v32 H, at_v31 H, one_of, ← EReal.coe_mul, div_real _ _ (mul_ne_zero hz hz), EReal.coe_mul, EReal.coe_mul]

/-- The cotangents of the scores. -/
theorem at_v59 (h : Fin 8) (i j : Fin 8192) : val_main_v59 (F := Ideal) x0 x1 x2 x3 (ix3 h i j) = (((A h).ds i.val j.val : ℝ) : EReal) := by
  pointwise [val_main_v59, val_main_v58, val_main_v57, val_main_v56, val_main_v55, val_main_v54, val_main_v53, val_main_v52, val_main_v51, val_main_v33, val_main_call1_v0, val_main_v10_1, val_main_v9, val_main_v8, val_main_v7, val_main_v6, val_main_v5, val_main_v4]
  rw [select_mask, at_v44 H, at_v32 H, at_v31 H, at_v50 H, div_real _ _ ((A h).z_pos i.isLt).ne', zero_of', zero_of'', zero_add]
  unfold Head.ds
  by_cases hij : j.val ≤ i.val
  · rw [if_pos hij, if_pos hij]
    simp only [Finset.univ_unique, Finset.sum_singleton]
    rw [← EReal.coe_neg, ← EReal.coe_add, ← EReal.coe_mul]
  · rw [if_neg hij, if_neg hij]; rfl

/-- The gradient of the keys. -/
theorem at_v65 (h : Fin 8) (j : Fin 8192) (d : Fin 256) : val_main_v65 (F := Ideal) x0 x1 x2 x3 (ix2 j (col256 h d)) = (((A h).gk j.val d.val : ℝ) : EReal) := by
  pointwise [val_main_v65, val_main_v61, val_main_v60, val_main_v0]
  have e : ∀ p, (⟨(col256 h d).val / 256, p⟩ : Fin 8) = h := fun p => hd_col256 h d
  simp only [e]
  unfold Head.gk
  rw [← coe_sum]
  exact Finset.sum_congr rfl fun i _ => by rw [H.q, at_v59 H, EReal.coe_mul]

/-- The gradient of the queries. -/
theorem at_v66 (h : Fin 8) (i : Fin 8192) (d : Fin 256) : val_main_v66 (F := Ideal) x0 x1 x2 x3 (ix2 i (col256 h d)) = (((A h).gq i.val d.val : ℝ) : EReal) := by
  pointwise [val_main_v66, val_main_v63, val_main_v62, val_main_v1]
  have e : ∀ p, (⟨(col256 h d).val / 256, p⟩ : Fin 8) = h := fun p => hd_col256 h d
  simp only [e]
  unfold Head.gq
  rw [← coe_sum]
  exact Finset.sum_congr rfl fun j _ => by rw [H.k, at_v59 H, EReal.coe_mul]

end Cert.ReferenceIdeal.Read
end
-- ==== Proof.Algebraic.lean ====
module

public import proofs.«01_k».proof.Defs
public import proofs.«01_k».proof.Proof.Finite
public import proofs.«01_k».proof.Proof.ReferenceValue
public import proofs.«01_k».proof.Proof.ReferenceFrame

@[expose] public section

/-!
# The kernel computes the derivative

On arguments that are real numbers the kernel's three gradients and the reference's are the same real numbers.
-/

set_option maxRecDepth 16384

noncomputable section

namespace Cert.Proof

open Idealize.ShloMosaic Idealize.ShloMosaic.TcCoe Idealize.ShloMosaic.Tactic Idealize.SL.Sem
open Cert.KernelIdeal (S8192x2048 S8192x1024)
open Cert.KernelIdeal.Gen (Head Args col256 col128 resQ resK resV resQ_at resK_at resV_at)

/-- A column of the wide arrays belongs to a head. -/
theorem wide_ix (i : S8192x2048.Idx) : ∃ (r : Fin 8192) (h : Fin 8) (d : Fin 256), i = ix2 r (col256 h d) := by
  have h1 : (i 1).val < 2048 := (i 1).isLt
  refine ⟨i 0, ⟨(i 1).val / 256, by omega⟩, ⟨(i 1).val % 256, by omega⟩, (eq_ix2 i).trans (congrArg (ix2 (i 0)) (Fin.ext ?_))⟩
  show (i 1).val = 256 * ((i 1).val / 256) + (i 1).val % 256
  omega
/-- A column of the narrow arrays belongs to a head. -/
theorem narrow_ix (i : S8192x1024.Idx) : ∃ (r : Fin 8192) (h : Fin 8) (d : Fin 128), i = ix2 r (col128 h d) := by
  have h1 : (i 1).val < 1024 := (i 1).isLt
  refine ⟨i 0, ⟨(i 1).val / 128, by omega⟩, ⟨(i 1).val % 128, by omega⟩, (eq_ix2 i).trans (congrArg (ix2 (i 0)) (Fin.ext ?_))⟩
  show (i 1).val = 128 * ((i 1).val / 128) + (i 1).val % 128
  omega

section
variable {x0 x1 : S8192x2048.Idx → EReal} {x2 x3 : S8192x1024.Idx → EReal} {A : Fin 8 → Head} (H : Args x0 x1 x2 x3 A)
include H

/-- The gradient of `q`. -/
theorem eq_q : Cert.ReferenceIdeal.Read.val_main_v66 (F := Ideal) x0 x1 x2 x3 = resQ fun h => (A h).mats := by
  funext i
  obtain ⟨r, h, d, rfl⟩ := wide_ix i
  refine (Cert.ReferenceIdeal.Read.at_v66 H h r d).trans ?_
  rw [resQ_at, Head.dq_eq _ r.isLt]
/-- The gradient of `k`. -/
theorem eq_k : Cert.ReferenceIdeal.Read.val_main_v65 (F := Ideal) x0 x1 x2 x3 = resK fun h => (A h).mats := by
  funext i
  obtain ⟨r, h, d, rfl⟩ := wide_ix i
  refine (Cert.ReferenceIdeal.Read.at_v65 H h r d).trans ?_
  rw [resK_at, Head.dk_eq]
/-- The gradient of `v`. -/
theorem eq_v : Cert.ReferenceIdeal.Read.val_main_v64 (F := Ideal) x0 x1 x3 = resV fun h => (A h).mats := by
  funext i
  obtain ⟨r, h, d, rfl⟩ := narrow_ix i
  refine (Cert.ReferenceIdeal.Read.at_v64 H h r d).trans ?_
  rw [resV_at, Head.dv_eq]
end

/-- The two programs' results agree. -/
theorem algebraic : Cert.algebraic_KernelIdeal_ReferenceIdeal_pre_finite := by
  intro m g m' g' hp hm
  choose A H using fun c => Cert.KernelIdeal.Gen.exists_args (hp c)
  refine ⟨fun c => resQ fun h => (A c h).mats, fun c => resK fun h => (A c h).mats, fun c => resV fun h => (A c h).mats,
    Cert.KernelIdeal.Gen.run_value m g _ fun c => Cert.KernelIdeal.Gen.reals (H c), ?_⟩
  refine (θ_run Cert.ReferenceIdeal.defs _ _).mono (fun r h c => ?_) (Cert.ReferenceIdeal.Value.run m' g')
  obtain ⟨e0, e1, e2, e3⟩ := hm c
  obtain ⟨h0, h1, h2, h3⟩ := h c
  refine ⟨h0.trans ?_, h1.trans ?_, h2.trans ?_, h3⟩
  · rw [Cert.ReferenceIdeal.Read.val_main_v66_eq, e0, e1, e2, e3]; exact eq_q (H c)
  · rw [Cert.ReferenceIdeal.Read.val_main_v65_eq, e0, e1, e2, e3]; exact eq_k (H c)
  · rw [Cert.ReferenceIdeal.Read.val_main_v64_eq, e0, e1, e3]; exact eq_v (H c)

end Cert.Proof
end
-- ==== Proof.RowSums.lean ====
module

public import Mathlib.Data.EReal.Operations
public import Mathlib.Algebra.BigOperators.Fin

@[expose] public section

/-!
# A sum over 8192 rows, 2048 at a time
-/

noncomputable section

namespace Cert.RowSums

/-- A row's summand; nothing after the last row. -/
def term (f : Fin 8192 → EReal) (k : ℕ) : EReal := if h : k < 8192 then f ⟨k, h⟩ else 0

theorem term_of_lt (f : Fin 8192 → EReal) (k : ℕ) (h : k < 8192) : term f k = f ⟨k, h⟩ := dif_pos h

/-- Sums over the rows up to a point and over the point's rows join. -/
theorem join (f : ℕ → EReal) (n : ℕ) :
    (∑ k ∈ Finset.range (2048 * n), f k) + ∑ r ∈ Finset.range 2048, f (2048 * n + r) = ∑ k ∈ Finset.range (2048 * (n + 1)), f k := by
  rw [Nat.mul_succ, Finset.sum_range_add]

/-- All rows. -/
theorem whole (f : Fin 8192 → EReal) : ∑ k ∈ Finset.range (2048 * (3 + 1)), term f k = ∑ k : Fin 8192, f k := by
  rw [show 2048 * (3 + 1) = 8192 from rfl, Finset.sum_range]
  exact Finset.sum_congr rfl fun k _ => term_of_lt f k.val k.isLt

/-- A point's rows. -/
theorem rows (f : Fin 8192 → EReal) (g : Fin 2048 → EReal) (n : ℕ) (hn : n < 4)
    (hg : ∀ (r : Fin 2048) (h : 2048 * n + r.val < 8192), g r = f ⟨2048 * n + r.val, h⟩) :
    ∑ r : Fin 2048, g r = ∑ r ∈ Finset.range 2048, term f (2048 * n + r) := by
  rw [Finset.sum_range]
  refine Finset.sum_congr rfl fun r _ => ?_
  have h : 2048 * n + r.val < 8192 := by omega
  rw [hg r h, term_of_lt f _ h]

end Cert.RowSums
end
-- ==== Proof.WeightGradient.lean ====
module

public import proofs.«01_k».proof.Proof.Gen.Kernel2Ideal.Value
public import proofs.«01_k».proof.Proof.RowSums
public import Idealize.ShloMosaic.Lib.Tactic
public import Idealize.ShloMosaic.Lib.Pointwise

@[expose] public section

/-!
# The gradient of a projection's weight

Four points of 2048 rows each: the accumulator starts with the first point's product, the others add theirs, and
the last point writes the sum out. Sums of extended reals may be joined in any order, so no precondition is needed.
-/

set_option maxRecDepth 16384

noncomputable section

namespace Cert.Kernel2Ideal.Gen

open Idealize.ShloMosaic Idealize.ShloMosaic.TcCoe Idealize.ShloMosaic.Tactic

theorem hz : (![0, 0] : Fin 2 → Nat) = fun _ => 0 := funext fun a => by fin_cases a <;> rfl

section
variable {F : FTy → Type} [FloatOps F]
variable (c : Dev nD) (i : grid0.Coords) (a2 : Memref sig .tc .vmem S2048x1024 .bf16) (h2 : a2.IsWhole) (a3 : Memref sig .tc .vmem S2048x1024 .bf16) (h3 : a3.IsWhole)
  (a4 : Memref sig .tc .vmem S1024x1024 .f32) (h4 : a4.IsWhole) (a5 : Memref sig .tc .vmem S1024x1024 .f32) (h5 : a5.IsWhole)
  (x0 x1 : Vec F S2048x1024 .bf16) (xs : Vec F S1024x1024 .f32)

/-- The first point leaves its product in the accumulator. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  unfold k0_pay2
  simp only [View.readAt_eq_ld, h2.read_unread, h3.read_unread, View.ld_unit_zero (S := S2048x1024) hz, shapeCast_self]

/-- A middle point adds its product. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  unfold k0_pay3
  simp only [View.readAt_eq_ld, h2.read_unread, h3.read_unread, h5.read_unread, View.ld_unit_zero (S := S2048x1024) hz, View.ld_unit_zero (S := S1024x1024) hz, shapeCast_self]

/-- The last point writes out the accumulator with its product added. -/
theorem out_C (hc0 : ¬cond0_0 i) (hc1 : cond0_1 i) (hc2 : cond0_2 i) :
    out0_C_2 c i a2 h2 a3 h3 a4 h4 a5 h5 hc0 hc1 hc2 x0 x1 xs = addf xs (k0_pay1 x0 x1) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, h2.read_unread, h3.read_unread, h5.read_unread, View.ld_unit_zero (S := S2048x1024) hz, View.ld_unit_zero (S := S1024x1024) hz, shapeCast_self]
end

/-- One point's product at an index. -/
theorem pay1_at (x0 x1 : Vec Ideal S2048x1024 .bf16) (i j : Fin 1024) :
    k0_pay1 (F := Ideal) x0 x1 (ix2 i j) = ∑ r : Fin 2048, (x0 (ix2 r i) : EReal) * (x1 (ix2 r j) : EReal) := by
  pointwise [k0_pay1]

variable (m : (ℓ : Loc nD τ sig) → Buf (Elt Ideal) ℓ)

/-- A point's blocks are 2048 rows of the arguments. -/
theorem blk0_at (c : Dev nD) (t : Fin cfg0.N) (r : Fin 2048) (i : Fin 1024) (h : 2048 * t.val + r.val < 8192) :
    (iblk m c 0 t : Vec Ideal S2048x1024 .bf16) (ix2 r i) = (m (c.tc.loc main_arg0) : S8192x1024.Idx → EReal) (ix2 ⟨2048 * t.val + r.val, h⟩ i) := by
  have hi : win0_0.index t 0 = t.val ∧ win0_0.index t 1 = 0 := (by decide +kernel : ∀ t : Fin cfg0.N, win0_0.index t 0 = t.val ∧ win0_0.index t 1 = 0) t
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * t.val + r.val; rw [hi.1]; omega
  | ⟨1, _⟩ => show win0_0.index t 1 * 1024 + 1 * i.val = i.val; rw [hi.2]; omega
/-- The same of the second argument. -/
theorem blk1_at (c : Dev nD) (t : Fin cfg0.N) (r : Fin 2048) (i : Fin 1024) (h : 2048 * t.val + r.val < 8192) :
    (iblk m c 1 t : Vec Ideal S2048x1024 .bf16) (ix2 r i) = (m (c.tc.loc main_arg1) : S8192x1024.Idx → EReal) (ix2 ⟨2048 * t.val + r.val, h⟩ i) := by
  have hi : win0_1.index t 0 = t.val ∧ win0_1.index t 1 = 0 := (by decide +kernel : ∀ t : Fin cfg0.N, win0_1.index t 0 = t.val ∧ win0_1.index t 1 = 0) t
  unfold iblk
  rw [View.read_apply]
  show V m c main_arg1 _ = m (c.tc.loc main_arg1) _
  unfold V
  congr 1
  funext a
  apply Fin.ext
  match a with
  | ⟨0, _⟩ => show win0_1.index t 0 * 2048 + 1 * r.val = 2048 * t.val + r.val; rw [hi.1]; omega
  | ⟨1, _⟩ => show win0_1.index t 1 * 1024 + 1 * i.val = i.val; rw [hi.2]; omega

/-- A row's product for an element of the gradient. -/
def prod (x0 x1 : S8192x1024.Idx → EReal) (i j : Fin 1024) (k : Fin 8192) : EReal := x0 (ix2 k i) * x1 (ix2 k j)

/-- What each row contributes to an element of the gradient. -/
abbrev term (c : Dev nD) (i j : Fin 1024) : ℕ → EReal := RowSums.term (prod (m (c.tc.loc main_arg0)) (m (c.tc.loc main_arg1)) i j)

/-- A point's product sums its 2048 rows. -/
theorem part_at (c : Dev nD) (t : Fin cfg0.N) (i j : Fin 1024) :
    k0_pay1 (F := Ideal) (iblk m c 0 t) (iblk m c 1 t) (ix2 i j) = ∑ r ∈ Finset.range 2048, term m c i j (2048 * t.val + r) :=
  (pay1_at _ _ i j).trans (RowSums.rows _ _ t.val (lt_of_lt_of_eq t.isLt N_0) fun r h =>
    congrArg₂ (fun a b : EReal => a * b) (blk0_at m c t r i h) (blk1_at m c t r j h))

/-- A point's addition at an index. -/
theorem add_at (a b : S1024x1024.Idx → EReal) (i j : Fin 1024) {x y : EReal} (ha : a (ix2 i j) = x) (hb : b (ix2 i j) = y) :
    (addf (F := Ideal) (φ := .f32) a b : S1024x1024.Idx → EReal) (ix2 i j) = x + y := by rw [← ha, ← hb]; rfl

/-- The accumulator after a point that is not the last: the sums over the rows so far. -/
theorem acc_at (c : Dev nD) (i j : Fin 1024) : ∀ (n : ℕ) (h : n < cfg0.N), n < 3 →
    ((outsAt0 m c n h).2 : S1024x1024.Idx → EReal) (ix2 i j) = ∑ k ∈ Finset.range (2048 * (n + 1)), term m c i j k
  | 0, h, _ => by
    rw [outsAt0_A m c ⟨0, h⟩ (Nat.zero_mod _) (show ¬ 1 ≤ 0 by decide) (show ¬ 0 % 4 = 3 by decide)]
    dsimp only
    rw [sout_A]
    refine (part_at m c ⟨0, h⟩ i j).trans ?_
    simp
  | n + 1, h, h3 => by
    have hA : ¬ (n + 1) % 4 = 0 := by omega
    have hB : 1 ≤ n + 1 := by omega
    have hC : ¬ (n + 1) % 4 = 3 := by omega
    rw [outsAt0_B m c ⟨n + 1, h⟩ hA hB hC]
    dsimp only
    rw [sout_B]
    exact (add_at _ _ i j (acc_at c i j n (Nat.lt_of_succ_lt h) (by omega)) (part_at m c ⟨n + 1, h⟩ i j)).trans (RowSums.join _ _)

/-- The gradient: each element sums the rows' products. -/
def result (x0 x1 : S8192x1024.Idx → EReal) : S1024x1024.Idx → EReal := fun y => ∑ k : Fin 8192, prod x0 x1 (y 0) (y 1) k

/-- What the last point writes out. -/
theorem last_at (c : Dev nD) (h3 : 3 < cfg0.N) (i j : Fin 1024) :
    ((outsAt0 m c 3 h3).1 : S1024x1024.Idx → EReal) (ix2 i j) = ∑ k : Fin 8192, prod (m (c.tc.loc main_arg0)) (m (c.tc.loc main_arg1)) i j k := by
  rw [outsAt0_C m c ⟨3, h3⟩ (show ¬ 3 % 4 = 0 by decide) (show 1 ≤ 3 by decide) (show 3 % 4 = 3 by decide)]
  dsimp only
  rw [out_C]
  have ha : ((outsAt0 m c (3 - 1) (Nat.lt_of_le_of_lt (Nat.sub_le _ _) h3)).2 : S1024x1024.Idx → EReal) (ix2 i j) = ∑ k ∈ Finset.range (2048 * 3), term m c i j k :=
    acc_at m c i j 2 _ (by decide)
  have hb := part_at m c ⟨3, h3⟩ i j
  refine (add_at _ _ i j ha hb).trans ?_
  refine (RowSums.join _ 3).trans ?_
  exact RowSums.whole _

/-- The array after the run is the result. -/
theorem result_eq (c : Dev nD) : Value.G2 m c = result (m (c.tc.loc main_arg0)) (m (c.tc.loc main_arg1)) := by
  have h3 : 3 < cfg0.N := lt_of_lt_of_eq (by decide) N_0.symm
  refine (Value.G2_last m c).trans ((congrArg Prod.fst (Value.outsAt0_sweep m c 3 h3).symm).trans ?_)
  funext y
  refine (congrArg (outsAt0 m c 3 h3).1 (eq_ix2 (y : S1024x1024.Idx))).trans ?_
  exact last_at m c h3 _ _

end Cert.Kernel2Ideal.Gen
end
-- ==== Proof.WeightAlgebraic.lean ====
module

public import proofs.«01_k».proof.Defs
public import proofs.«01_k».proof.Proof.WeightGradient
public import proofs.«01_k».proof.Proof.Gen.Reference2Ideal.Run
public import proofs.«01_k».proof.Proof.Gen.Reference2Ideal.Read
public import Idealize.ShloMosaic.Lib.Quiescent

@[expose] public section

/-!
# The kernel computes the weight's gradient

The reference is the derivative of the projection by its weight: the transpose of the product of the cotangent's
columns with the input's columns. Its elements are the same sums.
-/

set_option maxRecDepth 16384

noncomputable section

namespace Cert.Reference2Ideal.Gen

open Idealize.ShloMosaic Idealize.ShloMosaic.TcCoe Idealize.SL.Sem

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m g)

/-- The reference's result. -/
theorem value_eq (x0 x1 : S8192x1024.Idx → EReal) : Read.val_main_v5 (F := Ideal) x0 x1 = Cert.Kernel2Ideal.Gen.result x0 x1 := by
  funext i
  rw [Read.val_main_v5_apply, Read.val_main_v4_apply]
  refine Finset.sum_congr rfl fun k _ => ?_
  refine (EReal.mul_comm _ _).trans (congrArg₂ (fun a b : EReal => a * b) (congrArg x0 ?_) (congrArg x1 ?_)) <;>
  · funext a; match a with
    | ⟨0, _⟩ => rfl
    | ⟨1, _⟩ => rfl

end Cert.Reference2Ideal.Gen

namespace Cert.Proof

open Idealize.ShloMosaic Idealize.ShloMosaic.TcCoe Idealize.SL.Sem

/-- The two programs' results agree. -/
theorem algebraic2 : Cert.algebraic_Kernel2Ideal_Reference2Ideal := by
  intro m g m' g' _ hm
  refine ⟨fun c => Cert.Kernel2Ideal.Value.G2 m c, Cert.Kernel2Ideal.Value.run m g, ?_⟩
  refine (θ_run Cert.Reference2Ideal.defs _ _).mono (fun r h c => ⟨(h c).1.trans ?_, (h c).2⟩) (Cert.Reference2Ideal.Value.run m' g')
  obtain ⟨e0, e1⟩ := hm c
  rw [e0, e1]
  exact (Cert.Reference2Ideal.Read.val_main_v5_eq _ _).trans ((Cert.Reference2Ideal.Gen.value_eq _ _).trans (Cert.Kernel2Ideal.Gen.result_eq m c).symm)

end Cert.Proof
end
-- ==== Proof.SentGradient.lean ====
module

public import proofs.«01_k».proof.Proof.Gen.Kernel3Ideal.Value
public import proofs.«01_k».proof.Proof.RowSums
public import Idealize.ShloMosaic.Lib.Tactic
public import Idealize.ShloMosaic.Lib.Pointwise

@[expose] public section

/-!
# The gradient of a projection's weight, as it is sent

Four points of 2048 rows each: the accumulator starts with the first point's product, the others add theirs, and
the last point writes the sum out, cast to bf16: over the extended reals the cast is the identity. Sums of extended reals may be joined in any order, so no precondition is needed.
-/

set_option maxRecDepth 16384

noncomputable section

namespace Cert.Kernel3Ideal.Gen

open Idealize.ShloMosaic Idealize.ShloMosaic.TcCoe Idealize.ShloMosaic.Tactic

theorem hz : (![0, 0] : Fin 2 → Nat) = fun _ => 0 := funext fun a => by fin_cases a <;> rfl

section
variable {F : FTy → Type} [FloatOps F]
variable (c : Dev nD) (i : grid0.Coords) (a2 : Memref sig .tc .vmem S2048x1024 .bf16) (h2 : a2.IsWhole) (a3 : Memref sig .tc .vmem S2048x1024 .bf16) (h3 : a3.IsWhole)
  (a4 : Memref sig .tc .vmem S1024x1024 .bf16) (h4 : a4.IsWhole) (a5 : Memref sig .tc .vmem S1024x1024 .f32) (h5 : a5.IsWhole)
  (x0 x1 : Vec F S2048x1024 .bf16) (xs : Vec F S1024x1024 .f32)

/-- The first point leaves its product in the accumulator. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  unfold k0_pay2
  simp only [View.readAt_eq_ld, h2.read_unread, h3.read_unread, View.ld_unit_zero (S := S2048x1024) hz, shapeCast_self]

/-- A middle point adds its product. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  unfold k0_pay3
  simp only [View.readAt_eq_ld, h2.read_unread, h3.read_unread, h5.read_unread, View.ld_unit_zero (S := S2048x1024) hz, View.ld_unit_zero (S := S1024x1024) hz, shapeCast_self]

/-- The last point writes out the accumulator with its product added. -/
theorem out_C (hc0 : ¬cond0_0 i) (hc1 : cond0_1 i) (hc2 : cond0_2 i) :
    out0_C_2 c i a2 h2 a3 h3 a4 h4 a5 h5 hc0 hc1 hc2 x0 x1 xs = k0_pay4 (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, h2.read_unread, h3.read_unread, h5.read_unread, View.ld_unit_zero (S := S2048x1024) hz, View.ld_unit_zero (S := S1024x1024) hz, shapeCast_self]
end

/-- One point's product at an index. -/
theorem pay1_at (x0 x1 : Vec Ideal S2048x1024 .bf16) (i j : Fin 1024) :
    k0_pay1 (F := Ideal) x0 x1 (ix2 i j) = ∑ r : Fin 2048, (x0 (ix2 r i) : EReal) * (x1 (ix2 r j) : EReal) := by
  pointwise [k0_pay1]

variable (m : (ℓ : Loc nD τ sig) → Buf (Elt Ideal) ℓ)

/-- A point's blocks are 2048 rows of the arguments. -/
theorem blk0_at (c : Dev nD) (t : Fin cfg0.N) (r : Fin 2048) (i : Fin 1024) (h : 2048 * t.val + r.val < 8192) :
    (iblk m c 0 t : Vec Ideal S2048x1024 .bf16) (ix2 r i) = (m (c.tc.loc main_arg0) : S8192x1024.Idx → EReal) (ix2 ⟨2048 * t.val + r.val, h⟩ i) := by
  have hi : win0_0.index t 0 = t.val ∧ win0_0.index t 1 = 0 := (by decide +kernel : ∀ t : Fin cfg0.N, win0_0.index t 0 = t.val ∧ win0_0.index t 1 = 0) t
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * t.val + r.val; rw [hi.1]; omega
  | ⟨1, _⟩ => show win0_0.index t 1 * 1024 + 1 * i.val = i.val; rw [hi.2]; omega
/-- The same of the second argument. -/
theorem blk1_at (c : Dev nD) (t : Fin cfg0.N) (r : Fin 2048) (i : Fin 1024) (h : 2048 * t.val + r.val < 8192) :
    (iblk m c 1 t : Vec Ideal S2048x1024 .bf16) (ix2 r i) = (m (c.tc.loc main_arg1) : S8192x1024.Idx → EReal) (ix2 ⟨2048 * t.val + r.val, h⟩ i) := by
  have hi : win0_1.index t 0 = t.val ∧ win0_1.index t 1 = 0 := (by decide +kernel : ∀ t : Fin cfg0.N, win0_1.index t 0 = t.val ∧ win0_1.index t 1 = 0) t
  unfold iblk
  rw [View.read_apply]
  show V m c main_arg1 _ = m (c.tc.loc main_arg1) _
  unfold V
  congr 1
  funext a
  apply Fin.ext
  match a with
  | ⟨0, _⟩ => show win0_1.index t 0 * 2048 + 1 * r.val = 2048 * t.val + r.val; rw [hi.1]; omega
  | ⟨1, _⟩ => show win0_1.index t 1 * 1024 + 1 * i.val = i.val; rw [hi.2]; omega

/-- A row's product for an element of the gradient. -/
def prod (x0 x1 : S8192x1024.Idx → EReal) (i j : Fin 1024) (k : Fin 8192) : EReal := x0 (ix2 k i) * x1 (ix2 k j)

/-- What each row contributes to an element of the gradient. -/
abbrev term (c : Dev nD) (i j : Fin 1024) : ℕ → EReal := RowSums.term (prod (m (c.tc.loc main_arg0)) (m (c.tc.loc main_arg1)) i j)

/-- A point's product sums its 2048 rows. -/
theorem part_at (c : Dev nD) (t : Fin cfg0.N) (i j : Fin 1024) :
    k0_pay1 (F := Ideal) (iblk m c 0 t) (iblk m c 1 t) (ix2 i j) = ∑ r ∈ Finset.range 2048, term m c i j (2048 * t.val + r) :=
  (pay1_at _ _ i j).trans (RowSums.rows _ _ t.val (lt_of_lt_of_eq t.isLt N_0) fun r h =>
    congrArg₂ (fun a b : EReal => a * b) (blk0_at m c t r i h) (blk1_at m c t r j h))

/-- A point's addition at an index. -/
theorem add_at (a b : S1024x1024.Idx → EReal) (i j : Fin 1024) {x y : EReal} (ha : a (ix2 i j) = x) (hb : b (ix2 i j) = y) :
    (addf (F := Ideal) (φ := .f32) a b : S1024x1024.Idx → EReal) (ix2 i j) = x + y := by rw [← ha, ← hb]; rfl

/-- The accumulator after a point that is not the last: the sums over the rows so far. -/
theorem acc_at (c : Dev nD) (i j : Fin 1024) : ∀ (n : ℕ) (h : n < cfg0.N), n < 3 →
    ((outsAt0 m c n h).2 : S1024x1024.Idx → EReal) (ix2 i j) = ∑ k ∈ Finset.range (2048 * (n + 1)), term m c i j k
  | 0, h, _ => by
    rw [outsAt0_A m c ⟨0, h⟩ (Nat.zero_mod _) (show ¬ 1 ≤ 0 by decide) (show ¬ 0 % 4 = 3 by decide)]
    dsimp only
    rw [sout_A]
    refine (part_at m c ⟨0, h⟩ i j).trans ?_
    simp
  | n + 1, h, h3 => by
    have hA : ¬ (n + 1) % 4 = 0 := by omega
    have hB : 1 ≤ n + 1 := by omega
    have hC : ¬ (n + 1) % 4 = 3 := by omega
    rw [outsAt0_B m c ⟨n + 1, h⟩ hA hB hC]
    dsimp only
    rw [sout_B]
    exact (add_at _ _ i j (acc_at c i j n (Nat.lt_of_succ_lt h) (by omega)) (part_at m c ⟨n + 1, h⟩ i j)).trans (RowSums.join _ _)

/-- The gradient: each element sums the rows' products. -/
def result (x0 x1 : S8192x1024.Idx → EReal) : S1024x1024.Idx → EReal := fun y => ∑ k : Fin 8192, prod x0 x1 (y 0) (y 1) k

/-- What the last point writes out. -/
theorem last_at (c : Dev nD) (h3 : 3 < cfg0.N) (i j : Fin 1024) :
    ((outsAt0 m c 3 h3).1 : S1024x1024.Idx → EReal) (ix2 i j) = ∑ k : Fin 8192, prod (m (c.tc.loc main_arg0)) (m (c.tc.loc main_arg1)) i j k := by
  rw [outsAt0_C m c ⟨3, h3⟩ (show ¬ 3 % 4 = 0 by decide) (show 1 ≤ 3 by decide) (show 3 % 4 = 3 by decide)]
  dsimp only
  rw [out_C]
  have ha : ((outsAt0 m c (3 - 1) (Nat.lt_of_le_of_lt (Nat.sub_le _ _) h3)).2 : S1024x1024.Idx → EReal) (ix2 i j) = ∑ k ∈ Finset.range (2048 * 3), term m c i j k :=
    acc_at m c i j 2 _ (by decide)
  have hb := part_at m c ⟨3, h3⟩ i j
  refine (show _ = _ from rfl : (k0_pay4 (F := Ideal) _ : S1024x1024.Idx → EReal) (ix2 i j) = (addf (F := Ideal) (φ := .f32) _ _ : S1024x1024.Idx → EReal) (ix2 i j)).trans ?_
  refine (add_at _ _ i j ha hb).trans ?_
  refine (RowSums.join _ 3).trans ?_
  exact RowSums.whole _

/-- The array after the run is the result. -/
theorem result_eq (c : Dev nD) : Value.G2 m c = result (m (c.tc.loc main_arg0)) (m (c.tc.loc main_arg1)) := by
  have h3 : 3 < cfg0.N := lt_of_lt_of_eq (by decide) N_0.symm
  refine (Value.G2_last m c).trans ((congrArg Prod.fst (Value.outsAt0_sweep m c 3 h3).symm).trans ?_)
  funext y
  refine (congrArg (outsAt0 m c 3 h3).1 (eq_ix2 (y : S1024x1024.Idx))).trans ?_
  exact last_at m c h3 _ _

end Cert.Kernel3Ideal.Gen
end
-- ==== Proof.SentAlgebraic.lean ====
module

public import proofs.«01_k».proof.Defs
public import proofs.«01_k».proof.Proof.SentGradient
public import proofs.«01_k».proof.Proof.Gen.Reference3Ideal.Run
public import proofs.«01_k».proof.Proof.Gen.Reference3Ideal.Read
public import Idealize.ShloMosaic.Lib.Quiescent

@[expose] public section

/-!
# The kernel computes the weight's gradient, as it is sent

The reference is the derivative of the projection by its weight: the transpose of the product of the cotangent's
columns with the input's columns. Its elements are the same sums.
-/

set_option maxRecDepth 16384

noncomputable section

namespace Cert.Reference3Ideal.Gen

open Idealize.ShloMosaic Idealize.ShloMosaic.TcCoe Idealize.SL.Sem

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m g)

/-- The reference's result. -/
theorem value_eq (x0 x1 : S8192x1024.Idx → EReal) : Read.val_main_v6 (F := Ideal) x0 x1 = Cert.Kernel3Ideal.Gen.result x0 x1 := by
  funext i
  refine (show _ = Read.val_main_v5 (F := Ideal) x0 x1 i from rfl).trans ?_
  rw [Read.val_main_v5_apply, Read.val_main_v4_apply]
  refine Finset.sum_congr rfl fun k _ => ?_
  refine (EReal.mul_comm _ _).trans (congrArg₂ (fun a b : EReal => a * b) (congrArg x0 ?_) (congrArg x1 ?_)) <;>
  · funext a; match a with
    | ⟨0, _⟩ => rfl
    | ⟨1, _⟩ => rfl

end Cert.Reference3Ideal.Gen

namespace Cert.Proof

open Idealize.ShloMosaic Idealize.ShloMosaic.TcCoe Idealize.SL.Sem

/-- The two programs' results agree. -/
theorem algebraic3 : Cert.algebraic_Kernel3Ideal_Reference3Ideal := by
  intro m g m' g' _ hm
  refine ⟨fun c => Cert.Kernel3Ideal.Value.G2 m c, Cert.Kernel3Ideal.Value.run m g, ?_⟩
  refine (θ_run Cert.Reference3Ideal.defs _ _).mono (fun r h c => ⟨(h c).1.trans ?_, (h c).2⟩) (Cert.Reference3Ideal.Value.run m' g')
  obtain ⟨e0, e1⟩ := hm c
  rw [e0, e1]
  exact (Cert.Reference3Ideal.Read.val_main_v6_eq _ _).trans ((Cert.Reference3Ideal.Gen.value_eq _ _).trans (Cert.Kernel3Ideal.Gen.result_eq m c).symm)

end Cert.Proof
end
-- ==== Proof.ProjStep.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

/-!
# The optimiser's step of the projections' weights

The eight devices' parts are added one after another; the reference's sum over the devices is the same sum. The
rest is element by element, and is the same in both.
-/

set_option maxRecDepth 16384

noncomputable section

namespace Cert.Reference4Ideal.Gen

open Idealize.ShloMosaic Idealize.ShloMosaic.TcCoe Idealize.SL.Sem Cert.Reference4Ideal

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (Value.run m g)

variable (a0 : (⟨S8x128x1024, .bf16⟩ : BufTy).Contents (Elt Ideal)) (a1 a2 a3 : (⟨S128x1024, .f32⟩ : BufTy).Contents (Elt Ideal))

/-- The gradient summed over the devices. -/
theorem grad_eq : Cert.Kernel4Ideal.Value.G4 (F := Ideal) a0 a1 a2 a3 = Read.val_main_v1 (F := Ideal) a0 := by
  funext y
  refine ((congrFun (View.canon_unit_zero (Val := Elt Ideal) (e := .f32) Cert.Kernel4Ideal.Value.hz4 _ _) y).symm.trans
    (Cert.Kernel4Ideal.Value.canon4_eq (F := Ideal) _ _ _ _ _ _ _ _ y)).trans ?_
  rw [Read.val_main_v1_apply]
  refine Eq.trans ?_ (congrArg₂ (fun a b : EReal => a + b) (Ideal.ofBits_zero_f32).symm rfl)
  refine Eq.trans ?_ (zero_add _).symm
  refine Eq.trans ?_ (Fin.sum_univ_eight (M := EReal) _).symm
  have h : ∀ (k : Fin 8) (i : S8x128x1024.Idx), (i 0).val = k.val → (i 1).val = (y 0).val → (i 2).val = (y 1).val → i = Read.idx_main_v1 y k :=
    fun k i h0 h1 h2 => funext fun a => Fin.ext (by match a with | ⟨0, _⟩ => exact h0 | ⟨1, _⟩ => exact h1 | ⟨2, _⟩ => exact h2)
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (congrArg a0 (h 0 _ ?_ ?_ ?_)) (congrArg a0 (h 1 _ ?_ ?_ ?_))) (congrArg a0 (h 2 _ ?_ ?_ ?_))) (congrArg a0 (h 3 _ ?_ ?_ ?_)))
      (congrArg a0 (h 4 _ ?_ ?_ ?_))) (congrArg a0 (h 5 _ ?_ ?_ ?_))) (congrArg a0 (h 6 _ ?_ ?_ ?_))) (congrArg a0 (h 7 _ ?_ ?_ ?_)) <;>
  first
    | rfl
    | exact (Nat.zero_add _).trans (Nat.mul_one _)
    | exact (Nat.zero_add _).trans (Nat.one_mul _)

/-- The first moment. -/
theorem first_eq : Cert.Kernel4Ideal.Value.G6 (F := Ideal) a0 a1 a2 a3 = Read.val_main_v6 (F := Ideal) a0 a2 := by
  funext y
  rw [Read.val_main_v6_apply, Read.val_main_v3_apply, Read.val_main_v5_apply, Read.val_main_v2_apply, Read.val_main_v4_apply,
    Read.val_main_cst_0_apply, Read.val_main_cst_1_apply, ← grad_eq a0 a1 a2 a3]
  rfl

/-- The second moment. -/
theorem second_eq : Cert.Kernel4Ideal.Value.G7 (F := Ideal) a0 a1 a2 a3 = Read.val_main_v12 (F := Ideal) a0 a3 := by
  funext y
  rw [Read.val_main_v12_apply, Read.val_main_v8_apply, Read.val_main_v11_apply, Read.val_main_v9_apply, Read.val_main_v7_apply,
    Read.val_main_v10_apply, Read.val_main_cst_2_apply, Read.val_main_cst_3_apply, ← grad_eq a0 a1 a2 a3]
  rfl

/-- The change of the weight. -/
theorem delta_eq : Cert.Kernel4Ideal.Value.G5 (F := Ideal) a0 a1 a2 a3 = Read.val_main_v25 (F := Ideal) a0 a1 a2 a3 := by
  funext y
  rw [Read.val_main_v25_apply, Read.val_main_v23_apply, Read.val_main_v20_apply, Read.val_main_v22_apply, Read.val_main_v14_apply,
    Read.val_main_v19_apply, Read.val_main_v17_apply, Read.val_main_v16_apply, Read.val_main_v24_apply, Read.val_main_v21_apply,
    Read.val_main_v18_apply, Read.val_main_v15_apply, Read.val_main_v13_apply, Read.val_main_cst_4_apply, Read.val_main_cst_5_apply,
    Read.val_main_cst_6_apply, Read.val_main_cst_7_apply, Read.val_main_cst_8_apply, ← first_eq a0 a1 a2 a3, ← second_eq a0 a1 a2 a3]
  rfl

end Cert.Reference4Ideal.Gen

namespace Cert.Proof

open Idealize.ShloMosaic Idealize.ShloMosaic.TcCoe Idealize.SL.Sem

/-- The two programs' results agree. -/
theorem algebraic4 : Cert.algebraic_Kernel4Ideal_Reference4Ideal := by
  intro m g m' g' _ hm
  refine ⟨_, _, _, _, Cert.Kernel4Ideal.Value.run m g, ?_⟩
  refine (θ_run Cert.Reference4Ideal.defs _ _).mono (fun r h c => ⟨(h c).1.trans ?_, (h c).2.1.trans ?_, (h c).2.2.1.trans ?_, (h c).2.2.2.1.trans ?_, (h c).2.2.2.2⟩)
    (Cert.Reference4Ideal.Value.run m' g')
  all_goals
    obtain ⟨e0, e1, e2, e3⟩ := hm c
    rw [e0]
    try rw [e1]
    try rw [e2]
    try rw [e3]
  · exact (Cert.Reference4Ideal.Read.val_main_v1_eq _).trans (Cert.Reference4Ideal.Gen.grad_eq _ _ _ _).symm
  · exact (Cert.Reference4Ideal.Read.val_main_v25_eq _ _ _ _).trans (Cert.Reference4Ideal.Gen.delta_eq _ _ _ _).symm
  · exact (Cert.Reference4Ideal.Read.val_main_v6_eq _ _).trans (Cert.Reference4Ideal.Gen.first_eq _ _ _ _).symm
  · exact (Cert.Reference4Ideal.Read.val_main_v12_eq _ _).trans (Cert.Reference4Ideal.Gen.second_eq _ _ _ _).symm

end Cert.Proof
end
-- ==== Proof.InStep.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent
public import Idealize.ShloMosaic.Lib.Pipeline.ValueKit

@[expose] public section

/-!
# The optimiser's step of the input projection's weight

Four points of 256 rows each. At each point the sixteen received parts, eight of either exchange, are added one
after another; the reference adds the two sums over the devices. The rest is element by element, and is the same
in both.
-/

set_option maxRecDepth 16384

noncomputable section

namespace Cert.Reference5Ideal.Gen

open Idealize.ShloMosaic Idealize.ShloMosaic.TcCoe Idealize.SL.Sem Cert.Reference5Ideal

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems (by decide) r.2⟩) (Value.run m g)

end Cert.Reference5Ideal.Gen

namespace Cert.Kernel5Ideal.Gen

open Idealize.ShloMosaic Idealize.ShloMosaic.TcCoe Idealize.SL.Sem Cert.Kernel5Ideal

theorem hz : (![0, 0] : Fin 2 → Nat) = fun _ => 0 := funext fun a => by fin_cases a <;> rfl

section
variable (b0 b1 : Vec Ideal S8x256x1024 .bf16) (b2 b3 b4 : Vec Ideal S256x984 .f32)
  (a0 a1 : (⟨S8x1024x1024, .bf16⟩ : BufTy).Contents (Elt Ideal)) (a2 a3 a4 : (⟨S1024x984, .f32⟩ : BufTy).Contents (Elt Ideal))
  (y : S256x984.Idx) (i : S1024x984.Idx)

/-- A block holds the parts of an element, where the block's index is the element's. -/
def Holds (b : Vec Ideal S8x256x1024 .bf16) (a : (⟨S8x1024x1024, .bf16⟩ : BufTy).Contents (Elt Ideal)) (y : S256x984.Idx) (i : S1024x984.Idx) : Prop :=
  ∀ (k : Fin 8) (j : S8x256x1024.Idx), (j 0).val = k.val → (j 1).val = (y 0).val → (j 2).val = (y 1).val →
    (b j : EReal) = a (Cert.Reference5Ideal.Read.idx_main_v1 (Cert.Reference5Ideal.Read.idx_main_v5 i) k)

/-- The gradient summed over the devices and the two exchanges. -/
theorem grad_at (h0 : Holds b0 a0 y i) (h1 : Holds b1 a1 y i) :
    (k0_pay7 (F := Ideal) b0 b1 b2 b3 b4 y : EReal) = Cert.Reference5Ideal.Read.val_main_v5 (F := Ideal) a0 a1 i := by
  refine ((congrFun (View.canon_unit_zero (Val := Elt Ideal) (e := .f32) hz _ _) y).symm.trans
    (Cert.Kernel5Ideal.Value.canon5_eq (F := Ideal) _ _ _ _ _ _ _ _ _ _ _ _ _ _ _ _ y)).trans ?_
  rw [Cert.Reference5Ideal.Read.val_main_v5_apply, Cert.Reference5Ideal.Read.val_main_v4_apply,
    Cert.Reference5Ideal.Read.val_main_v1_apply, Cert.Reference5Ideal.Read.val_main_v3_apply]
  have s : ∀ f : Fin 8 → EReal, (Ideal.ofBits .f32 0x00000000#32 : EReal) + ∑ k, f k
      = f 0 + f 1 + f 2 + f 3 + f 4 + f 5 + f 6 + f 7 := fun f => by
    rw [Ideal.ofBits_zero_f32, zero_add, Fin.sum_univ_eight]
  refine Eq.trans ?_ (congrArg₂ (fun a b : EReal => a + b) (s _).symm (s _).symm)
  have l : ∀ x u0 u1 u2 u3 u4 u5 u6 u7 : EReal, x + (u0 + u1 + u2 + u3 + u4 + u5 + u6 + u7) = x + u0 + u1 + u2 + u3 + u4 + u5 + u6 + u7 :=
    fun x u0 u1 u2 u3 u4 u5 u6 u7 => by simp only [add_assoc]
  refine Eq.trans ?_ (l _ _ _ _ _ _ _ _ _).symm
  have e : ∀ {p q r s : EReal}, p = q → r = s → p + r = q + s := fun h h' => by rw [h, h']
  refine e (e (e (e (e (e (e (e (e (e (e (e (e (e (e
    (h0 0 _ ?_ ?_ ?_) (h0 1 _ ?_ ?_ ?_)) (h0 2 _ ?_ ?_ ?_)) (h0 3 _ ?_ ?_ ?_)) (h0 4 _ ?_ ?_ ?_)) (h0 5 _ ?_ ?_ ?_)) (h0 6 _ ?_ ?_ ?_)) (h0 7 _ ?_ ?_ ?_))
    (h1 0 _ ?_ ?_ ?_)) (h1 1 _ ?_ ?_ ?_)) (h1 2 _ ?_ ?_ ?_)) (h1 3 _ ?_ ?_ ?_)) (h1 4 _ ?_ ?_ ?_)) (h1 5 _ ?_ ?_ ?_)) (h1 6 _ ?_ ?_ ?_)) (h1 7 _ ?_ ?_ ?_) <;>
  first
    | rfl
    | exact (Nat.zero_add _).trans (Nat.mul_one _)
    | exact (Nat.zero_add _).trans (Nat.one_mul _)

/-- The first moment. -/
theorem first_at (h0 : Holds b0 a0 y i) (h1 : Holds b1 a1 y i) (h3 : (b3 y : EReal) = a3 i) :
    (k0_pay1 (F := Ideal) (k0_pay7 b0 b1 b2 b3 b4) (k0_pay8 b0 b1 b2 b3 b4) (Scalar.ofBits .f32 0x3DCCCCCD#32) y : EReal)
      = Cert.Reference5Ideal.Read.val_main_v10 (F := Ideal) a0 a1 a3 i := by
  rw [Cert.Reference5Ideal.Read.val_main_v10_apply, Cert.Reference5Ideal.Read.val_main_v7_apply, Cert.Reference5Ideal.Read.val_main_v9_apply,
    Cert.Reference5Ideal.Read.val_main_v6_apply, Cert.Reference5Ideal.Read.val_main_v8_apply, Cert.Reference5Ideal.Read.val_main_cst_1_apply,
    Cert.Reference5Ideal.Read.val_main_cst_2_apply, ← grad_at b0 b1 b2 b3 b4 a0 a1 y i h0 h1, ← h3]
  unfold k0_pay8
  rw [View.ld_unit_zero (S := S256x984) hz]
  rfl

/-- The second moment. -/
theorem second_at (h0 : Holds b0 a0 y i) (h1 : Holds b1 a1 y i) (h4 : (b4 y : EReal) = a4 i) :
    (k0_pay2 (F := Ideal) (k0_pay7 b0 b1 b2 b3 b4) b4 y : EReal) = Cert.Reference5Ideal.Read.val_main_v16 (F := Ideal) a0 a1 a4 i := by
  rw [Cert.Reference5Ideal.Read.val_main_v16_apply, Cert.Reference5Ideal.Read.val_main_v12_apply, Cert.Reference5Ideal.Read.val_main_v15_apply,
    Cert.Reference5Ideal.Read.val_main_v13_apply, Cert.Reference5Ideal.Read.val_main_v11_apply, Cert.Reference5Ideal.Read.val_main_v14_apply,
    Cert.Reference5Ideal.Read.val_main_cst_3_apply, Cert.Reference5Ideal.Read.val_main_cst_4_apply, ← grad_at b0 b1 b2 b3 b4 a0 a1 y i h0 h1, ← h4]
  rfl

/-- The change of the weight. -/
theorem delta_at (h0 : Holds b0 a0 y i) (h1 : Holds b1 a1 y i) (h2 : (b2 y : EReal) = a2 i) (h3 : (b3 y : EReal) = a3 i) (h4 : (b4 y : EReal) = a4 i) :
    (k0_pay3 (F := Ideal) (k0_pay7 b0 b1 b2 b3 b4) (k0_pay8 b0 b1 b2 b3 b4) (Scalar.ofBits .f32 0x3DCCCCCD#32) b4 b2 y : EReal)
      = Cert.Reference5Ideal.Read.val_main_v29 (F := Ideal) a0 a1 a2 a3 a4 i := by
  rw [Cert.Reference5Ideal.Read.val_main_v29_apply, Cert.Reference5Ideal.Read.val_main_v27_apply, Cert.Reference5Ideal.Read.val_main_v24_apply,
    Cert.Reference5Ideal.Read.val_main_v26_apply, Cert.Reference5Ideal.Read.val_main_v18_apply, Cert.Reference5Ideal.Read.val_main_v23_apply,
    Cert.Reference5Ideal.Read.val_main_v21_apply, Cert.Reference5Ideal.Read.val_main_v20_apply, Cert.Reference5Ideal.Read.val_main_v28_apply,
    Cert.Reference5Ideal.Read.val_main_v25_apply, Cert.Reference5Ideal.Read.val_main_v22_apply, Cert.Reference5Ideal.Read.val_main_v19_apply,
    Cert.Reference5Ideal.Read.val_main_v17_apply, Cert.Reference5Ideal.Read.val_main_cst_5_apply, Cert.Reference5Ideal.Read.val_main_cst_6_apply,
    Cert.Reference5Ideal.Read.val_main_cst_7_apply, Cert.Reference5Ideal.Read.val_main_cst_8_apply, Cert.Reference5Ideal.Read.val_main_cst_9_apply,
    ← first_at b0 b1 b2 b3 b4 a0 a1 a3 y i h0 h1 h3, ← second_at b0 b1 b2 b3 b4 a0 a1 a4 y i h0 h1 h4, ← h2]
  rfl
end

variable (m : (ℓ : Loc nD τ sig) → Buf (Elt Ideal) ℓ)

/-- An element's row in the array: 256 rows a point. -/
def row (t : Fin cfg0.N) (y : S256x984.Idx) : S1024x984.Idx := fun a => match a with
  | ⟨0, _⟩ => ⟨256 * t.val + (y 0).val, by have h : t.val < 4 := lt_of_lt_of_eq t.isLt N_0; have hy : (y 0).val < 256 := (y 0).isLt; show _ < 1024; omega⟩
  | ⟨1, _⟩ => ⟨(y 1).val, (y 1).isLt⟩

/-- A point's block of the first exchange's parts. -/
theorem holds0 (c : Dev nD) (t : Fin cfg0.N) (y : S256x984.Idx) : Holds (iblk m c 0 t) (m (c.tc.loc main_arg0)) y (row t y) := by
  intro k j j0 j1 j2
  have hi : win0_0.index t 0 = 0 ∧ win0_0.index t 1 = t.val ∧ win0_0.index t 2 = 0 :=
    (by decide +kernel : ∀ t : Fin cfg0.N, win0_0.index t 0 = 0 ∧ win0_0.index t 1 = t.val ∧ win0_0.index t 2 = 0) t
  unfold iblk
  rw [View.read_apply]
  show V m c main_arg0 _ = m (c.tc.loc main_arg0) _
  unfold V
  congr 1
  funext a
  apply Fin.ext
  match a with
  | ⟨0, _⟩ => show win0_0.index t 0 * 8 + 1 * (j 0).val = k.val; rw [hi.1]; omega
  | ⟨1, _⟩ => show win0_0.index t 1 * 256 + 1 * (j 1).val = 256 * t.val + (y 0).val; rw [hi.2.1]; omega
  | ⟨2, _⟩ => show win0_0.index t 2 * 1024 + 1 * (j 2).val = (y 1).val; rw [hi.2.2]; omega

/-- A point's block of the second exchange's parts. -/
theorem holds1 (c : Dev nD) (t : Fin cfg0.N) (y : S256x984.Idx) : Holds (iblk m c 1 t) (m (c.tc.loc main_arg1)) y (row t y) := by
  intro k j j0 j1 j2
  have hi : win0_1.index t 0 = 0 ∧ win0_1.index t 1 = t.val ∧ win0_1.index t 2 = 0 :=
    (by decide +kernel : ∀ t : Fin cfg0.N, win0_1.index t 0 = 0 ∧ win0_1.index t 1 = t.val ∧ win0_1.index t 2 = 0) t
  unfold iblk
  rw [View.read_apply]
  show V m c main_arg1 _ = m (c.tc.loc main_arg1) _
  unfold V
  congr 1
  funext a
  apply Fin.ext
  match a with
  | ⟨0, _⟩ => show win0_1.index t 0 * 8 + 1 * (j 0).val = k.val; rw [hi.1]; omega
  | ⟨1, _⟩ => show win0_1.index t 1 * 256 + 1 * (j 1).val = 256 * t.val + (y 0).val; rw [hi.2.1]; omega
  | ⟨2, _⟩ => show win0_1.index t 2 * 1024 + 1 * (j 2).val = (y 1).val; rw [hi.2.2]; omega

/-- The windows of 256 rows all move alike: 256 rows a point. -/
theorem rows_at (t : Fin cfg0.N) : (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin cfg0.N, (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0)) t

/-- The array index an offset and an element's index make. -/
theorem row_of {t : Fin cfg0.N} {y : S256x984.Idx} {j : S1024x984.Idx} {p q : ℕ} (h : p = t.val ∧ q = 0)
    (h0 : (j 0).val = p * 256 + 1 * (y 0).val) (h1 : (j 1).val = q * 984 + 1 * (y 1).val) : j = row t y := by
  funext a
  apply Fin.ext
  match a with
  | ⟨0, _⟩ => show (j 0).val = 256 * t.val + (y 0).val; rw [h0, h.1]; omega
  | ⟨1, _⟩ => show (j 1).val = (y 1).val; rw [h1, h.2]; omega

/-- A point's block of the weight. -/
theorem blk2_at (c : Dev nD) (t : Fin cfg0.N) (y : S256x984.Idx) :
    ((iblk m c 2 t : Vec Ideal S256x984 .f32) y : EReal) = (m (c.tc.loc main_arg2) : S1024x984.Idx → EReal) (row t y) := by
  unfold iblk
  rw [View.read_apply]
  exact congrArg (m (c.tc.loc main_arg2)) (row_of (rows_at t).1 rfl rfl)

/-- A point's block of the first moment. -/
theorem blk3_at (c : Dev nD) (t : Fin cfg0.N) (y : S256x984.Idx) :
    ((iblk m c 3 t : Vec Ideal S256x984 .f32) y : EReal) = (m (c.tc.loc main_arg3) : S1024x984.Idx → EReal) (row t y) := by
  unfold iblk
  rw [View.read_apply]
  exact congrArg (m (c.tc.loc main_arg3)) (row_of (rows_at t).2.1 rfl rfl)

/-- A point's block of the second moment. -/
theorem blk4_at (c : Dev nD) (t : Fin cfg0.N) (y : S256x984.Idx) :
    ((iblk m c 4 t : Vec Ideal S256x984 .f32) y : EReal) = (m (c.tc.loc main_arg4) : S1024x984.Idx → EReal) (row t y) := by
  unfold iblk
  rw [View.read_apply]
  exact congrArg (m (c.tc.loc main_arg4)) (row_of (rows_at t).2.2.1 rfl rfl)

/-- The gradient's array after the run. -/
theorem grad_eq (c : Dev nD) : (dats m 0 c).arrAt 5 cfg0.N
    = Cert.Reference5Ideal.Read.val_main_v5 (F := Ideal) (m (c.tc.loc main_arg0)) (m (c.tc.loc main_arg1)) := by
  refine (dats m 0 c).arrAt_eq_of_covers 5 _ (by decide +kernel : win0_5.Covers) fun t _ y => ?_
  rw [after0_5]
  unfold out0_5
  rw [View.canon_unit_zero hz]
  exact (grad_at (iblk m c 0 t) (iblk m c 1 t) (iblk m c 2 t) (iblk m c 3 t) (iblk m c 4 t) _ _ y (row t y) (holds0 m c t y) (holds1 m c t y)).trans
    (congrArg _ (row_of (rows_at t).2.2.2.1 rfl rfl).symm)

/-- The change of the weight's array after the run. -/
theorem delta_eq (c : Dev nD) : (dats m 0 c).arrAt 6 cfg0.N
    = Cert.Reference5Ideal.Read.val_main_v29 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel : win0_6.Covers) fun t _ y => ?_
  rw [after0_6]
  unfold out0_6
  rw [View.canon_unit_zero hz, View.ld_unit_zero (S := S256x984) hz, View.ld_unit_zero (S := S256x984) hz]
  exact (delta_at (iblk m c 0 t) (iblk m c 1 t) (iblk m c 2 t) (iblk m c 3 t) (iblk m c 4 t) _ _ _ _ _ y (row t y) (holds0 m c t y) (holds1 m c t y) (blk2_at m c t y) (blk3_at m c t y) (blk4_at m c t y)).trans
    (congrArg _ (row_of (rows_at t).2.2.2.2.1 rfl rfl).symm)

/-- The first moment's array after the run. -/
theorem first_eq (c : Dev nD) : (dats m 0 c).arrAt 7 cfg0.N
    = Cert.Reference5Ideal.Read.val_main_v10 (F := Ideal) (m (c.tc.loc main_arg0)) (m (c.tc.loc main_arg1)) (m (c.tc.loc main_arg3)) := by
  refine (dats m 0 c).arrAt_eq_of_covers 7 _ (by decide +kernel : win0_7.Covers) fun t _ y => ?_
  rw [after0_7]
  unfold out0_7
  rw [View.canon_unit_zero hz]
  exact (first_at (iblk m c 0 t) (iblk m c 1 t) (iblk m c 2 t) (iblk m c 3 t) (iblk m c 4 t) _ _ _ y (row t y) (holds0 m c t y) (holds1 m c t y) (blk3_at m c t y)).trans
    (congrArg _ (row_of (rows_at t).2.2.2.2.2.1 rfl rfl).symm)

/-- The second moment's array after the run. -/
theorem second_eq (c : Dev nD) : (dats m 0 c).arrAt 8 cfg0.N
    = Cert.Reference5Ideal.Read.val_main_v16 (F := Ideal) (m (c.tc.loc main_arg0)) (m (c.tc.loc main_arg1)) (m (c.tc.loc main_arg4)) := by
  refine (dats m 0 c).arrAt_eq_of_covers 8 _ (by decide +kernel : win0_8.Covers) fun t _ y => ?_
  rw [after0_8]
  unfold out0_8
  rw [View.canon_unit_zero hz, View.ld_unit_zero (S := S256x984) hz]
  exact (second_at (iblk m c 0 t) (iblk m c 1 t) (iblk m c 2 t) (iblk m c 3 t) (iblk m c 4 t) _ _ _ y (row t y) (holds0 m c t y) (holds1 m c t y) (blk4_at m c t y)).trans
    (congrArg _ (row_of (rows_at t).2.2.2.2.2.2 rfl rfl).symm)

end Cert.Kernel5Ideal.Gen

namespace Cert.Proof

open Idealize.ShloMosaic Idealize.ShloMosaic.TcCoe Idealize.SL.Sem

/-- The two programs' results agree. -/
theorem algebraic5 : Cert.algebraic_Kernel5Ideal_Reference5Ideal := by
  intro m g m' g' _ hm
  refine ⟨_, _, _, _, Cert.Kernel5Ideal.Value.run_blocks m g, ?_⟩
  refine (θ_run Cert.Reference5Ideal.defs _ _).mono (fun r h c => ⟨(h c).1.trans ?_, (h c).2.1.trans ?_, (h c).2.2.1.trans ?_, (h c).2.2.2.1.trans ?_, (h c).2.2.2.2⟩)
    (Cert.Reference5Ideal.Value.run m' g')
  all_goals
    obtain ⟨e0, e1, e2, e3, e4⟩ := hm c
    rw [e0, e1]
    try rw [e2]
    try rw [e3]
    try rw [e4]
  · exact (Cert.Reference5Ideal.Read.val_main_v5_eq _ _).trans (Cert.Kernel5Ideal.Gen.grad_eq m c).symm
  · exact (Cert.Reference5Ideal.Read.val_main_v29_eq _ _ _ _ _).trans (Cert.Kernel5Ideal.Gen.delta_eq m c).symm
  · exact (Cert.Reference5Ideal.Read.val_main_v10_eq _ _ _).trans (Cert.Kernel5Ideal.Gen.first_eq m c).symm
  · exact (Cert.Reference5Ideal.Read.val_main_v16_eq _ _ _).trans (Cert.Kernel5Ideal.Gen.second_eq m c).symm

end Cert.Proof
end
-- ==== Proof.NormStep.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent

@[expose] public section

/-!
# The optimiser's step of the norm's gain

The eight devices' parts are added one after another; the reference's sum over the devices is the same sum. The
rest is element by element, and is the same in both.
-/

set_option maxRecDepth 16384

noncomputable section

namespace Cert.Reference6Ideal.Gen

open Idealize.ShloMosaic Idealize.ShloMosaic.TcCoe Idealize.SL.Sem Cert.Reference6Ideal

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (Value.run m g)

variable (a0 : (⟨S8x8x1024, .f32⟩ : BufTy).Contents (Elt Ideal)) (a1 a2 a3 : (⟨S8x1024, .f32⟩ : BufTy).Contents (Elt Ideal))

/-- The gradient summed over the devices. -/
theorem grad_eq : Cert.Kernel6Ideal.Value.G4 (F := Ideal) a0 a1 a2 a3 = Read.val_main_v0 (F := Ideal) a0 := by
  funext y
  refine ((congrFun (View.canon_unit_zero (Val := Elt Ideal) (e := .f32) Cert.Kernel6Ideal.Value.hz4 _ _) y).symm.trans
    (Cert.Kernel6Ideal.Value.canon4_eq (F := Ideal) _ _ _ _ _ _ _ _ y)).trans ?_
  rw [Read.val_main_v0_apply]
  refine Eq.trans ?_ (congrArg₂ (fun a b : EReal => a + b) (Ideal.ofBits_zero_f32).symm rfl)
  refine Eq.trans ?_ (zero_add _).symm
  refine Eq.trans ?_ (Fin.sum_univ_eight (M := EReal) _).symm
  have h : ∀ (k : Fin 8) (i : S8x8x1024.Idx), (i 0).val = k.val → (i 1).val = (y 0).val → (i 2).val = (y 1).val → i = Read.idx_main_v0 y k :=
    fun k i h0 h1 h2 => funext fun a => Fin.ext (by match a with | ⟨0, _⟩ => exact h0 | ⟨1, _⟩ => exact h1 | ⟨2, _⟩ => exact h2)
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (congrArg a0 (h 0 _ ?_ ?_ ?_)) (congrArg a0 (h 1 _ ?_ ?_ ?_))) (congrArg a0 (h 2 _ ?_ ?_ ?_))) (congrArg a0 (h 3 _ ?_ ?_ ?_)))
      (congrArg a0 (h 4 _ ?_ ?_ ?_))) (congrArg a0 (h 5 _ ?_ ?_ ?_))) (congrArg a0 (h 6 _ ?_ ?_ ?_))) (congrArg a0 (h 7 _ ?_ ?_ ?_)) <;>
  first
    | rfl
    | exact (Nat.zero_add _).trans (Nat.mul_one _)
    | exact (Nat.zero_add _).trans (Nat.one_mul _)

/-- The first moment. -/
theorem first_eq : Cert.Kernel6Ideal.Value.G6 (F := Ideal) a0 a1 a2 a3 = Read.val_main_v5 (F := Ideal) a0 a2 := by
  funext y
  rw [Read.val_main_v5_apply, Read.val_main_v2_apply, Read.val_main_v4_apply, Read.val_main_v1_apply, Read.val_main_v3_apply,
    Read.val_main_cst_0_apply, Read.val_main_cst_1_apply, ← grad_eq a0 a1 a2 a3]
  unfold Cert.Kernel6Ideal.Value.G6 Cert.Kernel6Ideal.Gen.k0_pay6
  rw [View.ld_unit_zero (S := Cert.Kernel6Ideal.S8x1024) Cert.Kernel6Ideal.Value.hz2]
  rfl

/-- The second moment. -/
theorem second_eq : Cert.Kernel6Ideal.Value.G7 (F := Ideal) a0 a1 a2 a3 = Read.val_main_v11 (F := Ideal) a0 a3 := by
  funext y
  rw [Read.val_main_v11_apply, Read.val_main_v7_apply, Read.val_main_v10_apply, Read.val_main_v8_apply, Read.val_main_v6_apply,
    Read.val_main_v9_apply, Read.val_main_cst_2_apply, Read.val_main_cst_3_apply, ← grad_eq a0 a1 a2 a3]
  rfl

/-- The change of the weight. -/
theorem delta_eq : Cert.Kernel6Ideal.Value.G5 (F := Ideal) a0 a1 a2 a3 = Read.val_main_v24 (F := Ideal) a0 a1 a2 a3 := by
  funext y
  rw [Read.val_main_v24_apply, Read.val_main_v22_apply, Read.val_main_v19_apply, Read.val_main_v21_apply, Read.val_main_v13_apply,
    Read.val_main_v18_apply, Read.val_main_v16_apply, Read.val_main_v15_apply, Read.val_main_v23_apply, Read.val_main_v20_apply,
    Read.val_main_v17_apply, Read.val_main_v14_apply, Read.val_main_v12_apply, Read.val_main_cst_4_apply, Read.val_main_cst_5_apply,
    Read.val_main_cst_6_apply, Read.val_main_cst_7_apply, Read.val_main_cst_8_apply, ← first_eq a0 a1 a2 a3, ← second_eq a0 a1 a2 a3]
  rfl

end Cert.Reference6Ideal.Gen

namespace Cert.Proof

open Idealize.ShloMosaic Idealize.ShloMosaic.TcCoe Idealize.SL.Sem

/-- The two programs' results agree. -/
theorem algebraic6 : Cert.algebraic_Kernel6Ideal_Reference6Ideal := by
  intro m g m' g' _ hm
  refine ⟨_, _, _, _, Cert.Kernel6Ideal.Value.run m g, ?_⟩
  refine (θ_run Cert.Reference6Ideal.defs _ _).mono (fun r h c => ⟨(h c).1.trans ?_, (h c).2.1.trans ?_, (h c).2.2.1.trans ?_, (h c).2.2.2.1.trans ?_, (h c).2.2.2.2⟩)
    (Cert.Reference6Ideal.Value.run m' g')
  all_goals
    obtain ⟨e0, e1, e2, e3⟩ := hm c
    rw [e0]
    try rw [e1]
    try rw [e2]
    try rw [e3]
  · exact (Cert.Reference6Ideal.Read.val_main_v0_eq _).trans (Cert.Reference6Ideal.Gen.grad_eq _ _ _ _).symm
  · exact (Cert.Reference6Ideal.Read.val_main_v24_eq _ _ _ _).trans (Cert.Reference6Ideal.Gen.delta_eq _ _ _ _).symm
  · exact (Cert.Reference6Ideal.Read.val_main_v5_eq _ _).trans (Cert.Reference6Ideal.Gen.first_eq _ _ _ _).symm
  · exact (Cert.Reference6Ideal.Read.val_main_v11_eq _ _).trans (Cert.Reference6Ideal.Gen.second_eq _ _ _ _).symm

end Cert.Proof
end
-- ==== Proof.MiscStep.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent

@[expose] public section

/-!
# The optimiser's step of the packed weights

The eight devices' parts are added one after another; the reference's sum over the devices is the same sum. The
rest is element by element, and is the same in both.
-/

set_option maxRecDepth 16384

noncomputable section

namespace Cert.Reference7Ideal.Gen

open Idealize.ShloMosaic Idealize.ShloMosaic.TcCoe Idealize.SL.Sem Cert.Reference7Ideal

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (Value.run m g)

variable (a0 : (⟨S8x144x1024, .f32⟩ : BufTy).Contents (Elt Ideal)) (a1 a2 a3 : (⟨S144x1024, .f32⟩ : BufTy).Contents (Elt Ideal))

/-- The gradient summed over the devices. -/
theorem grad_eq : Cert.Kernel7Ideal.Value.G4 (F := Ideal) a0 a1 a2 a3 = Read.val_main_v0 (F := Ideal) a0 := by
  funext y
  refine ((congrFun (View.canon_unit_zero (Val := Elt Ideal) (e := .f32) Cert.Kernel7Ideal.Value.hz4 _ _) y).symm.trans
    (Cert.Kernel7Ideal.Value.canon4_eq (F := Ideal) _ _ _ _ _ _ _ _ y)).trans ?_
  rw [Read.val_main_v0_apply]
  refine Eq.trans ?_ (congrArg₂ (fun a b : EReal => a + b) (Ideal.ofBits_zero_f32).symm rfl)
  refine Eq.trans ?_ (zero_add _).symm
  refine Eq.trans ?_ (Fin.sum_univ_eight (M := EReal) _).symm
  have h : ∀ (k : Fin 8) (i : S8x144x1024.Idx), (i 0).val = k.val → (i 1).val = (y 0).val → (i 2).val = (y 1).val → i = Read.idx_main_v0 y k :=
    fun k i h0 h1 h2 => funext fun a => Fin.ext (by match a with | ⟨0, _⟩ => exact h0 | ⟨1, _⟩ => exact h1 | ⟨2, _⟩ => exact h2)
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (congrArg a0 (h 0 _ ?_ ?_ ?_)) (congrArg a0 (h 1 _ ?_ ?_ ?_))) (congrArg a0 (h 2 _ ?_ ?_ ?_))) (congrArg a0 (h 3 _ ?_ ?_ ?_)))
      (congrArg a0 (h 4 _ ?_ ?_ ?_))) (congrArg a0 (h 5 _ ?_ ?_ ?_))) (congrArg a0 (h 6 _ ?_ ?_ ?_))) (congrArg a0 (h 7 _ ?_ ?_ ?_)) <;>
  first
    | rfl
    | exact (Nat.zero_add _).trans (Nat.mul_one _)
    | exact (Nat.zero_add _).trans (Nat.one_mul _)

/-- The first moment. -/
theorem first_eq : Cert.Kernel7Ideal.Value.G6 (F := Ideal) a0 a1 a2 a3 = Read.val_main_v5 (F := Ideal) a0 a2 := by
  funext y
  rw [Read.val_main_v5_apply, Read.val_main_v2_apply, Read.val_main_v4_apply, Read.val_main_v1_apply, Read.val_main_v3_apply,
    Read.val_main_cst_0_apply, Read.val_main_cst_1_apply, ← grad_eq a0 a1 a2 a3]
  unfold Cert.Kernel7Ideal.Value.G6 Cert.Kernel7Ideal.Gen.k0_pay6
  rw [View.ld_unit_zero (S := Cert.Kernel7Ideal.S144x1024) Cert.Kernel7Ideal.Value.hz2]
  rfl

/-- The second moment. -/
theorem second_eq : Cert.Kernel7Ideal.Value.G7 (F := Ideal) a0 a1 a2 a3 = Read.val_main_v11 (F := Ideal) a0 a3 := by
  funext y
  rw [Read.val_main_v11_apply, Read.val_main_v7_apply, Read.val_main_v10_apply, Read.val_main_v8_apply, Read.val_main_v6_apply,
    Read.val_main_v9_apply, Read.val_main_cst_2_apply, Read.val_main_cst_3_apply, ← grad_eq a0 a1 a2 a3]
  rfl

/-- The change of the weight. -/
theorem delta_eq : Cert.Kernel7Ideal.Value.G5 (F := Ideal) a0 a1 a2 a3 = Read.val_main_v24 (F := Ideal) a0 a1 a2 a3 := by
  funext y
  rw [Read.val_main_v24_apply, Read.val_main_v22_apply, Read.val_main_v19_apply, Read.val_main_v21_apply, Read.val_main_v13_apply,
    Read.val_main_v18_apply, Read.val_main_v16_apply, Read.val_main_v15_apply, Read.val_main_v23_apply, Read.val_main_v20_apply,
    Read.val_main_v17_apply, Read.val_main_v14_apply, Read.val_main_v12_apply, Read.val_main_cst_4_apply, Read.val_main_cst_5_apply,
    Read.val_main_cst_6_apply, Read.val_main_cst_7_apply, Read.val_main_cst_8_apply, ← first_eq a0 a1 a2 a3, ← second_eq a0 a1 a2 a3]
  rfl

end Cert.Reference7Ideal.Gen

namespace Cert.Proof

open Idealize.ShloMosaic Idealize.ShloMosaic.TcCoe Idealize.SL.Sem

/-- The two programs' results agree. -/
theorem algebraic7 : Cert.algebraic_Kernel7Ideal_Reference7Ideal := by
  intro m g m' g' _ hm
  refine ⟨_, _, _, _, Cert.Kernel7Ideal.Value.run m g, ?_⟩
  refine (θ_run Cert.Reference7Ideal.defs _ _).mono (fun r h c => ⟨(h c).1.trans ?_, (h c).2.1.trans ?_, (h c).2.2.1.trans ?_, (h c).2.2.2.1.trans ?_, (h c).2.2.2.2⟩)
    (Cert.Reference7Ideal.Value.run m' g')
  all_goals
    obtain ⟨e0, e1, e2, e3⟩ := hm c
    rw [e0]
    try rw [e1]
    try rw [e2]
    try rw [e3]
  · exact (Cert.Reference7Ideal.Read.val_main_v0_eq _).trans (Cert.Reference7Ideal.Gen.grad_eq _ _ _ _).symm
  · exact (Cert.Reference7Ideal.Read.val_main_v24_eq _ _ _ _).trans (Cert.Reference7Ideal.Gen.delta_eq _ _ _ _).symm
  · exact (Cert.Reference7Ideal.Read.val_main_v5_eq _ _).trans (Cert.Reference7Ideal.Gen.first_eq _ _ _ _).symm
  · exact (Cert.Reference7Ideal.Read.val_main_v11_eq _ _).trans (Cert.Reference7Ideal.Gen.second_eq _ _ _ _).symm

end Cert.Proof
end
-- ==== Proof.InputMath.lean ====
module

public import proofs.«01_k».proof.Proof.HostValues

@[expose] public section

/-!
# The derivative of a normalised row

A row `X`, its reciprocal root mean square, and a cotangent `T` of the normalised row: the short form of the
derivative, in which the row is projected out of the cotangent, is the long form, in which the root is
differentiated. On a row of real numbers the mean square with the epsilon added is positive and the root's factors
go into the sums; on a row with an infinity in it the root is zero, and so are both forms.
-/

noncomputable section

namespace Cert.InputMath

open Idealize.ShloMosaic
open Cert.KernelIdeal.Gen (div_real coe_sum)

/-- The number of columns. -/
theorem cols : Ideal.ofBits .f32 0x44800000#32 = ((1024 : ℝ) : EReal) := by
  simp [Ideal.ofBits, Ideal.ieee]; rw [← EReal.coe_mul]; norm_num

/-- The factor of the root's derivative. -/
theorem half : Ideal.ofBits .f32 0xBF000000#32 = ((-(1 / 2) : ℝ) : EReal) := by
  simp [Ideal.ofBits, Ideal.ieee]; rw [← EReal.coe_mul]; norm_num

/-- The epsilon is a positive real number. -/
theorem eps : ∃ e : ℝ, 0 < e ∧ Ideal.ofBits .f32 0x358637BD#32 = ((e : ℝ) : EReal) := by
  refine ⟨(8796093 : ℝ) * 2 ^ (-43 : ℤ), by positivity, ?_⟩
  simp [Ideal.ofBits, Ideal.ieee]

/-- The mean square of a row with the epsilon added. -/
def meanSq (x : Fin 1024 → EReal) : EReal := Ideal.div (∑ k, x k * x k) (Ideal.ofBits .f32 0x44800000#32) + Ideal.ofBits .f32 0x358637BD#32

/-- The row's reciprocal root mean square. -/
def root (x : Fin 1024 → EReal) : EReal := Ideal.rsqrt (meanSq x)

/-- The derivative's short form: the normalised row is projected out of the cotangent. -/
def short (x t : Fin 1024 → EReal) (j : Fin 1024) : EReal :=
  root x * (t j - x j * root x * Ideal.div (∑ k, t k * (x k * root x)) (Ideal.ofBits .f32 0x44800000#32))

/-- What the root's derivative contributes to each column, for a column's own factor. -/
def part (x t : Fin 1024 → EReal) : EReal :=
  Ideal.div ((∑ k, x k * t k) * (Ideal.ofBits .f32 0xBF000000#32 * Ideal.div (root x) (meanSq x))) (Ideal.ofBits .f32 0x44800000#32)

/-- The derivative's long form: the root is differentiated. -/
def long (x t : Fin 1024 → EReal) (j : Fin 1024) : EReal := (t j * root x + x j * part x t) + part x t * x j

/-- Two halves of an extended real, each with the sign turned, are its negative. -/
theorem two_halves (w : EReal) : w * ((-(1 / 2) : ℝ) : EReal) + w * ((-(1 / 2) : ℝ) : EReal) = -w := by
  induction w with
  | bot => rw [EReal.bot_mul_coe_of_neg (by norm_num)]; rfl
  | top => rw [EReal.top_mul_coe_of_neg (by norm_num)]; rfl
  | coe x =>
    rw [← EReal.coe_mul, ← EReal.coe_add, ← EReal.coe_neg]
    refine congrArg (fun a : ℝ => (a : EReal)) ?_
    ring

/-- A nonnegative real factor goes into a sum. -/
theorem sum_mul_real {n : ℕ} (f : Fin n → EReal) (r : ℝ) (hr : 0 ≤ r) : (∑ k, f k) * (r : EReal) = ∑ k, f k * (r : EReal) := by
  have key : ∀ s : Finset (Fin n), (∑ k ∈ s, f k) * (r : EReal) = ∑ k ∈ s, f k * (r : EReal) := fun s => by
    induction s using Finset.induction_on with
    | empty => rw [Finset.sum_empty, Finset.sum_empty, zero_mul]
    | insert a s ha ih =>
      rw [Finset.sum_insert ha, Finset.sum_insert ha, EReal.right_distrib_of_nonneg_of_ne_top (EReal.coe_nonneg.2 hr) (EReal.coe_ne_top r), ih]
  exact key _

/-- A square is not negative. -/
theorem square_nonneg (a : EReal) : 0 ≤ a * a := by
  induction a with
  | bot => rw [EReal.bot_mul_bot]; exact le_top
  | top => rw [EReal.top_mul_top]; exact le_top
  | coe x => rw [← EReal.coe_mul]; exact EReal.coe_nonneg.2 (mul_self_nonneg x)

/-- A row with an infinity in it has an infinite mean square. -/
theorem meanSq_top (x : Fin 1024 → EReal) (k : Fin 1024) (h : x k * x k = ⊤) : meanSq x = ⊤ := by
  obtain ⟨e, he, hE⟩ := eps
  have hs : (∑ k, x k * x k) = ⊤ := top_le_iff.1 (h ▸ Finset.single_le_sum (f := fun k => x k * x k) (fun i _ => square_nonneg (x i)) (Finset.mem_univ k))
  unfold meanSq
  rw [hs, cols, hE, Ideal.div_coe (by norm_num), EReal.top_mul_coe_of_pos (by norm_num), EReal.top_add_coe]

/-- On a row with an infinite mean square both forms are zero. -/
theorem short_eq_long_top (x t : Fin 1024 → EReal) (j : Fin 1024) (h : meanSq x = ⊤) : short x t j = long x t j := by
  have hr : root x = 0 := by unfold root; rw [h]; rfl
  have hd : ∀ y : EReal, y ≠ 0 → Ideal.div 0 y = 0 := fun y hy => by
    unfold Ideal.div
    rw [if_neg hy, zero_mul]
  have hp : part x t = 0 := by
    unfold part
    rw [hr, h, hd ⊤ (by decide), mul_zero, mul_zero, cols, hd _ (by norm_num)]
  unfold short long
  rw [hr, hp]
  simp only [zero_mul, mul_zero, add_zero]

/-- The two forms agree on a row of real numbers, whatever the cotangent. -/
theorem short_eq_long_real (X : Fin 1024 → ℝ) (t : Fin 1024 → EReal) (j : Fin 1024) :
    short (fun k => ((X k : ℝ) : EReal)) t j = long (fun k => ((X k : ℝ) : EReal)) t j := by
  obtain ⟨e, he, hE⟩ := eps
  obtain ⟨s, hs⟩ : ∃ s, s = (∑ k, X k * X k) / 1024 + e := ⟨_, rfl⟩
  have hs0 : 0 < s := by
    have : 0 ≤ ∑ k, X k * X k := Finset.sum_nonneg fun k _ => mul_self_nonneg _
    rw [hs]; positivity
  have hq : (∑ k, ((X k : ℝ) : EReal) * ((X k : ℝ) : EReal)) = ((∑ k, X k * X k : ℝ) : EReal) := by
    rw [← coe_sum]
    exact Finset.sum_congr rfl fun k _ => (EReal.coe_mul _ _).symm
  have hm : meanSq (fun k => ((X k : ℝ) : EReal)) = ((s : ℝ) : EReal) := by
    unfold meanSq
    rw [hq, cols, hE, div_real _ _ (by norm_num), ← EReal.coe_add, hs]
  obtain ⟨r, hr⟩ : ∃ r, r = (Real.sqrt s)⁻¹ := ⟨_, rfl⟩
  have hr0 : 0 ≤ r := by rw [hr]; positivity
  have hrr : r * r = s⁻¹ := by
    rw [hr, ← mul_inv, Real.mul_self_sqrt hs0.le]
  have hroot : root (fun k => ((X k : ℝ) : EReal)) = ((r : ℝ) : EReal) := by
    unfold root
    rw [hm, Ideal.rsqrt_coe, if_neg (not_lt.2 hs0.le), if_neg hs0.ne', hr]
  have h1 : (∑ k, t k * (((X k : ℝ) : EReal) * ((r : ℝ) : EReal))) = (∑ k, ((X k : ℝ) : EReal) * t k) * ((r : ℝ) : EReal) := by
    rw [sum_mul_real _ r hr0]
    refine Finset.sum_congr rfl fun k _ => ?_
    rw [← mul_assoc, mul_comm (t k)]
  unfold short long part
  rw [hroot, hm, h1, cols, half, div_real _ _ hs0.ne', Ideal.div_coe (by norm_num), Ideal.div_coe (by norm_num)]
  generalize (∑ k, ((X k : ℝ) : EReal) * t k) = S
  obtain ⟨w, hw⟩ : ∃ w : EReal, w = ((X j : ℝ) : EReal) * S * ((r * r * r * (1 / 1024) : ℝ) : EReal) := ⟨_, rfl⟩
  have hv : ((X j : ℝ) : EReal) * (S * (((-(1 / 2) : ℝ) : EReal) * ((r / s : ℝ) : EReal)) * ((1 / 1024 : ℝ) : EReal)) = w * ((-(1 / 2) : ℝ) : EReal) := by
    rw [hw, mul_assoc S, mul_assoc ((X j : ℝ) : EReal), mul_assoc ((X j : ℝ) : EReal), mul_assoc S, ← EReal.coe_mul, ← EReal.coe_mul, ← EReal.coe_mul]
    refine congrArg (fun a : ℝ => ((X j : ℝ) : EReal) * (S * (a : EReal))) ?_
    rw [div_eq_mul_inv r s, ← hrr]
    ring
  have hu : ((r : ℝ) : EReal) * (((X j : ℝ) : EReal) * ((r : ℝ) : EReal) * (S * ((r : ℝ) : EReal) * ((1 / 1024 : ℝ) : EReal))) = w := by
    rw [hw, EReal.coe_mul, EReal.coe_mul, EReal.coe_mul]
    ac_rfl
  rw [mul_comm _ ((X j : ℝ) : EReal), hv, add_assoc, two_halves, sub_eq_add_neg,
    EReal.left_distrib_of_nonneg_of_ne_top (EReal.coe_nonneg.2 hr0) (EReal.coe_ne_top r), mul_neg, hu, mul_comm (t j)]

/-- The two forms agree. -/
theorem short_eq_long (x t : Fin 1024 → EReal) (j : Fin 1024) : short x t j = long x t j := by
  rcases Classical.em (∃ k, x k * x k = ⊤) with ⟨k, hk⟩ | hn
  · exact short_eq_long_top x t j (meanSq_top x k hk)
  · have hx : x = fun k => (((x k).toReal : ℝ) : EReal) := funext fun k => by
      refine (EReal.coe_toReal (fun h => hn ⟨k, ?_⟩) (fun h => hn ⟨k, ?_⟩)).symm
      · rw [h, EReal.top_mul_top]
      · rw [h, EReal.bot_mul_bot]
    rw [hx]
    exact short_eq_long_real _ t j

end Cert.InputMath
end
-- ==== Proof.InputGradient.lean ====
module

public import proofs.«01_k».proof.Proof.Gen.Kernel8Ideal.Value
public import proofs.«01_k».proof.Proof.RowSums
public import proofs.«01_k».proof.Proof.InputMath
public import Idealize.ShloMosaic.Lib.Tactic
public import Idealize.ShloMosaic.Lib.Pointwise

@[expose] public section

/-!
# The gradient of the input projection's rows and of the norm's gain

Thirty-two points of 256 rows each. A point puts its eight segments side by side, multiplies them with the weight,
and writes its rows of the gradient; the gain's gradient stays in one block, to which every point adds its rows.
-/

set_option maxRecDepth 16384

noncomputable section

namespace Cert.Kernel8Ideal.Gen

open Idealize.ShloMosaic Idealize.ShloMosaic.TcCoe Idealize.ShloMosaic.Tactic

theorem hz : (![0, 0] : Fin 2 → Nat) = fun _ => 0 := funext fun a => by fin_cases a <;> rfl

section
variable {F : FTy → Type} [FloatOps F]
variable (c : Dev nD) (i : grid0.Coords) (a1 a2 a3 a4 a5 a6 a7 a8 : Memref sig .tc .vmem S256x1024 .bf16) (h1 : a1.IsWhole) (h2 : a2.IsWhole) (h3 : a3.IsWhole)
  (h4 : a4.IsWhole) (h5 : a5.IsWhole) (h6 : a6.IsWhole) (h7 : a7.IsWhole) (h8 : a8.IsWhole)
  (a9 : Memref sig .tc .vmem S1024x8192 .bf16) (h9 : a9.IsWhole) (a10 : Memref sig .tc .vmem S256x1024 .f32) (h10 : a10.IsWhole)
  (a11 : Memref sig .tc .vmem S256x1024 .f32) (h11 : a11.IsWhole) (a12 : Memref sig .tc .vmem S1x1024 .f32) (h12 : a12.IsWhole)
  (a13 : Memref sig .tc .vmem S256x1024 .f32) (h13 : a13.IsWhole) (a14 : Memref sig .tc .vmem S8x1024 .f32) (h14 : a14.IsWhole)
  (a15 : Memref sig .tc .vmem S256x8192 .bf16) (h15 : a15.IsWhole)
  (x0 x1 x2 x3 x4 x5 x6 x7 : Vec F S256x1024 .bf16) (x8 : Vec F S1024x8192 .bf16) (x9 x10 : Vec F S256x1024 .f32) (x11 : Vec F S1x1024 .f32) (xs : Vec F S8x1024 .f32)

/-- The eight segments side by side: column `1024 k + d` is segment `k`'s column `d`. -/
def dp : Vec F S256x8192 .bf16 := fun y =>
  (![x0, x1, x2, x3, x4, x5, x6, x7] : Fin 8 → Vec F S256x1024 .bf16) ⟨(y 1).val / 1024, by have h : (y 1).val < 8192 := (y 1).isLt; omega⟩
    (ix2 (y 0) ⟨(y 1).val % 1024, Nat.mod_lt _ (by decide)⟩)

/-- The eight segments side by side at a column of segment `k`. -/
theorem dp_at (k : Fin 8) (w : Vec F S256x1024 .bf16) (hk : (![x0, x1, x2, x3, x4, x5, x6, x7] : Fin 8 → Vec F S256x1024 .bf16) k = w)
    (x : S256x1024.Idx) (y : S256x8192.Idx) (h0 : (y 0).val = 0 + 1 * (x 0).val) (h1 : (y 1).val = 1024 * k.val + 1 * (x 1).val) :
    w x = dp x0 x1 x2 x3 x4 x5 x6 x7 y := by
  have hx : (x 1).val < 1024 := (x 1).isLt
  have hd : (⟨(y 1).val / 1024, by have h : (y 1).val < 8192 := (y 1).isLt; omega⟩ : Fin 8) = k := Fin.ext (by show (y 1).val / 1024 = k.val; omega)
  have hj : x = ix2 (y 0) ⟨(y 1).val % 1024, Nat.mod_lt _ (by decide)⟩ := by
    funext a
    apply Fin.ext
    match a with
    | ⟨0, _⟩ => show (x 0).val = (y 0).val; omega
    | ⟨1, _⟩ => show (x 1).val = (y 1).val % 1024; omega
  unfold dp
  rw [hd, hk]
  exact congrArg w hj

/-- The eight stores, last first. -/
def stores : List (View.Piece (Elt F) S256x8192 .bf16) :=
  [⟨Rect.unit ![0, 7168] ![256, 1024] inb_S256x8192_S256x1024_0_7168, k0_pay10 x7⟩,
    ⟨Rect.unit ![0, 6144] ![256, 1024] inb_S256x8192_S256x1024_0_6144, k0_pay9 x6⟩,
    ⟨Rect.unit ![0, 5120] ![256, 1024] inb_S256x8192_S256x1024_0_5120, k0_pay8 x5⟩,
    ⟨Rect.unit ![0, 4096] ![256, 1024] inb_S256x8192_S256x1024_0_4096, k0_pay7 x4⟩,
    ⟨Rect.unit ![0, 3072] ![256, 1024] inb_S256x8192_S256x1024_0_3072, k0_pay6 x3⟩,
    ⟨Rect.unit ![0, 2048] ![256, 1024] inb_S256x8192_S256x1024_0_2048, k0_pay5 x2⟩,
    ⟨Rect.unit ![0, 1024] ![256, 1024] inb_S256x8192_S256x1024_0_1024, k0_pay4 x1⟩,
    ⟨Rect.unit ![0, 0] ![256, 1024] inb_S256x8192_S256x1024_0_0, k0_pay3 x0⟩]

/-- The buffer read after the eight stores. -/
theorem read_stores : a15.view.readCov (stores x0 x1 x2 x3 x4 x5 x6 x7) (Rect.unit ![0, 0] ![256, 8192] inb_S256x8192_S256x8192_0_0).toLoadRect = dp x0 x1 x2 x3 x4 x5 x6 x7 := by
  rw [View.readCov_eq_canon']
  funext j
  refine (View.canon_apply_of_pieces (dp x0 x1 x2 x3 x4 x5 x6 x7) _ ?_ _
    (View.cover_of_tiledL (stores x0 x1 x2 x3 x4 x5 x6 x7) ![256, 1024] (by sl_kernel_rfl) _)).trans ?_
  · intro p hp
    simp only [stores, k0_pay3, k0_pay4, k0_pay5, k0_pay6, k0_pay7, k0_pay8, k0_pay9, k0_pay10, shapeCast_self, List.mem_cons, List.not_mem_nil, or_false] at hp
    rcases hp with rfl | rfl | rfl | rfl | rfl | rfl | rfl | rfl <;> intro x
    · refine dp_at x0 x1 x2 x3 x4 x5 x6 x7 7 x7 rfl x _ ?_ ?_ <;> rfl
    · refine dp_at x0 x1 x2 x3 x4 x5 x6 x7 6 x6 rfl x _ ?_ ?_ <;> rfl
    · refine dp_at x0 x1 x2 x3 x4 x5 x6 x7 5 x5 rfl x _ ?_ ?_ <;> rfl
    · refine dp_at x0 x1 x2 x3 x4 x5 x6 x7 4 x4 rfl x _ ?_ ?_ <;> rfl
    · refine dp_at x0 x1 x2 x3 x4 x5 x6 x7 3 x3 rfl x _ ?_ ?_ <;> rfl
    · refine dp_at x0 x1 x2 x3 x4 x5 x6 x7 2 x2 rfl x _ ?_ ?_ <;> rfl
    · refine dp_at x0 x1 x2 x3 x4 x5 x6 x7 1 x1 rfl x _ ?_ ?_ <;> rfl
    · refine dp_at x0 x1 x2 x3 x4 x5 x6 x7 0 x0 rfl x _ ?_ ?_ <;> rfl
  · refine congrArg (dp x0 x1 x2 x3 x4 x5 x6 x7) (funext fun a => Fin.ext ?_)
    match a with
    | ⟨0, _⟩ => show 0 + 1 * (j 0).val = (j 0).val; omega
    | ⟨1, _⟩ => show 0 + 1 * (j 1).val = (j 1).val; omega

/-- What a point leaves of the gradient of its rows (the first point). -/
theorem rows_A (hc0 : cond0_0 i) :
    out0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11
      = k0_pay1 (k0_pay11 (dp x0 x1 x2 x3 x4 x5 x6 x7) x8) (k0_pay12 x9) (k0_pay13 x9) x11 x10 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h12.read_unread,
    View.ld_unit_zero (S := S256x1024) hz, View.ld_unit_zero (S := S1024x8192) hz, View.ld_unit_zero (S := S1x1024) hz, shapeCast_self]
  exact congrArg (fun d => k0_pay1 (k0_pay11 d x8) (k0_pay12 x9) (k0_pay13 x9) x11 x10) (read_stores a15 x0 x1 x2 x3 x4 x5 x6 x7)

/-- What a point leaves of the gain's gradient (the first point). -/
theorem gain_A (hc0 : cond0_0 i) :
    out0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11
      = k0_pay14 (dp x0 x1 x2 x3 x4 x5 x6 x7) x8 x9 k0_pay2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11)]
  unfold kernelRun0_A
  dsimp only
  sl_unfold_words
  rw [View.canon_cons_unit_zero hz, View.readCov_unit_zero (S := S8x1024) _ hz]
  simp only [View.readAt_eq_ld, h1.read_unread, h2.read_unread, h3.read_unread, h4.read_unread, h5.read_unread, h6.read_unread, h7.read_unread, h8.read_unread,
    h9.read_unread, h10.read_unread, h11.read_unread, h12.read_unread,
    View.ld_unit_zero (S := S256x1024) hz, View.ld_unit_zero (S := S1024x8192) hz, View.ld_unit_zero (S := S1x1024) hz, shapeCast_self]
  exact congrArg (fun d => k0_pay14 d x8 x9 k0_pay2) (read_stores a15 x0 x1 x2 x3 x4 x5 x6 x7)

/-- What a point leaves of the gradient of its rows (a later point). -/
theorem rows_B (hc0 : ¬cond0_0 i) :
    out0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11 xs
      = k0_pay1 (k0_pay11 (dp x0 x1 x2 x3 x4 x5 x6 x7) x8) (k0_pay12 x9) (k0_pay13 x9) x11 x10 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h12.read_unread,
    View.ld_unit_zero (S := S256x1024) hz, View.ld_unit_zero (S := S1024x8192) hz, View.ld_unit_zero (S := S1x1024) hz, shapeCast_self]
  exact congrArg (fun d => k0_pay1 (k0_pay11 d x8) (k0_pay12 x9) (k0_pay13 x9) x11 x10) (read_stores a15 x0 x1 x2 x3 x4 x5 x6 x7)

/-- What a point leaves of the gain's gradient (a later point). -/
theorem gain_B (hc0 : ¬cond0_0 i) :
    out0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11 xs
      = k0_pay14 (dp x0 x1 x2 x3 x4 x5 x6 x7) x8 x9 xs := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 x9 x10 x11 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h12.read_unread, h14.read_unread,
    View.ld_unit_zero (S := S256x1024) hz, View.ld_unit_zero (S := S1024x8192) hz, View.ld_unit_zero (S := S1x1024) hz, View.ld_unit_zero (S := S8x1024) hz, shapeCast_self]
  exact congrArg (fun d => k0_pay14 d x8 x9 xs) (read_stores a15 x0 x1 x2 x3 x4 x5 x6 x7)

end

open Cert.InputMath (root short meanSq)

/-- An element of the cotangent of the normalised and scaled row: a sum over the projection's columns. -/
theorem pay11_at (d : Vec Ideal S256x8192 .bf16) (w : Vec Ideal S1024x8192 .bf16) (r : Fin 256) (j : Fin 1024) :
    k0_pay11 (F := Ideal) d w (ix2 r j) = ∑ k : Fin 8192, (d (ix2 r k) : EReal) * (w (ix2 j k) : EReal) := by
  pointwise [k0_pay11]

/-- A row's reciprocal root mean square. -/
theorem pay12_at (x : Vec Ideal S256x1024 .f32) (r : Fin 256) (o : Fin 1) :
    k0_pay12 (F := Ideal) x (ix2 r o) = root fun k => x (ix2 r k) := by
  unfold root meanSq
  pointwise [k0_pay12]

/-- An element of the normalised row. -/
theorem pay13_at (x : Vec Ideal S256x1024 .f32) (r : Fin 256) (j : Fin 1024) :
    k0_pay13 (F := Ideal) x (ix2 r j) = (x (ix2 r j) : EReal) * root fun k => x (ix2 r k) := by
  rw [← pay12_at x r 0]
  pointwise [k0_pay13]

/-- An element of the gradient. -/
theorem pay1_at (h x d : Vec Ideal S256x1024 .f32) (g : Vec Ideal S1x1024 .f32) (r : Fin 256) (j : Fin 1024) :
    k0_pay1 (F := Ideal) h (k0_pay12 x) (k0_pay13 x) g d (ix2 r j)
      = (d (ix2 r j) : EReal) + short (fun k => x (ix2 r k)) (fun k => (h (ix2 r k) : EReal) * (g (ix2 0 k) : EReal)) j := by
  have e : ∀ k : Fin 1024, (x (ix2 r k) : EReal) * k0_pay12 (F := Ideal) x (ix2 r 0) = k0_pay13 (F := Ideal) x (ix2 r k) := fun k => by
    rw [pay13_at x r k, pay12_at x r 0]
  unfold short
  simp only [← pay12_at x r 0, e]
  pointwise [k0_pay1]

/-- What a point adds to the gain's gradient. -/
theorem pay14_at (d : Vec Ideal S256x8192 .bf16) (w : Vec Ideal S1024x8192 .bf16) (x : Vec Ideal S256x1024 .f32) (a : Vec Ideal S8x1024 .f32) (q : Fin 8) (j : Fin 1024) :
    k0_pay14 (F := Ideal) d w x a (ix2 q j)
      = (a (ix2 q j) : EReal) + ∑ r : Fin 256, (∑ k : Fin 8192, (d (ix2 r k) : EReal) * (w (ix2 j k) : EReal)) * ((x (ix2 r j) : EReal) * root fun k => x (ix2 r k)) := by
  simp only [← pay11_at d w, ← pay13_at x]
  pointwise [k0_pay14]

/-- The gain's gradient starts at zero. -/
theorem pay2_at (q : Fin 8) (j : Fin 1024) : (k0_pay2 (F := Ideal) (ix2 q j) : EReal) = 0 := by
  pointwise [k0_pay2]

/-- The segments of all rows side by side. -/
def cat (s : Fin 8 → S8192x1024.Idx → EReal) (i : Fin 8192) (k : Fin 8192) : EReal :=
  s ⟨k.val / 1024, by omega⟩ (ix2 i ⟨k.val % 1024, Nat.mod_lt _ (by decide)⟩)

/-- The cotangent of the normalised and scaled rows. -/
def cot (s : Fin 8 → S8192x1024.Idx → EReal) (w : S1024x8192.Idx → EReal) (i : Fin 8192) (j : Fin 1024) : EReal :=
  ∑ k : Fin 8192, cat s i k * w (ix2 j k)

/-- The gradient of the rows. -/
def rowsResult (s : Fin 8 → S8192x1024.Idx → EReal) (w : S1024x8192.Idx → EReal) (x d : S8192x1024.Idx → EReal) (g : S1x1024.Idx → EReal) : S8192x1024.Idx → EReal :=
  fun y => d y + short (fun k => x (ix2 (y 0) k)) (fun k => cot s w (y 0) k * g (ix2 0 k)) (y 1)

/-- What a row contributes to the gain's gradient. -/
def gainRow (s : Fin 8 → S8192x1024.Idx → EReal) (w : S1024x8192.Idx → EReal) (x : S8192x1024.Idx → EReal) (j : Fin 1024) (i : Fin 8192) : EReal :=
  cot s w i j * (x (ix2 i j) * root fun k => x (ix2 i k))

/-- The gain's gradient, in each of its eight equal rows. -/
def gainResult (s : Fin 8 → S8192x1024.Idx → EReal) (w : S1024x8192.Idx → EReal) (x : S8192x1024.Idx → EReal) : S8x1024.Idx → EReal :=
  fun y => ∑ i : Fin 8192, gainRow s w x (y 1) i

variable (m : (ℓ : Loc nD τ sig) → Buf (Elt Ideal) ℓ)

/-- The segments a device holds. -/
def segs (c : Dev nD) : Fin 8 → S8192x1024.Idx → EReal :=
  ![m (c.tc.loc main_arg0), m (c.tc.loc main_arg1), m (c.tc.loc main_arg2), m (c.tc.loc main_arg3),
    m (c.tc.loc main_arg4), m (c.tc.loc main_arg5), m (c.tc.loc main_arg6), m (c.tc.loc main_arg7)]

/-- A point's row in the arrays: 256 rows a point. -/
def row (t : Fin cfg0.N) (r : Fin 256) : Fin 8192 := ⟨256 * t.val + r.val, by have h : t.val < 32 := lt_of_lt_of_eq t.isLt N_0; omega⟩

/-- The windows of 256 rows all move alike: 256 rows a point. -/
theorem rows_at (t : Fin cfg0.N) : ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (win0_9.index t 0 = t.val ∧ win0_9.index t 1 = 0) ∧ (win0_10.index t 0 = t.val ∧ win0_10.index t 1 = 0)
    ∧ (win0_12.index t 0 = t.val ∧ win0_12.index t 1 = 0) :=
  (by decide +kernel : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (win0_9.index t 0 = t.val ∧ win0_9.index t 1 = 0) ∧ (win0_10.index t 0 = t.val ∧ win0_10.index t 1 = 0)
    ∧ (win0_12.index t 0 = t.val ∧ win0_12.index t 1 = 0)) t

/-- The other windows stay. -/
theorem stay_at (t : Fin cfg0.N) : (win0_8.index t 0 = 0 ∧ win0_8.index t 1 = 0) ∧ (win0_11.index t 0 = 0 ∧ win0_11.index t 1 = 0) ∧ (win0_13.index t 0 = 0 ∧ win0_13.index t 1 = 0) :=
  (by decide +kernel : ∀ t : Fin cfg0.N, (win0_8.index t 0 = 0 ∧ win0_8.index t 1 = 0) ∧ (win0_11.index t 0 = 0 ∧ win0_11.index t 1 = 0) ∧ (win0_13.index t 0 = 0 ∧ win0_13.index t 1 = 0)) t

/-- The array index an offset and an element's index make. -/
theorem row_of {t : Fin cfg0.N} {y : S256x1024.Idx} {j : S8192x1024.Idx} {p q : ℕ} (h : p = t.val ∧ q = 0)
    (h0 : (j 0).val = p * 256 + 1 * (y 0).val) (h1 : (j 1).val = q * 1024 + 1 * (y 1).val) : j = ix2 (row t (y 0)) (y 1) := by
  funext a
  apply Fin.ext
  match a with
  | ⟨0, _⟩ => show (j 0).val = 256 * t.val + (y 0).val; rw [h0, h.1]; omega
  | ⟨1, _⟩ => show (j 1).val = (y 1).val; rw [h1, h.2]; omega

section
variable (c : Dev nD) (t : Fin cfg0.N)

/-- A point's blocks of the segments. -/
theorem segs_at (q : Fin 8) (y : S256x1024.Idx) :
    ((![(iblk m c 0 t : Vec Ideal S256x1024 .bf16), iblk m c 1 t, iblk m c 2 t, iblk m c 3 t, iblk m c 4 t, iblk m c 5 t, iblk m c 6 t, iblk m c 7 t]
      : Fin 8 → Vec Ideal S256x1024 .bf16) q y : EReal) = segs m c q (ix2 (row t (y 0)) (y 1)) := by
  obtain ⟨h0, h1, h2, h3, h4, h5, h6, h7⟩ := (rows_at t).1
  have e : ∀ {p k : ℕ} {j : S8192x1024.Idx} (a : S8192x1024.Idx → EReal), (p = t.val ∧ k = 0) → (j 0).val = p * 256 + 1 * (y 0).val →
      (j 1).val = k * 1024 + 1 * (y 1).val → a j = a (ix2 (row t (y 0)) (y 1)) := fun a h g0 g1 => congrArg a (row_of h g0 g1)
  match q with
  | ⟨0, _⟩ => exact e (m (c.tc.loc main_arg0)) h0 rfl rfl
  | ⟨1, _⟩ => exact e (m (c.tc.loc main_arg1)) h1 rfl rfl
  | ⟨2, _⟩ => exact e (m (c.tc.loc main_arg2)) h2 rfl rfl
  | ⟨3, _⟩ => exact e (m (c.tc.loc main_arg3)) h3 rfl rfl
  | ⟨4, _⟩ => exact e (m (c.tc.loc main_arg4)) h4 rfl rfl
  | ⟨5, _⟩ => exact e (m (c.tc.loc main_arg5)) h5 rfl rfl
  | ⟨6, _⟩ => exact e (m (c.tc.loc main_arg6)) h6 rfl rfl
  | ⟨7, _⟩ => exact e (m (c.tc.loc main_arg7)) h7 rfl rfl

/-- A point's block of the rows. -/
theorem blk9_at (y : S256x1024.Idx) : ((iblk m c 9 t : Vec Ideal S256x1024 .f32) y : EReal) = (m (c.tc.loc main_arg9) : S8192x1024.Idx → EReal) (ix2 (row t (y 0)) (y 1)) := by
  unfold iblk
  rw [View.read_apply]
  exact congrArg (m (c.tc.loc main_arg9)) (row_of (rows_at t).2.1 rfl rfl)

/-- A point's block of the residual's gradient. -/
theorem blk10_at (y : S256x1024.Idx) : ((iblk m c 10 t : Vec Ideal S256x1024 .f32) y : EReal) = (m (c.tc.loc main_arg10) : S8192x1024.Idx → EReal) (ix2 (row t (y 0)) (y 1)) := by
  unfold iblk
  rw [View.read_apply]
  exact congrArg (m (c.tc.loc main_arg10)) (row_of (rows_at t).2.2.1 rfl rfl)

/-- Every point sees the whole weight. -/
theorem blk8_at (y : S1024x8192.Idx) : ((iblk m c 8 t : Vec Ideal S1024x8192 .bf16) y : EReal) = (m (c.tc.loc main_arg8) : S1024x8192.Idx → EReal) y := by
  unfold iblk
  rw [View.read_apply]
  refine congrArg (m (c.tc.loc main_arg8)) (funext fun a => Fin.ext ?_)
  match a with
  | ⟨0, _⟩ => show win0_8.index t 0 * 1024 + 1 * (y 0).val = (y 0).val; rw [(stay_at t).1.1]; omega
  | ⟨1, _⟩ => show win0_8.index t 1 * 8192 + 1 * (y 1).val = (y 1).val; rw [(stay_at t).1.2]; omega

/-- Every point sees the whole gain. -/
theorem blk11_at (y : S1x1024.Idx) : ((iblk m c 11 t : Vec Ideal S1x1024 .f32) y : EReal) = (m (c.tc.loc main_arg11) : S1x1024.Idx → EReal) y := by
  unfold iblk
  rw [View.read_apply]
  refine congrArg (m (c.tc.loc main_arg11)) (funext fun a => Fin.ext ?_)
  match a with
  | ⟨0, _⟩ => show win0_11.index t 0 * 1 + 1 * (y 0).val = (y 0).val; rw [(stay_at t).2.1.1]; omega
  | ⟨1, _⟩ => show win0_11.index t 1 * 1024 + 1 * (y 1).val = (y 1).val; rw [(stay_at t).2.1.2]; omega

/-- A point's segments side by side are its rows of all the rows' segments side by side. -/
theorem cat_at (r : Fin 256) (k : Fin 8192) :
    (dp (F := Ideal) (iblk m c 0 t) (iblk m c 1 t) (iblk m c 2 t) (iblk m c 3 t) (iblk m c 4 t) (iblk m c 5 t) (iblk m c 6 t) (iblk m c 7 t) (ix2 r k) : EReal)
      = cat (segs m c) (row t r) k :=
  segs_at m c t ⟨k.val / 1024, by omega⟩ (ix2 r ⟨k.val % 1024, Nat.mod_lt _ (by decide)⟩)

/-- A point's cotangent is its rows of the cotangent. -/
theorem cot_at (r : Fin 256) (j : Fin 1024) :
    (∑ k : Fin 8192, (dp (F := Ideal) (iblk m c 0 t) (iblk m c 1 t) (iblk m c 2 t) (iblk m c 3 t) (iblk m c 4 t) (iblk m c 5 t) (iblk m c 6 t) (iblk m c 7 t) (ix2 r k) : EReal)
      * ((iblk m c 8 t : Vec Ideal S1024x8192 .bf16) (ix2 j k) : EReal)) = cot (segs m c) (m (c.tc.loc main_arg8)) (row t r) j :=
  Finset.sum_congr rfl fun k _ => congrArg₂ (fun a b : EReal => a * b) (cat_at m c t r k) (blk8_at m c t (ix2 j k))

/-- What a point leaves of the gradient of its rows. -/
theorem rows_pt : (outsAt0 m c t.val t.isLt).1
    = k0_pay1 (k0_pay11 (dp (iblk m c 0 t) (iblk m c 1 t) (iblk m c 2 t) (iblk m c 3 t) (iblk m c 4 t) (iblk m c 5 t) (iblk m c 6 t) (iblk m c 7 t)) (iblk m c 8 t))
      (k0_pay12 (iblk m c 9 t)) (k0_pay13 (iblk m c 9 t)) (iblk m c 11 t) (iblk m c 10 t) := by
  by_cases h0 : t.val % 32 = 0
  · rw [outsAt0_A m c t h0]
    dsimp only
    rw [rows_A]
  · rw [outsAt0_B m c t h0]
    dsimp only
    rw [rows_B]

/-- … at an element. -/
theorem rows_pt_at (y : S256x1024.Idx) : ((outsAt0 m c t.val t.isLt).1 y : EReal)
    = rowsResult (segs m c) (m (c.tc.loc main_arg8)) (m (c.tc.loc main_arg9)) (m (c.tc.loc main_arg10)) (m (c.tc.loc main_arg11)) (ix2 (row t (y 0)) (y 1)) := by
  rw [rows_pt, eq_ix2 y]
  refine (pay1_at _ _ _ _ _ _).trans ?_
  unfold rowsResult
  refine congrArg₂ (fun a b : EReal => a + b) (blk10_at m c t _) ?_
  have hx : (fun k => (iblk m c 9 t : Vec Ideal S256x1024 .f32) (ix2 (y 0) k) : Fin 1024 → EReal) = fun k => (m (c.tc.loc main_arg9) : S8192x1024.Idx → EReal) (ix2 (row t (y 0)) k) :=
    funext fun k => blk9_at m c t (ix2 (y 0) k)
  refine (congrArg (fun f => short f _ _) hx).trans (congrArg (fun f => short _ f _) (funext fun k => ?_))
  exact congrArg₂ (fun a b : EReal => a * b) ((pay11_at _ _ _ _).trans (cot_at m c t (y 0) k)) (blk11_at m c t (ix2 0 k))
end

/-- The rows' array after the run. -/
theorem rows_eq (c : Dev nD) : (dats m 0 c).arrAt 12 cfg0.N
    = rowsResult (segs m c) (m (c.tc.loc main_arg8)) (m (c.tc.loc main_arg9)) (m (c.tc.loc main_arg10)) (m (c.tc.loc main_arg11)) := by
  refine (dats m 0 c).arrAt_eq_of_covers 12 _ (by decide +kernel : win0_12.Covers) fun t _ y => ?_
  rw [after0_12]
  exact (rows_pt_at m c t y).trans (congrArg _ (row_of (rows_at t).2.2.2 rfl rfl).symm)

/-- What each row contributes to an element of the gain's gradient. -/
abbrev term (c : Dev nD) (j : Fin 1024) : ℕ → EReal := RowSums.term (gainRow (segs m c) (m (c.tc.loc main_arg8)) (m (c.tc.loc main_arg9)) j)

/-- What a point adds to the gain's gradient: its 256 rows. -/
theorem part_at (c : Dev nD) (t : Fin cfg0.N) (a : Vec Ideal S8x1024 .f32) (q : Fin 8) (j : Fin 1024) :
    (k0_pay14 (dp (iblk m c 0 t) (iblk m c 1 t) (iblk m c 2 t) (iblk m c 3 t) (iblk m c 4 t) (iblk m c 5 t) (iblk m c 6 t) (iblk m c 7 t)) (iblk m c 8 t) (iblk m c 9 t) a (ix2 q j) : EReal)
      = (a (ix2 q j) : EReal) + ∑ r ∈ Finset.range 256, term m c j (256 * t.val + r) := by
  refine (pay14_at _ _ _ _ _ _).trans (congrArg₂ (fun a b : EReal => a + b) rfl ?_)
  rw [Finset.sum_range]
  refine Finset.sum_congr rfl fun r _ => ?_
  refine Eq.trans ?_ (RowSums.term_of_lt _ _ (row t r).isLt).symm
  unfold gainRow
  refine congrArg₂ (fun a b : EReal => a * b) (cot_at m c t r j) (congrArg₂ (fun a b : EReal => a * b) (blk9_at m c t (ix2 r j)) (congrArg root (funext fun k => ?_)))
  exact blk9_at m c t (ix2 r k)

/-- The gain's gradient after a point: the sums over the rows so far. -/
theorem gain_at (c : Dev nD) (q : Fin 8) (j : Fin 1024) : ∀ (n : ℕ) (h : n < cfg0.N),
    ((outsAt0 m c n h).2 : S8x1024.Idx → EReal) (ix2 q j) = ∑ k ∈ Finset.range (256 * (n + 1)), term m c j k
  | 0, h => by
    rw [outsAt0_A m c ⟨0, h⟩ (Nat.zero_mod _)]
    dsimp only
    rw [gain_A]
    refine (part_at m c ⟨0, h⟩ _ q j).trans ?_
    refine (congrArg₂ (fun a b : EReal => a + b) (pay2_at q j) rfl).trans ?_
    simp
  | n + 1, h => by
    have hn : n + 1 < 32 := lt_of_lt_of_eq h N_0
    rw [outsAt0_B m c ⟨n + 1, h⟩ (by show ¬ (n + 1) % 32 = 0; omega)]
    dsimp only
    rw [gain_B]
    refine (part_at m c ⟨n + 1, h⟩ _ q j).trans ?_
    refine (congrArg₂ (fun a b : EReal => a + b) (gain_at c q j n (Nat.lt_of_succ_lt h)) rfl).trans ?_
    show _ + ∑ r ∈ Finset.range 256, term m c j (256 * (n + 1) + r) = _
    rw [Nat.mul_succ 256 (n + 1), Finset.sum_range_add]

/-- The gain's array after the run. -/
theorem gain_eq (c : Dev nD) : (dats m 0 c).arrAt 13 cfg0.N = gainResult (segs m c) (m (c.tc.loc main_arg8)) (m (c.tc.loc main_arg9)) := by
  refine (dats m 0 c).arrAt_eq_of_covers 13 _ (by decide +kernel : win0_13.Covers) fun t hf y => ?_
  have ht : t.val = 31 := by
    have h := (flush0_13 t).mp hf
    have hN : t.val < 32 := lt_of_lt_of_eq t.isLt N_0
    omega
  rw [after0_13]
  refine (congrArg (outsAt0 m c t.val t.isLt).2 (eq_ix2 (y : S8x1024.Idx))).trans ?_
  refine (gain_at m c _ _ t.val t.isLt).trans ?_
  rw [ht, show 256 * (31 + 1) = 8192 from rfl, Finset.sum_range]
  unfold gainResult
  refine (Finset.sum_congr rfl fun k _ => RowSums.term_of_lt _ k.val k.isLt).trans ?_
  refine Finset.sum_congr rfl fun k _ => congrArg (fun j => gainRow _ _ _ j k) (Fin.ext ?_)
  show (y 1).val = win0_13.index t 1 * 1024 + 1 * (y 1).val
  rw [(stay_at t).2.2.2]
  omega

end Cert.Kernel8Ideal.Gen
end
-- ==== Proof.InputAlgebraic.lean ====
module

public import proofs.«01_k».proof.Defs
public import proofs.«01_k».proof.Proof.InputGradient
public import proofs.«01_k».proof.Proof.Gen.Reference8Ideal.Run
public import proofs.«01_k».proof.Proof.Gen.Reference8Ideal.Read
public import Idealize.ShloMosaic.Lib.Quiescent

@[expose] public section

/-!
# The gradient of the input projection's rows and of the norm's gain: the reference

The reference is the transpose of the norm and the projection. It differentiates the root, which
is the kernel's projection of the normalised row out of its cotangent; the sums over the columns and the rows are
the kernel's.
-/

set_option maxRecDepth 16384

noncomputable section

namespace Cert.Reference8Ideal.Gen

open Idealize.ShloMosaic Idealize.ShloMosaic.TcCoe Idealize.ShloMosaic.Tactic Idealize.SL.Sem Cert.Reference8Ideal Cert.Reference8Ideal.Read
open Cert.InputMath (root short long part meanSq short_eq_long)
open Cert.Kernel8Ideal.Gen (cat cot rowsResult gainRow gainResult)

/-- The reference's frame. -/
theorem frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2.2, sem_eq_zero_of_no_sems (by decide) r.2⟩) (Value.run m g)

section
variable (x0 x1 x2 x3 x4 x5 x6 x7 : (⟨S8192x1024, .bf16⟩ : BufTy).Contents (Elt Ideal)) (x8 : (⟨S1024x8192, .bf16⟩ : BufTy).Contents (Elt Ideal))
  (x9 x10 : (⟨S8192x1024, .f32⟩ : BufTy).Contents (Elt Ideal)) (x11 : (⟨S1x1024, .f32⟩ : BufTy).Contents (Elt Ideal))

/-- The segments. -/
abbrev segs : Fin 8 → S8192x1024.Idx → EReal := ![x0, x1, x2, x3, x4, x5, x6, x7]

/-- A sum that starts from the word of zero is the sum. -/
theorem zero_start (a : EReal) : (Ideal.ofBits .f32 0x00000000#32 : EReal) + a = a := by rw [Ideal.ofBits_zero_f32, zero_add]

/-- The concatenated segments at an index. -/
theorem cat_at (y : S8192x8192.Idx) : (val_main_v1 (F := Ideal) x0 x1 x2 x3 x4 x5 x6 x7 y : EReal) = cat (segs x0 x1 x2 x3 x4 x5 x6 x7) (y 0) (y 1) := by
  rw [val_main_v1_apply]
  have h1 : (y 1).val < 8192 := (y 1).isLt
  exact concatenate_ofFn_apply (t := S8192x8192) (s₁ := S8192x1024) 1 (segs x0 x1 x2 x3 x4 x5 x6 x7) concatenates_S8192x1024_S8192x1024_S8192x1024_S8192x1024_S8192x1024_S8192x1024_S8192x1024_S8192x1024_S8192x8192_d1
    rfl 1024 rfl y ⟨(y 1).val / 1024, by omega⟩ rfl (ix2 (y 0) ⟨(y 1).val % 1024, Nat.mod_lt _ (by decide)⟩) rfl
    (fun b hb => match b, hb with
      | ⟨0, _⟩, _ => rfl
      | ⟨1, _⟩, hb => absurd rfl hb)

/-- The cotangent of the normalised and scaled rows. -/
theorem cot_at (y : S8192x1024.Idx) : (val_main_v19 (F := Ideal) x0 x1 x2 x3 x4 x5 x6 x7 x8 y : EReal) = cot (segs x0 x1 x2 x3 x4 x5 x6 x7) x8 (y 0) (y 1) := by
  rw [val_main_v19_apply]
  unfold cot
  refine Finset.sum_congr rfl fun k _ => congrArg₂ (fun a b : EReal => a * b) (cat_at x0 x1 x2 x3 x4 x5 x6 x7 _) ?_
  rw [val_main_v17_apply]
  refine congrArg x8 (funext fun a => ?_)
  match a with
  | ⟨0, _⟩ => rfl
  | ⟨1, _⟩ => rfl

/-- A row's mean square with the epsilon added. -/
theorem mean_at (i : S8192x1.Idx) : (val_main_v8 (F := Ideal) x9 i : EReal) = meanSq fun k => x9 (ix2 (i 0) k) := by
  rw [val_main_v8_apply, val_main_v6_apply, val_main_v4_apply, val_main_v3_apply, val_main_v5_apply, val_main_v7_apply, val_main_cst_0_apply, val_main_cst_1_apply]
  unfold meanSq
  refine congrArg₂ (fun a b : EReal => a + b) (congrArg (fun a => Ideal.div a _) ((zero_start _).trans (Finset.sum_congr rfl fun k _ => ?_))) rfl
  rw [val_main_v2_apply]
  have e : idx_main_v3 (idx_main_v4 i) k = ix2 (i 0) k := funext fun a => by match a with | ⟨0, _⟩ => rfl | ⟨1, _⟩ => rfl
  rw [e]
  rfl

/-- A row's reciprocal root mean square. -/
theorem root_at (i : S8192x1.Idx) : (val_main_v9 (F := Ideal) x9 i : EReal) = root fun k => x9 (ix2 (i 0) k) := by
  rw [val_main_v9_apply]
  exact congrArg Ideal.rsqrt (mean_at x9 i)

/-- An element of the normalised row. -/
theorem unit_at (y : S8192x1024.Idx) : (val_main_v14 (F := Ideal) x9 y : EReal) = (x9 y : EReal) * root fun k => x9 (ix2 (y 0) k) := by
  rw [val_main_v14_apply, val_main_v13_apply]
  exact congrArg (fun a : EReal => (x9 y : EReal) * a) (root_at x9 (idx_main_v13 y))

/-- The cotangent of the normalised row. -/
theorem scaled_at (y : S8192x1024.Idx) : (val_main_v24 (F := Ideal) x0 x1 x2 x3 x4 x5 x6 x7 x8 x11 y : EReal)
    = cot (segs x0 x1 x2 x3 x4 x5 x6 x7) x8 (y 0) (y 1) * x11 (ix2 0 (y 1)) := by
  rw [val_main_v24_apply, val_main_v23_apply]
  refine congrArg₂ (fun a b : EReal => a * b) (cot_at x0 x1 x2 x3 x4 x5 x6 x7 x8 y) (congrArg x11 (funext fun a => ?_))
  match a with
  | ⟨0, _⟩ => rfl
  | ⟨1, _⟩ => rfl

/-- What the root's derivative contributes. -/
theorem part_at (y : S8192x1024.Idx) : (val_main_v34 (F := Ideal) x0 x1 x2 x3 x4 x5 x6 x7 x8 x9 x11 y : EReal)
    = part (fun k => x9 (ix2 (y 0) k)) (fun k => cot (segs x0 x1 x2 x3 x4 x5 x6 x7) x8 (y 0) k * x11 (ix2 0 k)) := by
  rw [val_main_v34_apply, val_main_v33_apply]
  refine (zero_start _).trans ((Fin.sum_univ_one (M := EReal) _).trans ?_)
  rw [val_main_v32_apply, val_main_v30_apply, val_main_v27_apply, val_main_v26_apply, val_main_v12_apply, val_main_v11_apply, val_main_v10_apply, val_main_v31_apply,
    val_main_cst_2_apply, val_main_cst_5_apply]
  unfold part
  refine congrArg (fun a => Ideal.div a _) (congrArg₂ (fun a b : EReal => a * b) ((zero_start _).trans (Finset.sum_congr rfl fun k _ => ?_))
    (congrArg (fun a : EReal => _ * a) (congrArg₂ Ideal.div (root_at x9 _) (mean_at x9 _))))
  rw [val_main_v25_apply]
  have e : idx_main_v26 (idx_main_v27 (idx_main_v33 (idx_main_v34 y) 0)) k = ix2 (y 0) k := funext fun a => by
    match a with
    | ⟨0, _⟩ => exact Fin.ext (show (y 0).val * 1 + 0 = (y 0).val by omega)
    | ⟨1, _⟩ => rfl
  rw [e]
  exact congrArg (fun b : EReal => (x9 (ix2 (y 0) k) : EReal) * b) (scaled_at x0 x1 x2 x3 x4 x5 x6 x7 x8 x11 (ix2 (y 0) k))

/-- An element of the rows' gradient. -/
theorem rows_at (y : S8192x1024.Idx) : (val_main_v39 (F := Ideal) x0 x1 x2 x3 x4 x5 x6 x7 x8 x9 x10 x11 y : EReal)
    = (x10 y : EReal) + long (fun k => x9 (ix2 (y 0) k)) (fun k => cot (segs x0 x1 x2 x3 x4 x5 x6 x7) x8 (y 0) k * x11 (ix2 0 k)) (y 1) := by
  rw [val_main_v39_apply, val_main_v38_apply, val_main_v36_apply, val_main_v29_apply, val_main_v28_apply, val_main_v35_apply, val_main_v37_apply]
  unfold long
  have p := part_at x0 x1 x2 x3 x4 x5 x6 x7 x8 x9 x11 y
  have q : (x9 y : EReal) = x9 (ix2 (y 0) (y 1)) := congrArg x9 (eq_ix2 y)
  refine congrArg (fun a : EReal => (x10 y : EReal) + a) ?_
  exact congrArg₂ (fun a b : EReal => a + b) (congrArg₂ (fun a b : EReal => a + b)
    (congrArg₂ (fun a b : EReal => a * b) (scaled_at x0 x1 x2 x3 x4 x5 x6 x7 x8 x11 y) (root_at x9 _)) (congrArg₂ (fun a b : EReal => a * b) q p))
    (congrArg₂ (fun a b : EReal => a * b) p q)

/-- The gain's gradient. -/
theorem gain_eq : val_main_v40 (F := Ideal) x0 x1 x2 x3 x4 x5 x6 x7 x8 x9 = gainResult (segs x0 x1 x2 x3 x4 x5 x6 x7) x8 x9 := by
  funext y
  rw [val_main_v40_apply, val_main_v22_apply, val_main_v21_apply]
  refine (zero_start _).trans (Finset.sum_congr rfl fun k _ => ?_)
  rw [val_main_v20_apply]
  have e : idx_main_v21 (idx_main_v22 (idx_main_v40 y)) k = ix2 k (y 1) := funext fun a => by
    match a with
    | ⟨0, _⟩ => rfl
    | ⟨1, _⟩ => exact Fin.ext (show 0 * 1024 + (y 1).val = (y 1).val by omega)
  rw [e]
  refine (mul_comm (G := EReal) _ _).trans ?_
  exact congrArg₂ (fun a b : EReal => a * b) (cot_at x0 x1 x2 x3 x4 x5 x6 x7 x8 _) (unit_at x9 _)

/-- The rows' gradient. -/
theorem rows_eq : val_main_v39 (F := Ideal) x0 x1 x2 x3 x4 x5 x6 x7 x8 x9 x10 x11 = rowsResult (segs x0 x1 x2 x3 x4 x5 x6 x7) x8 x9 x10 x11 := by
  funext y
  refine (rows_at x0 x1 x2 x3 x4 x5 x6 x7 x8 x9 x10 x11 y).trans ?_
  unfold rowsResult
  exact congrArg (fun a : EReal => (x10 y : EReal) + a) (short_eq_long _ _ _).symm
end

end Cert.Reference8Ideal.Gen

namespace Cert.Proof

open Idealize.ShloMosaic Idealize.ShloMosaic.TcCoe Idealize.SL.Sem

/-- The two programs' results agree. -/
theorem algebraic8 : Cert.algebraic_Kernel8Ideal_Reference8Ideal := by
  intro m g m' g' _ hm
  refine ⟨_, _, Cert.Kernel8Ideal.Value.run_blocks m g, ?_⟩
  refine (θ_run Cert.Reference8Ideal.defs _ _).mono (fun r h c => ⟨(h c).1.trans ?_, (h c).2.1.trans ?_, (h c).2.2⟩) (Cert.Reference8Ideal.Value.run m' g')
  all_goals obtain ⟨e0, e1, e2, e3, e4, e5, e6, e7, e8, e9, e10, e11⟩ := hm c
  · rw [Cert.Reference8Ideal.Read.val_main_v39_eq, e0, e1, e2, e3, e4, e5, e6, e7, e8, e9, e10, e11]
    exact (Cert.Reference8Ideal.Gen.rows_eq _ _ _ _ _ _ _ _ _ _ _ _).trans (Cert.Kernel8Ideal.Gen.rows_eq m c).symm
  · rw [e0, e1, e2, e3, e4, e5, e6, e7, e8, e9]
    exact (Cert.Reference8Ideal.Read.val_main_v40_eq _ _ _ _ _ _ _ _ _ _).trans ((Cert.Reference8Ideal.Gen.gain_eq _ _ _ _ _ _ _ _ _ _).trans (Cert.Kernel8Ideal.Gen.gain_eq m c).symm)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite
public import proofs.«01_k».proof.Proof.KernelFrame
public import proofs.«01_k».proof.Proof.ReferenceFrame
public import proofs.«01_k».proof.Proof.Algebraic
public import proofs.«01_k».proof.Proof.WeightAlgebraic
public import proofs.«01_k».proof.Proof.SentAlgebraic
public import proofs.«01_k».proof.Proof.ProjStep
public import proofs.«01_k».proof.Proof.InStep
public import proofs.«01_k».proof.Proof.NormStep
public import proofs.«01_k».proof.Proof.MiscStep
public import proofs.«01_k».proof.Proof.InputAlgebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  fun m g _ => Cert.Kernel2.Gen.frame m g,
  fun m g _ => Cert.Kernel2Ideal.Gen.frame m g,
  fun m g _ => Cert.Reference2Ideal.Gen.frame m g,
  fun m g _ => Cert.Kernel3.Gen.frame m g,
  fun m g _ => Cert.Kernel3Ideal.Gen.frame m g,
  fun m g _ => Cert.Reference3Ideal.Gen.frame m g,
  fun m g _ => Cert.Kernel4.Gen.frame m g,
  fun m g _ => Cert.Kernel4Ideal.Gen.frame m g,
  fun m g _ => Cert.Reference4Ideal.Gen.frame m g,
  fun m g _ => Cert.Kernel5.Gen.frame m g,
  fun m g _ => Cert.Kernel5Ideal.Gen.frame m g,
  fun m g _ => Cert.Reference5Ideal.Gen.frame m g,
  fun m g _ => Cert.Kernel6.Gen.frame m g,
  fun m g _ => Cert.Kernel6Ideal.Gen.frame m g,
  fun m g _ => Cert.Reference6Ideal.Gen.frame m g,
  fun m g _ => Cert.Kernel7.Gen.frame m g,
  fun m g _ => Cert.Kernel7Ideal.Gen.frame m g,
  fun m g _ => Cert.Reference7Ideal.Gen.frame m g,
  fun m g _ => Cert.Kernel8.Gen.frame m g,
  fun m g _ => Cert.Kernel8Ideal.Gen.frame m g,
  fun m g _ => Cert.Reference8Ideal.Gen.frame m g,
  IdealRules.named_const.statement Cert.KernelIdeal.κ "ln2" .f32 0x3F317218#32 ((Real.log 2 : ℝ) : EReal) rfl,
  algebraic,
  trivial, algebraic2, trivial, algebraic3,
  trivial, algebraic4, trivial, algebraic5, trivial, algebraic6, trivial, algebraic7, trivial, algebraic8⟩

end Cert.Proof

end
